-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_tables : Cert.Pre_tables.Facts] (m : (ℓ : Loc Cert.Kernel3.nD Cert.Kernel3.τ Cert.Kernel3.sig) → Buf (Elt Bits) ℓ) : Prop :=
  ∀ c : Dev Cert.Kernel3.nD,
    (Cert.Pre_tables.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))) = (fun _ => 1#1)

def Pre_Kernel3Ideal [hPre_tables : Cert.Pre_tables.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables [hPre_tables : Cert.Pre_tables.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_steady [hPre_steady : Cert.Pre_steady.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_steady.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_steady [hPre_steady : Cert.Pre_steady.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_steady.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] [hPre_tables : Cert.Pre_tables.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_tables : Cert.Pre_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_tables [hReference3Ideal : Cert.Reference3Ideal.Facts] [hPre_tables : Cert.Pre_tables.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ r.2.sem = fun _ => 0)

def quiescent_Kernel4Ideal_pre_steady [hKernel4Ideal : Cert.Kernel4Ideal.Facts] [hPre_steady : Cert.Pre_steady.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_steady m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15))
      ∧ r.2.sem = fun _ => 0)

def quiescent_Reference4Ideal_pre_steady [hReference4Ideal : Cert.Reference4Ideal.Facts] [hPre_steady : Cert.Pre_steady.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_steady m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] [hPre_tables : Cert.Pre_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_steady [hKernel4Ideal : Cert.Kernel4Ideal.Facts] [hReference4Ideal : Cert.Reference4Ideal.Facts] [hPre_steady : Cert.Pre_steady.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_steady m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)) →
    ∃ (v0 : (c : Dev Cert.Kernel4Ideal.nD) → Buf (Elt Ideal) ((c.tc : Thread Cert.Kernel4Ideal.nD Cert.Kernel4Ideal.τ).loc Cert.Kernel4Ideal.main_v24)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v66) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15))

def preserves_Kernel5_Kernel5Ideal : Prop :=
  IdealRules.named_const.Statement Cert.Kernel5Ideal.κ "part" .f32 0x3C2AAAAB#32 ((96⁻¹ : ℝ) : EReal)
  ∧ IdealRules.named_const.Statement Cert.Kernel5Ideal.κ "scale" .f32 0x3E16C740#32 (((Real.sqrt 96)⁻¹ * (Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v46_0)) (v1 : (c : Dev Cert.Kernel5Ideal.nD) → Buf (Elt Ideal) ((c.tc : Thread Cert.Kernel5Ideal.nD Cert.Kernel5Ideal.τ).loc Cert.Kernel5Ideal.main_v46_1)) (v2 : (c : Dev Cert.Kernel5Ideal.nD) → Buf (Elt Ideal) ((c.tc : Thread Cert.Kernel5Ideal.nD Cert.Kernel5Ideal.τ).loc Cert.Kernel5Ideal.main_v46_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v46_0) = v0 c
          ∧ r.2.mem ((c.tc : Thread Cert.Kernel5Ideal.nD Cert.Kernel5Ideal.τ).loc Cert.Kernel5Ideal.main_v46_1) = v1 c
          ∧ r.2.mem ((c.tc : Thread Cert.Kernel5Ideal.nD Cert.Kernel5Ideal.τ).loc Cert.Kernel5Ideal.main_v46_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v177) = v0 c
          ∧ r.2.mem ((c.tc : Thread Cert.Reference5Ideal.nD Cert.Reference5Ideal.τ).loc Cert.Reference5Ideal.main_v179) = v1 c
          ∧ r.2.mem ((c.tc : Thread Cert.Reference5Ideal.nD Cert.Reference5Ideal.τ).loc Cert.Reference5Ideal.main_v181) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_tables : Cert.Pre_tables.Facts) (hPre_steady : Cert.Pre_steady.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_tables := hPre_tables)
    ∧ quiescent_Kernel3Ideal (hKernel3Ideal := hKernel3Ideal) (hPre_tables := hPre_tables)
    ∧ quiescent_Reference3Ideal (hReference3Ideal := hReference3Ideal)
    ∧ quiescent_Reference3Ideal_pre_tables (hReference3Ideal := hReference3Ideal) (hPre_tables := hPre_tables)
    ∧ quiescent_Kernel4 (hKernel4 := hKernel4)
    ∧ quiescent_Kernel4Ideal (hKernel4Ideal := hKernel4Ideal)
    ∧ quiescent_Kernel4Ideal_pre_steady (hKernel4Ideal := hKernel4Ideal) (hPre_steady := hPre_steady)
    ∧ quiescent_Reference4Ideal (hReference4Ideal := hReference4Ideal)
    ∧ quiescent_Reference4Ideal_pre_steady (hReference4Ideal := hReference4Ideal) (hPre_steady := hPre_steady)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_tables := hPre_tables)
    ∧ preserves_Kernel4_Kernel4Ideal
    ∧ algebraic_Kernel4Ideal_Reference4Ideal_pre_steady (hKernel4Ideal := hKernel4Ideal) (hReference4Ideal := hReference4Ideal) (hPre_steady := hPre_steady)
    ∧ preserves_Kernel5_Kernel5Ideal
    ∧ algebraic_Kernel5Ideal_Reference5Ideal (hKernel5Ideal := hKernel5Ideal) (hReference5Ideal := hReference5Ideal)
-- ==== Pre_finite.lean ====
abbrev S8x4352x8x96 : Shape := ⟨4, ![8, 4352, 8, 96]⟩
abbrev S8x4352x8x64 : Shape := ⟨4, ![8, 4352, 8, 64]⟩
abbrev S_ : Shape := ⟨0, ![]⟩

class Facts : Prop where
  bcast_S_S8x4352x8x96 : S_.BroadcastsInDim S8x4352x8x96 (![] : Fin 0 → Fin S8x4352x8x96.rank)
  reducesTo_S8x4352x8x96_S_d0_1_2_3 : S8x4352x8x96.ReducesTo [0, 1, 2, 3] S_
  h_S_ : 0 < S_.numel

variable [Facts]

def fn {F : FTy → Type} [FloatOps F] (main_arg0 : FVec F S8x4352x8x96 .f32) (main_arg1 : FVec F S8x4352x8x96 .f32) (main_arg2 : FVec F S8x4352x8x64 .f32) : IVec S_ 1 :=
  let main_v0 : FVec F S8x4352x8x96 .f32 := Host.absf main_arg0
  let main_cst : FVec F S_ .f32 := constant S_ .f32 0x7F800000#32
  let main_v1 : FVec F S8x4352x8x96 .f32 := broadcastInDim S8x4352x8x96 ![] bcast_S_S8x4352x8x96 main_cst
  let main_v2 : IVec S8x4352x8x96 1 := cmpf .olt main_v0 main_v1
  let main_c : IVec S_ 1 := constantI S_ 1 1#1
  let main_v3 : IVec S_ 1 := (fun x v => Host.reduce IntOp.andi x v reducesTo_S8x4352x8x96_S_d0_1_2_3 h_S_) main_v2 main_c
  let main_v4 : FVec F S8x4352x8x96 .f32 := Host.absf main_arg1
  let main_cst_0 : FVec F S_ .f32 := constant S_ .f32 0x7F800000#32
  let main_v5 : FVec F S8x4352x8x96 .f32 := broadcastInDim S8x4352x8x96 ![] bcast_S_S8x4352x8x96 main_cst_0
  let main_v6 : IVec S8x4352x8x96 1 := cmpf .olt main_v4 main_v5
  let main_c_1 : IVec S_ 1 := constantI S_ 1 1#1
  let main_v7 : IVec S_ 1 := (fun x v => Host.reduce IntOp.andi x v reducesTo_S8x4352x8x96_S_d0_1_2_3 h_S_) main_v6 main_c_1
  let main_v8 : IVec S_ 1 := andi main_v3 main_v7
  main_v8
-- ==== Pre_steady.lean ====
abbrev S8x4352x1024 : Shape := ⟨3, ![8, 4352, 1024]⟩
abbrev S16x6x1024 : Shape := ⟨3, ![16, 6, 1024]⟩
abbrev S8x4352x7680 : Shape := ⟨3, ![8, 4352, 7680]⟩
abbrev S8x4352x512 : Shape := ⟨3, ![8, 4352, 512]⟩
abbrev S512 : Shape := ⟨1, ![512]⟩
abbrev S512x1024 : Shape := ⟨2, ![512, 1024]⟩
abbrev S1024x1024 : Shape := ⟨2, ![1024, 1024]⟩
abbrev S_ : Shape := ⟨0, ![]⟩

class Facts : Prop where
  bcast_S_S8x4352x512 : S_.BroadcastsInDim S8x4352x512 (![] : Fin 0 → Fin S8x4352x512.rank)
  reducesTo_S8x4352x512_S_d0_1_2 : S8x4352x512.ReducesTo [0, 1, 2] S_
  h_S_ : 0 < S_.numel

variable [Facts]

def fn {F : FTy → Type} [FloatOps F] (main_arg0 : FVec F S8x4352x1024 .f32) (main_arg1 : FVec F S16x6x1024 .f32) (main_arg2 : FVec F S8x4352x7680 .f32) (main_arg3 : FVec F S8x4352x512 .f32) (main_arg4 : FVec F S8x4352x512 .f32) (main_arg5 : FVec F S8x4352x512 .bf16) (main_arg6 : FVec F S8x4352x512 .f32) (main_arg7 : FVec F S8x4352x512 .f32) (main_arg8 : FVec F S8x4352x512 .f32) (main_arg9 : FVec F S8x4352x512 .f32) (main_arg10 : FVec F S512 .f32) (main_arg11 : FVec F S512 .f32) (main_arg12 : FVec F S512x1024 .f32) (main_arg13 : FVec F S512x1024 .f32) (main_arg14 : FVec F S512x1024 .f32) (main_arg15 : FVec F S1024x1024 .f32) : IVec S_ 1 :=
  let main_v0 : FVec F S8x4352x512 .f32 := Host.absf main_arg6
  let main_cst : FVec F S_ .f32 := constant S_ .f32 0x7F800000#32
  let main_v1 : FVec F S8x4352x512 .f32 := broadcastInDim S8x4352x512 ![] bcast_S_S8x4352x512 main_cst
  let main_v2 : IVec S8x4352x512 1 := cmpf .olt main_v0 main_v1
  let main_c : IVec S_ 1 := constantI S_ 1 1#1
  let main_v3 : IVec S_ 1 := (fun x v => Host.reduce IntOp.andi x v reducesTo_S8x4352x512_S_d0_1_2 h_S_) main_v2 main_c
  let main_v4 : FVec F S8x4352x512 .f32 := Host.absf main_arg7
  let main_cst_0 : FVec F S_ .f32 := constant S_ .f32 0x7F800000#32
  let main_v5 : FVec F S8x4352x512 .f32 := broadcastInDim S8x4352x512 ![] bcast_S_S8x4352x512 main_cst_0
  let main_v6 : IVec S8x4352x512 1 := cmpf .olt main_v4 main_v5
  let main_c_1 : IVec S_ 1 := constantI S_ 1 1#1
  let main_v7 : IVec S_ 1 := (fun x v => Host.reduce IntOp.andi x v reducesTo_S8x4352x512_S_d0_1_2 h_S_) main_v6 main_c_1
  let main_v8 : IVec S_ 1 := andi main_v3 main_v7
  main_v8
-- ==== Pre_tables.lean ====
abbrev S576 : Shape := ⟨1, ![576]⟩
abbrev S1 : Shape := ⟨1, ![1]⟩
abbrev S147456x1024 : Shape := ⟨2, ![147456, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S576 : S_.BroadcastsInDim S576 (![] : Fin 0 → Fin S576.rank)
  reducesTo_S576_S_d0 : S576.ReducesTo [0] S_

variable [Facts]

def fn {F : FTy → Type} [FloatOps F] (main_arg0 : IVec S576 32) (main_arg1 : IVec S1 32) (main_arg2 : FVec F S147456x1024 .f32) (main_arg3 : FVec F S4x32x1024x2048 .f32) (main_arg4 : FVec F S4x32x2048 .f32) (main_arg5 : FVec F S4x32x1024x1024 .f32) (main_arg6 : FVec F S4x32x1024 .f32) : IVec S_ 1 :=
  let main_c : IVec S_ 32 := constantI S_ 32 1#32
  let main_v0 : IVec S1 32 := broadcastInDim S1 ![] bcast_S_S1 main_c
  let main_v1 : IVec S1 1 := cmpi .sge main_arg1 main_v0
  let main_c_0 : IVec S_ 1 := constantI S_ 1 1#1
  let main_v2 : IVec S_ 1 := (fun x v => Host.reduce IntOp.andi x v reducesTo_S1_S_d0 h_S_) main_v1 main_c_0
  let main_c_1 : IVec S_ 32 := constantI S_ 32 0#32
  let main_v3 : IVec S576 32 := broadcastInDim S576 ![] bcast_S_S576 main_c_1
  let main_v4 : IVec S576 1 := cmpi .sge main_arg0 main_v3
  let main_c_2 : IVec S_ 1 := constantI S_ 1 1#1
  let main_v5 : IVec S_ 1 := (fun x v => Host.reduce IntOp.andi x v reducesTo_S576_S_d0 h_S_) main_v4 main_c_2
  let main_v6 : IVec S_ 1 := andi main_v2 main_v5
  let main_c_3 : IVec S_ 32 := constantI S_ 32 32#32
  let main_v7 : IVec S576 32 := broadcastInDim S576 ![] bcast_S_S576 main_c_3
  let main_v8 : IVec S576 1 := cmpi .slt main_arg0 main_v7
  let main_c_4 : IVec S_ 1 := constantI S_ 1 1#1
  let main_v9 : IVec S_ 1 := (fun x v => Host.reduce IntOp.andi x v reducesTo_S576_S_d0 h_S_) main_v8 main_c_4
  let main_v10 : IVec S_ 1 := andi main_v6 main_v9
  main_v10
-- ==== Kernel.lean ====
abbrev S8x4352x8x96 : Shape := ⟨4, ![8, 4352, 8, 96]⟩
abbrev S8x4352x8x64 : Shape := ⟨4, ![8, 4352, 8, 64]⟩
abbrev S_ : Shape := ⟨0, ![]⟩
abbrev S1x1x1x128 : Shape := ⟨4, ![1, 1, 1, 128]⟩
abbrev S8x4352x8x128 : Shape := ⟨4, ![8, 4352, 8, 128]⟩
abbrev S8x4352x1024 : Shape := ⟨3, ![8, 4352, 1024]⟩
abbrev S8x4352x512 : Shape := ⟨3, ![8, 4352, 512]⟩
abbrev S1x256x512 : Shape := ⟨3, ![1, 256, 512]⟩
abbrev S1x4352x512 : Shape := ⟨3, ![1, 4352, 512]⟩
abbrev S1x256x256 : Shape := ⟨3, ![1, 256, 256]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S256x64 : Shape := ⟨2, ![256, 64]⟩
abbrev S1x4352x128 : Shape := ⟨3, ![1, 4352, 128]⟩
abbrev S4352x128 : Shape := ⟨2, ![4352, 128]⟩
abbrev S256x4352 : Shape := ⟨2, ![256, 4352]⟩

abbrev nBuf : Space → Nat
  | .hbm => 38
  | .vmem => 8
  | .smem => 0
  | _ => 0

abbrev bufTy : (tb : Table) → Fin (tcTables nBuf tb) → BufTy
  | .hbm, ⟨0, _⟩ => ⟨S8x4352x8x96, .f32⟩
  | .hbm, ⟨1, _⟩ => ⟨S8x4352x8x96, .f32⟩
  | .hbm, ⟨2, _⟩ => ⟨S8x4352x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1x1x128, .i32⟩
  | .hbm, ⟨9, _⟩ => ⟨S_, .i32⟩
  | .hbm, ⟨10, _⟩ => ⟨S1x1x1x128, .i32⟩
  | .hbm, ⟨11, _⟩ => ⟨S1x1x1x128, .i1⟩
  | .hbm, ⟨12, _⟩ => ⟨S_, .i32⟩
  | .hbm, ⟨13, _⟩ => ⟨S_, .f32⟩
  | .hbm, ⟨14, _⟩ => ⟨S8x4352x8x128, .f32⟩
  | .hbm, ⟨15, _⟩ => ⟨S8x4352x8x128, .f32⟩
  | .hbm, ⟨16, _⟩ => ⟨S8x4352x8x128, .f32⟩
  | .hbm, ⟨17, _⟩ => ⟨S8x4352x8x128, .bf16⟩
  | .hbm, ⟨18, _⟩ => ⟨S8x4352x1024, .bf16⟩
  | .hbm, ⟨19, _⟩ => ⟨S_, .i32⟩
  | .hbm, ⟨20, _⟩ => ⟨S_, .f32⟩
  | .hbm, ⟨21, _⟩ => ⟨S8x4352x8x128, .f32⟩
  | .hbm, ⟨22, _⟩ => ⟨S8x4352x8x128, .bf16⟩
  | .hbm, ⟨23, _⟩ => ⟨S8x4352x1024, .bf16⟩
  | .hbm, ⟨24, _⟩ => ⟨S_, .i32⟩
  | .hbm, ⟨25, _⟩ => ⟨S_, .f32⟩
  | .hbm, ⟨26, _⟩ => ⟨S8x4352x8x128, .f32⟩
  | .hbm, ⟨27, _⟩ => ⟨S_, .f32⟩
  | .hbm, ⟨28, _⟩ => ⟨S_, .f32⟩
  | .hbm, ⟨29, _⟩ => ⟨S1x1x1x128, .f32⟩
  | .hbm, ⟨30, _⟩ => ⟨S1x1x1x128, .f32⟩
  | .hbm, ⟨31, _⟩ => ⟨S1x1x1x128, .f32⟩
  | .hbm, ⟨32, _⟩ => ⟨S1x1x1x128, .f32⟩
  | .hbm, ⟨33, _⟩ => ⟨S8x4352x8x128, .f32⟩
  | .hbm, ⟨34, _⟩ => ⟨S8x4352x8x128, .f32⟩
  | .hbm, ⟨35, _⟩ => ⟨S8x4352x8x128, .bf16⟩
  | .hbm, ⟨36, _⟩ => ⟨S8x4352x1024, .bf16⟩
  | .hbm, ⟨37, _⟩ => ⟨S8x4352x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x4352x512, .bf16⟩
  | .local _ .vmem, ⟨3, _⟩ => ⟨S1x4352x512, .bf16⟩
  | .local _ .vmem, ⟨4, _⟩ => ⟨S1x4352x512, .bf16⟩
  | .local _ .vmem, ⟨5, _⟩ => ⟨S1x4352x512, .bf16⟩
  | .local _ .vmem, ⟨6, _⟩ => ⟨S1x256x256, .bf16⟩
  | .local _ .vmem, ⟨7, _⟩ => ⟨S1x256x256, .bf16⟩
  | _, _ => ⟨S8x4352x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_call2_v0 : Ref sig .tc := ⟨.hbm, 25, rfl⟩
abbrev main_v14 : Ref sig .tc := ⟨.hbm, 26, rfl⟩
abbrev main_cst_4 : Ref sig .tc := ⟨.hbm, 27, rfl⟩
abbrev main_cst_5 : Ref sig .tc := ⟨.hbm, 28, rfl⟩
abbrev main_call3_v0 : Ref sig .tc := ⟨.hbm, 29, rfl⟩
abbrev main_call3_v1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 17], ![false, false, false]⟩

def k0_cond1 (i : grid0.Coords) : BitVec 1 :=
  let arg2 : BitVec 32 := BitVec.ofNat 32 (i 2).val
  let c1_i32 : BitVec 32 := 1#32
  let v0 : BitVec 1 := Scalar.cmpi .slt arg2 c1_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c1_i32 : BitVec 32 := 1#32
  let v0 : BitVec 1 := Scalar.cmpi .slt arg2 c1_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x4352x8x96 : Shape := ⟨4, ![8, 4352, 8, 96]⟩
abbrev S8x4352x8x64 : Shape := ⟨4, ![8, 4352, 8, 64]⟩
abbrev S8x256x8x96 : Shape := ⟨4, ![8, 256, 8, 96]⟩
abbrev S8x256x8x64 : Shape := ⟨4, ![8, 256, 8, 64]⟩
abbrev S8x8x256x256 : Shape := ⟨4, ![8, 8, 256, 256]⟩
abbrev S_ : Shape := ⟨0, ![]⟩
abbrev S8x8x256 : Shape := ⟨3, ![8, 8, 256]⟩
abbrev S8x8x256x1 : Shape := ⟨4, ![8, 8, 256, 1]⟩
abbrev S8x8x64x256 : Shape := ⟨4, ![8, 8, 64, 256]⟩
abbrev S8x256x512 : Shape := ⟨3, ![8, 256, 512]⟩
abbrev S8x4096x8x96 : Shape := ⟨4, ![8, 4096, 8, 96]⟩
abbrev S8x8x4096x4352 : Shape := ⟨4, ![8, 8, 4096, 4352]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x8x64 : Shape := ⟨4, ![8, 4096, 8, 64]⟩
abbrev S8x4096x512 : Shape := ⟨3, ![8, 4096, 512]⟩
abbrev S8x4352x512 : Shape := ⟨3, ![8, 4352, 512]⟩

abbrev nBuf : Space → Nat
  | .hbm => 53
  | .vmem => 0
  | .smem => 0
  | _ => 0

abbrev bufTy : (tb : Table) → Fin (tcTables nBuf tb) → BufTy
  | .hbm, ⟨0, _⟩ => ⟨S8x4352x8x96, .f32⟩
  | .hbm, ⟨1, _⟩ => ⟨S8x4352x8x96, .f32⟩
  | .hbm, ⟨2, _⟩ => ⟨S8x4352x8x64, .f32⟩
  | .hbm, ⟨3, _⟩ => ⟨S8x256x8x96, .f32⟩
  | .hbm, ⟨4, _⟩ => ⟨S8x256x8x96, .f32⟩
  | .hbm, ⟨5, _⟩ => ⟨S8x256x8x64, .f32⟩
  | .hbm, ⟨6, _⟩ => ⟨S8x8x256x256, .f32⟩
  | .hbm, ⟨7, _⟩ => ⟨S_, .f32⟩
  | .hbm, ⟨8, _⟩ => ⟨S_, .f32⟩
  | .hbm, ⟨9, _⟩ => ⟨S8x8x256x256, .f32⟩
  | .hbm, ⟨10, _⟩ => ⟨S8x8x256x256, .f32⟩
  | .hbm, ⟨11, _⟩ => ⟨S_, .f32⟩
  | .hbm, ⟨12, _⟩ => ⟨S8x8x256, .f32⟩
  | .hbm, ⟨13, _⟩ => ⟨S_, .f32⟩
  | .hbm, ⟨14, _⟩ => ⟨S8x8x256, .f32⟩
  | .hbm, ⟨15, _⟩ => ⟨S8x8x256, .f32⟩
  | .hbm, ⟨16, _⟩ => ⟨S8x8x256x1, .f32⟩
  | .hbm, ⟨17, _⟩ => ⟨S8x8x256x256, .f32⟩
  | .hbm, ⟨18, _⟩ => ⟨S8x8x256x256, .f32⟩
  | .hbm, ⟨19, _⟩ => ⟨S8x8x256x256, .f32⟩
  | .hbm, ⟨20, _⟩ => ⟨S_, .f32⟩
  | .hbm, ⟨21, _⟩ => ⟨S8x8x256, .f32⟩
  | .hbm, ⟨22, _⟩ => ⟨S8x8x256x1, .f32⟩
  | .hbm, ⟨23, _⟩ => ⟨S8x8x256x256, .f32⟩
  | .hbm, ⟨24, _⟩ => ⟨S8x8x256x256, .f32⟩
  | .hbm, ⟨25, _⟩ => ⟨S8x8x64x256, .f32⟩
  | .hbm, ⟨26, _⟩ => ⟨S8x256x8x64, .f32⟩
  | .hbm, ⟨27, _⟩ => ⟨S8x256x512, .f32⟩
  | .hbm, ⟨28, _⟩ => ⟨S8x4096x8x96, .f32⟩
  | .hbm, ⟨29, _⟩ => ⟨S8x8x4096x4352, .f32⟩
  | .hbm, ⟨30, _⟩ => ⟨S_, .f32⟩
  | .hbm, ⟨31, _⟩ => ⟨S_, .f32⟩
  | .hbm, ⟨32, _⟩ => ⟨S8x8x4096x4352, .f32⟩
  | .hbm, ⟨33, _⟩ => ⟨S8x8x4096x4352, .f32⟩
  | .hbm, ⟨34, _⟩ => ⟨S_, .f32⟩
  | .hbm, ⟨35, _⟩ => ⟨S8x8x4096, .f32⟩
  | .hbm, ⟨36, _⟩ => ⟨S_, .f32⟩
  | .hbm, ⟨37, _⟩ => ⟨S8x8x4096, .f32⟩
  | .hbm, ⟨38, _⟩ => ⟨S8x8x4096, .f32⟩
  | .hbm, ⟨39, _⟩ => ⟨S8x8x4096x1, .f32⟩
  | .hbm, ⟨40, _⟩ => ⟨S8x8x4096x4352, .f32⟩
  | .hbm, ⟨41, _⟩ => ⟨S8x8x4096x4352, .f32⟩
  | .hbm, ⟨42, _⟩ => ⟨S8x8x4096x4352, .f32⟩
  | .hbm, ⟨43, _⟩ => ⟨S_, .f32⟩
  | .hbm, ⟨44, _⟩ => ⟨S8x8x4096, .f32⟩
  | .hbm, ⟨45, _⟩ => ⟨S8x8x4096x1, .f32⟩
  | .hbm, ⟨46, _⟩ => ⟨S8x8x4096x4352, .f32⟩
  | .hbm, ⟨47, _⟩ => ⟨S8x8x4096x4352, .f32⟩
  | .hbm, ⟨48, _⟩ => ⟨S8x8x64x4096, .f32⟩
  | .hbm, ⟨49, _⟩ => ⟨S8x4096x8x64, .f32⟩
  | .hbm, ⟨50, _⟩ => ⟨S8x4096x512, .f32⟩
  | .hbm, ⟨51, _⟩ => ⟨S8x4352x512, .f32⟩
  | .hbm, ⟨52, _⟩ => ⟨S8x4352x512, .bf16⟩
  | _, _ => ⟨S8x4352x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Kernel2.lean ====
abbrev S8x4352x1024 : Shape := ⟨3, ![8, 4352, 1024]⟩
abbrev S16x6x1024 : Shape := ⟨3, ![16, 6, 1024]⟩
abbrev S1024 : Shape := ⟨1, ![1024]⟩
abbrev S1024x7456 : Shape := ⟨2, ![1024, 7456]⟩
abbrev S34816x1024 : Shape := ⟨2, ![34816, 1024]⟩
abbrev S1024x2048 : Shape := ⟨2, ![1024, 2048]⟩
abbrev S1024x256 : Shape := ⟨2, ![1024, 256]⟩
abbrev S1024x128 : Shape := ⟨2, ![1024, 128]⟩
abbrev S1024x32 : Shape := ⟨2, ![1024, 32]⟩
abbrev S1024x1920 : Shape := ⟨2, ![1024, 1920]⟩
abbrev S1024x3072 : Shape := ⟨2, ![1024, 3072]⟩
abbrev S_ : Shape := ⟨0, ![]⟩
abbrev S1024x64 : Shape := ⟨2, ![1024, 64]⟩
abbrev S1024x7680 : Shape := ⟨2, ![1024, 7680]⟩
abbrev S1x1024 : Shape := ⟨2, ![1, 1024]⟩
abbrev S34816x7680 : Shape := ⟨2, ![34816, 7680]⟩
abbrev S256x1024 : Shape := ⟨2, ![256, 1024]⟩
abbrev S1x6x1024 : Shape := ⟨3, ![1, 6, 1024]⟩
abbrev S256x7680 : Shape := ⟨2, ![256, 7680]⟩
abbrev S256 : Shape := ⟨1, ![256]⟩
abbrev S256x1 : Shape := ⟨2, ![256, 1]⟩
abbrev S1x1x1024 : Shape := ⟨3, ![1, 1, 1024]⟩

abbrev nBuf : Space → Nat
  | .hbm => 21
  | .vmem => 8
  | .smem => 0
  | _ => 0

abbrev bufTy : (tb : Table) → Fin (tcTables nBuf tb) → BufTy
  | .hbm, ⟨0, _⟩ => ⟨S8x4352x1024, .f32⟩
  | .hbm, ⟨1, _⟩ => ⟨S16x6x1024, .f32⟩
  | .hbm, ⟨2, _⟩ => ⟨S1024, .f32⟩
  | .hbm, ⟨3, _⟩ => ⟨S1024x7456, .f32⟩
  | .hbm, ⟨4, _⟩ => ⟨S34816x1024, .f32⟩
  | .hbm, ⟨5, _⟩ => ⟨S1024x2048, .f32⟩
  | .hbm, ⟨6, _⟩ => ⟨S1024x256, .f32⟩
  | .hbm, ⟨7, _⟩ => ⟨S1024x128, .f32⟩
  | .hbm, ⟨8, _⟩ => ⟨S1024x32, .f32⟩
  | .hbm, ⟨9, _⟩ => ⟨S1024x1920, .f32⟩
  | .hbm, ⟨10, _⟩ => ⟨S1024x3072, .f32⟩
  | .hbm, ⟨11, _⟩ => ⟨S_, .f32⟩
  | .hbm, ⟨12, _⟩ => ⟨S1024x64, .f32⟩
  | .hbm, ⟨13, _⟩ => ⟨S_, .f32⟩
  | .hbm, ⟨14, _⟩ => ⟨S1024x32, .f32⟩
  | .hbm, ⟨15, _⟩ => ⟨S_, .f32⟩
  | .hbm, ⟨16, _⟩ => ⟨S1024x128, .f32⟩
  | .hbm, ⟨17, _⟩ => ⟨S1024x7680, .f32⟩
  | .hbm, ⟨18, _⟩ => ⟨S1024x7680, .bf16⟩
  | .hbm, ⟨19, _⟩ => ⟨S1x1024, .f32⟩
  | .hbm, ⟨20, _⟩ => ⟨S34816x7680, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x7680, .bf16⟩
  | .local _ .vmem, ⟨6, _⟩ => ⟨S256x7680, .f32⟩
  | .local _ .vmem, ⟨7, _⟩ => ⟨S256x7680, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 136], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .slt v9 c1_i32_3
  let c17_i32_4 : BitVec 32 := 17#32
  let v11 : BitVec 32 := Scalar.divsi arg1 c17_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c17_i32_4 c0_i32_7
  let v18 : BitVec 32 := Scalar.extui v17
  let c0_i32_8 : BitVec 32 := 0#32
  let v19 : BitVec 1 := Scalar.cmpi .slt c17_i32_4 c0_i32_8
  let v20 : BitVec 32 := Scalar.extui v19
  let v21 : BitVec 32 := Scalar.subi v18 v20
  let v22 : BitVec 1 := Scalar.cmpi .ne v16 v21
  let v23 : BitVec 32 := Scalar.remsi arg1 c17_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c8_i32 : BitVec 32 := 8#32
  let v28 : BitVec 32 := Scalar.select v10 c8_i32 v27
  let c0_i32_11 : BitVec 32 := 0#32
  let c0_i32_12 : BitVec 32 := 0#32
  let c0_i32_13 : BitVec 32 := 0#32
  ![v28.toNat, c0_i32_11.toNat, c0_i32_12.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x7680 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x7680 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8x4352x1024 : Shape := ⟨3, ![8, 4352, 1024]⟩
abbrev S16x6x1024 : Shape := ⟨3, ![16, 6, 1024]⟩
abbrev S1024 : Shape := ⟨1, ![1024]⟩
abbrev S1024x7456 : Shape := ⟨2, ![1024, 7456]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x256x1024 : Shape := ⟨3, ![8, 256, 1024]⟩
abbrev S8x256 : Shape := ⟨2, ![8, 256]⟩
abbrev S8x256x1 : Shape := ⟨3, ![8, 256, 1]⟩
abbrev S8x256x7456 : Shape := ⟨3, ![8, 256, 7456]⟩
abbrev S8x4096x7456 : Shape := ⟨3, ![8, 4096, 7456]⟩
abbrev S8x4352x7456 : Shape := ⟨3, ![8, 4352, 7456]⟩
abbrev S34816x7456 : Shape := ⟨2, ![34816, 7456]⟩
abbrev S34816x3072 : Shape := ⟨2, ![34816, 3072]⟩
abbrev S34816x2432 : Shape := ⟨2, ![34816, 2432]⟩
abbrev S34816x64 : Shape := ⟨2, ![34816, 64]⟩
abbrev S34816x32 : Shape := ⟨2, ![34816, 32]⟩
abbrev S34816x160 : Shape := ⟨2, ![34816, 160]⟩
abbrev S34816x1920 : Shape := ⟨2, ![34816, 1920]⟩
abbrev S34816x7680 : Shape := ⟨2, ![34816, 7680]⟩

abbrev nBuf : Space → Nat
  | .hbm => 73
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S16x6x1024, .f32⟩
  | .hbm, ⟨2, _⟩ => ⟨S1024, .f32⟩
  | .hbm, ⟨3, _⟩ => ⟨S1024x7456, .f32⟩
  | .hbm, ⟨4, _⟩ => ⟨S8x4096x1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x1x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x4096x1024, .f32⟩
  | .hbm, ⟨26, _⟩ => ⟨S8x4096x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x256x1024, .f32⟩
  | .hbm, ⟨31, _⟩ => ⟨S8x256x1024, .f32⟩
  | .hbm, ⟨32, _⟩ => ⟨S_, .f32⟩
  | .hbm, ⟨33, _⟩ => ⟨S8x256, .f32⟩
  | .hbm, ⟨34, _⟩ => ⟨S8x256x1, .f32⟩
  | .hbm, ⟨35, _⟩ => ⟨S_, .f32⟩
  | .hbm, ⟨36, _⟩ => ⟨S8x256x1, .f32⟩
  | .hbm, ⟨37, _⟩ => ⟨S8x256x1, .f32⟩
  | .hbm, ⟨38, _⟩ => ⟨S_, .f32⟩
  | .hbm, ⟨39, _⟩ => ⟨S8x256x1, .f32⟩
  | .hbm, ⟨40, _⟩ => ⟨S8x256x1, .f32⟩
  | .hbm, ⟨41, _⟩ => ⟨S8x256x1, .f32⟩
  | .hbm, ⟨42, _⟩ => ⟨S8x256x1024, .f32⟩
  | .hbm, ⟨43, _⟩ => ⟨S8x256x1024, .f32⟩
  | .hbm, ⟨44, _⟩ => ⟨S1x1x1024, .f32⟩
  | .hbm, ⟨45, _⟩ => ⟨S8x256x1024, .f32⟩
  | .hbm, ⟨46, _⟩ => ⟨S8x256x1024, .f32⟩
  | .hbm, ⟨47, _⟩ => ⟨S1x1x1024, .f32⟩
  | .hbm, ⟨48, _⟩ => ⟨S1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S1x1x1024, .f32⟩
  | .hbm, ⟨53, _⟩ => ⟨S8x256x1024, .f32⟩
  | .hbm, ⟨54, _⟩ => ⟨S8x256x1024, .f32⟩
  | .hbm, ⟨55, _⟩ => ⟨S1x1x1024, .f32⟩
  | .hbm, ⟨56, _⟩ => ⟨S1024, .f32⟩
  | .hbm, ⟨57, _⟩ => ⟨S1x1x1024, .f32⟩
  | .hbm, ⟨58, _⟩ => ⟨S8x256x1024, .f32⟩
  | .hbm, ⟨59, _⟩ => ⟨S8x256x1024, .f32⟩
  | .hbm, ⟨60, _⟩ => ⟨S8x256x7456, .f32⟩
  | .hbm, ⟨61, _⟩ => ⟨S8x4096x7456, .f32⟩
  | .hbm, ⟨62, _⟩ => ⟨S8x4352x7456, .f32⟩
  | .hbm, ⟨63, _⟩ => ⟨S34816x7456, .f32⟩
  | .hbm, ⟨64, _⟩ => ⟨S34816x3072, .f32⟩
  | .hbm, ⟨65, _⟩ => ⟨S34816x2432, .f32⟩
  | .hbm, ⟨66, _⟩ => ⟨S_, .f32⟩
  | .hbm, ⟨67, _⟩ => ⟨S34816x64, .f32⟩
  | .hbm, ⟨68, _⟩ => ⟨S34816x32, .f32⟩
  | .hbm, ⟨69, _⟩ => ⟨S_, .f32⟩
  | .hbm, ⟨70, _⟩ => ⟨S34816x160, .f32⟩
  | .hbm, ⟨71, _⟩ => ⟨S34816x1920, .f32⟩
  | .hbm, ⟨72, _⟩ => ⟨S34816x7680, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩

abbrev nD : Nat := 1
abbrev τ : Topo := Topo.v7x

variable {F : FTy → Type} [FloatOps F]
-- ==== Kernel3.lean ====
abbrev S576 : Shape := ⟨1, ![576]⟩
abbrev S1 : Shape := ⟨1, ![1]⟩
abbrev S147456x1024 : Shape := ⟨2, ![147456, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S4x32x1x2048 : Shape := ⟨4, ![4, 32, 1, 2048]⟩
abbrev S4x32x1x1024 : Shape := ⟨4, ![4, 32, 1, 1024]⟩
abbrev S_ : Shape := ⟨0, ![]⟩
abbrev S576x1 : Shape := ⟨2, ![576, 1]⟩
abbrev S256x1024 : Shape := ⟨2, ![256, 1024]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 23
  | .vmem => 14
  | .smem => 2
  | _ => 0

abbrev bufTy : (tb : Table) → Fin (tcTables nBuf tb) → BufTy
  | .hbm, ⟨0, _⟩ => ⟨S576, .i32⟩
  | .hbm, ⟨1, _⟩ => ⟨S147456x1024, .f32⟩
  | .hbm, ⟨2, _⟩ => ⟨S4x32x1024x2048, .f32⟩
  | .hbm, ⟨3, _⟩ => ⟨S4x32x2048, .f32⟩
  | .hbm, ⟨4, _⟩ => ⟨S4x32x1024x1024, .f32⟩
  | .hbm, ⟨5, _⟩ => ⟨S4x32x1024, .f32⟩
  | .hbm, ⟨6, _⟩ => ⟨S4x32x1x2048, .f32⟩
  | .hbm, ⟨7, _⟩ => ⟨S4x32x1x1024, .f32⟩
  | .hbm, ⟨8, _⟩ => ⟨S576, .i32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S576, .i32⟩
  | .hbm, ⟨13, _⟩ => ⟨S576, .i32⟩
  | .hbm, ⟨14, _⟩ => ⟨S_, .i32⟩
  | .hbm, ⟨15, _⟩ => ⟨S576, .i32⟩
  | .hbm, ⟨16, _⟩ => ⟨S576, .i1⟩
  | .hbm, ⟨17, _⟩ => ⟨S_, .i32⟩
  | .hbm, ⟨18, _⟩ => ⟨S576, .i32⟩
  | .hbm, ⟨19, _⟩ => ⟨S576, .i32⟩
  | .hbm, ⟨20, _⟩ => ⟨S576, .i32⟩
  | .hbm, ⟨21, _⟩ => ⟨S576x1, .i32⟩
  | .hbm, ⟨22, _⟩ => ⟨S147456x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .bf16⟩
  | .local _ .vmem, ⟨13, _⟩ => ⟨S1024x1024, .bf16⟩
  | .local _ .smem, ⟨0, _⟩ => ⟨S576, .i32⟩
  | .local _ .smem, ⟨1, _⟩ => ⟨S1, .i32⟩
  | _, _ => ⟨S576, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v14 : Ref sig .tc := ⟨.hbm, 22, rfl⟩
abbrev main_v13 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![576], ![false]⟩

abbrev pre0 : Pipeline.Prefetch sig := ⟨2, ![main_v13.idx, main_arg1.idx], fun | 0 => main_v13.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v6 : Index := Scalar.indexCast arg0
  ![v6.toNat]
def k0_off3 (i : grid0.Coords) : Fin 1 → Nat :=
  let arg0 : BitVec 32 := BitVec.ofNat 32 (i 0).val
  let c1_i32 : BitVec 32 := 1#32
  let v8 : BitVec 32 := Scalar.subi arg0 c1_i32
  let c0_i32_1 : BitVec 32 := 0#32
  let v9 : BitVec 32 := Scalar.maxsi v8 c0_i32_1
  let v10 : Index := Scalar.indexCast v9
  ![v10.toNat]
def k0_cond1 (i : grid0.Coords) (v0 : BitVec 32) : BitVec 1 :=
  let arg0 : BitVec 32 := BitVec.ofNat 32 (i 0).val
  let v1 : BitVec 1 := Scalar.cmpi .slt arg0 v0
  let v_true : BitVec 1 := 1#1
  let v2 : BitVec 1 := Scalar.xori v1 v_true
  let v3 : BitVec 32 := Scalar.extui v2
  let c0_i32 : BitVec 32 := 0#32
  let v4 : BitVec 1 := Scalar.cmpi .ne v3 c0_i32
  v4

def k0_cond3 (i : grid0.Coords) (v0 : BitVec 32) : BitVec 1 :=
  let arg0 : BitVec 32 := BitVec.ofNat 32 (i 0).val
  let v1 : BitVec 1 := Scalar.cmpi .slt arg0 v0
  let v17 : BitVec 32 := Scalar.extui v1
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S576.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S576.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S576.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S576.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S576 : Shape := ⟨1, ![576]⟩
abbrev S1 : Shape := ⟨1, ![1]⟩
abbrev S147456x1024 : Shape := ⟨2, ![147456, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S576x256x1024 : Shape := ⟨3, ![576, 256, 1024]⟩
abbrev S1x32x1024x2048 : Shape := ⟨4, ![1, 32, 1024, 2048]⟩
abbrev S32x1024x2048 : Shape := ⟨3, ![32, 1024, 2048]⟩
abbrev S576x1 : Shape := ⟨2, ![576, 1]⟩
abbrev S576x1024x2048 : Shape := ⟨3, ![576, 1024, 2048]⟩
abbrev S576x256x2048 : Shape := ⟨3, ![576, 256, 2048]⟩
abbrev S1x32x2048 : Shape := ⟨3, ![1, 32, 2048]⟩
abbrev S32x2048 : Shape := ⟨2, ![32, 2048]⟩
abbrev S576x2048 : Shape := ⟨2, ![576, 2048]⟩
abbrev S576x1x2048 : Shape := ⟨3, ![576, 1, 2048]⟩
abbrev S_ : Shape := ⟨0, ![]⟩
abbrev S1x32x1024x1024 : Shape := ⟨4, ![1, 32, 1024, 1024]⟩
abbrev S32x1024x1024 : Shape := ⟨3, ![32, 1024, 1024]⟩
abbrev S576x1024x1024 : Shape := ⟨3, ![576, 1024, 1024]⟩
abbrev S1x32x1024 : Shape := ⟨3, ![1, 32, 1024]⟩
abbrev S32x1024 : Shape := ⟨2, ![32, 1024]⟩
abbrev S576x1024 : Shape := ⟨2, ![576, 1024]⟩
abbrev S576x1x1024 : Shape := ⟨3, ![576, 1, 1024]⟩
abbrev S576x1x1 : Shape := ⟨3, ![576, 1, 1]⟩

abbrev nBuf : Space → Nat
  | .hbm => 72
  | .vmem => 0
  | .smem => 0
  | _ => 0

abbrev bufTy : (tb : Table) → Fin (tcTables nBuf tb) → BufTy
  | .hbm, ⟨0, _⟩ => ⟨S576, .i32⟩
  | .hbm, ⟨1, _⟩ => ⟨S1, .i32⟩
  | .hbm, ⟨2, _⟩ => ⟨S147456x1024, .f32⟩
  | .hbm, ⟨3, _⟩ => ⟨S4x32x1024x2048, .f32⟩
  | .hbm, ⟨4, _⟩ => ⟨S4x32x2048, .f32⟩
  | .hbm, ⟨5, _⟩ => ⟨S4x32x1024x1024, .f32⟩
  | .hbm, ⟨6, _⟩ => ⟨S4x32x1024, .f32⟩
  | .hbm, ⟨7, _⟩ => ⟨S576x256x1024, .f32⟩
  | .hbm, ⟨8, _⟩ => ⟨S1x32x1024x2048, .f32⟩
  | .hbm, ⟨9, _⟩ => ⟨S32x1024x2048, .f32⟩
  | .hbm, ⟨10, _⟩ => ⟨S576x1, .i32⟩
  | .hbm, ⟨11, _⟩ => ⟨S576x1024x2048, .f32⟩
  | .hbm, ⟨12, _⟩ => ⟨S576x256x2048, .f32⟩
  | .hbm, ⟨13, _⟩ => ⟨S1x32x2048, .f32⟩
  | .hbm, ⟨14, _⟩ => ⟨S32x2048, .f32⟩
  | .hbm, ⟨15, _⟩ => ⟨S576x1, .i32⟩
  | .hbm, ⟨16, _⟩ => ⟨S576x2048, .f32⟩
  | .hbm, ⟨17, _⟩ => ⟨S576x1x2048, .f32⟩
  | .hbm, ⟨18, _⟩ => ⟨S576x256x2048, .f32⟩
  | .hbm, ⟨19, _⟩ => ⟨S576x256x2048, .f32⟩
  | .hbm, ⟨20, _⟩ => ⟨S576x256x1024, .f32⟩
  | .hbm, ⟨21, _⟩ => ⟨S576x256x1024, .f32⟩
  | .hbm, ⟨22, _⟩ => ⟨S_, .f32⟩
  | .hbm, ⟨23, _⟩ => ⟨S576x256x1024, .f32⟩
  | .hbm, ⟨24, _⟩ => ⟨S576x256x1024, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S576x256x1024, .f32⟩
  | .hbm, ⟨29, _⟩ => ⟨S576x256x1024, .f32⟩
  | .hbm, ⟨30, _⟩ => ⟨S_, .f32⟩
  | .hbm, ⟨31, _⟩ => ⟨S576x256x1024, .f32⟩
  | .hbm, ⟨32, _⟩ => ⟨S576x256x1024, .f32⟩
  | .hbm, ⟨33, _⟩ => ⟨S_, .f32⟩
  | .hbm, ⟨34, _⟩ => ⟨S576x256x1024, .f32⟩
  | .hbm, ⟨35, _⟩ => ⟨S576x256x1024, .f32⟩
  | .hbm, ⟨36, _⟩ => ⟨S576x256x1024, .f32⟩
  | .hbm, ⟨37, _⟩ => ⟨S576x256x1024, .f32⟩
  | .hbm, ⟨38, _⟩ => ⟨S_, .f32⟩
  | .hbm, ⟨39, _⟩ => ⟨S576x256x1024, .f32⟩
  | .hbm, ⟨40, _⟩ => ⟨S576x256x1024, .f32⟩
  | .hbm, ⟨41, _⟩ => ⟨S_, .f32⟩
  | .hbm, ⟨42, _⟩ => ⟨S576x256x1024, .f32⟩
  | .hbm, ⟨43, _⟩ => ⟨S576x256x1024, .f32⟩
  | .hbm, ⟨44, _⟩ => ⟨S576x256x1024, .f32⟩
  | .hbm, ⟨45, _⟩ => ⟨S_, .f32⟩
  | .hbm, ⟨46, _⟩ => ⟨S576x256x1024, .f32⟩
  | .hbm, ⟨47, _⟩ => ⟨S576x256x1024, .f32⟩
  | .hbm, ⟨48, _⟩ => ⟨S576x256x1024, .f32⟩
  | .hbm, ⟨49, _⟩ => ⟨S1x32x1024x1024, .f32⟩
  | .hbm, ⟨50, _⟩ => ⟨S32x1024x1024, .f32⟩
  | .hbm, ⟨51, _⟩ => ⟨S576x1, .i32⟩
  | .hbm, ⟨52, _⟩ => ⟨S576x1024x1024, .f32⟩
  | .hbm, ⟨53, _⟩ => ⟨S576x256x1024, .f32⟩
  | .hbm, ⟨54, _⟩ => ⟨S1x32x1024, .f32⟩
  | .hbm, ⟨55, _⟩ => ⟨S32x1024, .f32⟩
  | .hbm, ⟨56, _⟩ => ⟨S576x1, .i32⟩
  | .hbm, ⟨57, _⟩ => ⟨S576x1024, .f32⟩
  | .hbm, ⟨58, _⟩ => ⟨S576x1x1024, .f32⟩
  | .hbm, ⟨59, _⟩ => ⟨S576x256x1024, .f32⟩
  | .hbm, ⟨60, _⟩ => ⟨S576x256x1024, .f32⟩
  | .hbm, ⟨61, _⟩ => ⟨S576, .i32⟩
  | .hbm, ⟨62, _⟩ => ⟨S_, .i32⟩
  | .hbm, ⟨63, _⟩ => ⟨S576, .i32⟩
  | .hbm, ⟨64, _⟩ => ⟨S576, .i1⟩
  | .hbm, ⟨65, _⟩ => ⟨S576x1x1, .i1⟩
  | .hbm, ⟨66, _⟩ => ⟨S_, .f32⟩
  | .hbm, ⟨67, _⟩ => ⟨S_, .f32⟩
  | .hbm, ⟨68, _⟩ => ⟨S576x256x1024, .i1⟩
  | .hbm, ⟨69, _⟩ => ⟨S576x256x1024, .f32⟩
  | .hbm, ⟨70, _⟩ => ⟨S576x256x1024, .f32⟩
  | .hbm, ⟨71, _⟩ => ⟨S147456x1024, .f32⟩
  | _, _ => ⟨S576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_cst_1 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call3_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call4_v0 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_call5_v0 : Ref sig .tc := ⟨.hbm, 67, rfl⟩
abbrev main_call5_v1 : Ref sig .tc := ⟨.hbm, 68, rfl⟩
abbrev main_call5_v2 : Ref sig .tc := ⟨.hbm, 69, rfl⟩
abbrev main_v43 : Ref sig .tc := ⟨.hbm, 70, rfl⟩
abbrev main_v44 : Ref sig .tc := ⟨.hbm, 71, rfl⟩

abbrev nD : Nat := 1
abbrev τ : Topo := Topo.v7x

variable {F : FTy → Type} [FloatOps F]
-- ==== Kernel4.lean ====
abbrev S8x4352x1024 : Shape := ⟨3, ![8, 4352, 1024]⟩
abbrev S16x6x1024 : Shape := ⟨3, ![16, 6, 1024]⟩
abbrev S8x4352x7680 : Shape := ⟨3, ![8, 4352, 7680]⟩
abbrev S8x4352x512 : Shape := ⟨3, ![8, 4352, 512]⟩
abbrev S512 : Shape := ⟨1, ![512]⟩
abbrev S512x1024 : Shape := ⟨2, ![512, 1024]⟩
abbrev S1024x1024 : Shape := ⟨2, ![1024, 1024]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x512 : Shape := ⟨2, ![1, 512]⟩
abbrev S34816x1024 : Shape := ⟨2, ![34816, 1024]⟩
abbrev S34816x7680 : Shape := ⟨2, ![34816, 7680]⟩
abbrev S34816x512 : Shape := ⟨2, ![34816, 512]⟩
abbrev S256x1024 : Shape := ⟨2, ![256, 1024]⟩
abbrev S1x6x1024 : Shape := ⟨3, ![1, 6, 1024]⟩
abbrev S256x3072 : Shape := ⟨2, ![256, 3072]⟩
abbrev S256x512 : Shape := ⟨2, ![256, 512]⟩
abbrev S1x1x1024 : Shape := ⟨3, ![1, 1, 1024]⟩
abbrev S1x1024 : Shape := ⟨2, ![1, 1024]⟩

abbrev nBuf : Space → Nat
  | .hbm => 48
  | .vmem => 29
  | .smem => 0
  | _ => 0

abbrev bufTy : (tb : Table) → Fin (tcTables nBuf tb) → BufTy
  | .hbm, ⟨0, _⟩ => ⟨S8x4352x1024, .f32⟩
  | .hbm, ⟨1, _⟩ => ⟨S16x6x1024, .f32⟩
  | .hbm, ⟨2, _⟩ => ⟨S8x4352x7680, .f32⟩
  | .hbm, ⟨3, _⟩ => ⟨S8x4352x512, .f32⟩
  | .hbm, ⟨4, _⟩ => ⟨S8x4352x512, .f32⟩
  | .hbm, ⟨5, _⟩ => ⟨S8x4352x512, .bf16⟩
  | .hbm, ⟨6, _⟩ => ⟨S8x4352x512, .f32⟩
  | .hbm, ⟨7, _⟩ => ⟨S8x4352x512, .f32⟩
  | .hbm, ⟨8, _⟩ => ⟨S8x4352x512, .f32⟩
  | .hbm, ⟨9, _⟩ => ⟨S8x4352x512, .f32⟩
  | .hbm, ⟨10, _⟩ => ⟨S512, .f32⟩
  | .hbm, ⟨11, _⟩ => ⟨S512, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S1024x1024, .f32⟩
  | .hbm, ⟨16, _⟩ => ⟨S8x8, .i32⟩
  | .hbm, ⟨17, _⟩ => ⟨S8x8, .i32⟩
  | .hbm, ⟨18, _⟩ => ⟨S_, .i32⟩
  | .hbm, ⟨19, _⟩ => ⟨S8x8, .i32⟩
  | .hbm, ⟨20, _⟩ => ⟨S8x8, .i32⟩
  | .hbm, ⟨21, _⟩ => ⟨S8x8, .i1⟩
  | .hbm, ⟨22, _⟩ => ⟨S8x8, .f32⟩
  | .hbm, ⟨23, _⟩ => ⟨S_, .f32⟩
  | .hbm, ⟨24, _⟩ => ⟨S64x64, .f32⟩
  | .hbm, ⟨25, _⟩ => ⟨S8x1x8x1, .f32⟩
  | .hbm, ⟨26, _⟩ => ⟨S1x64x1x64, .f32⟩
  | .hbm, ⟨27, _⟩ => ⟨S8x64x8x64, .f32⟩
  | .hbm, ⟨28, _⟩ => ⟨S8x64x8x64, .f32⟩
  | .hbm, ⟨29, _⟩ => ⟨S8x64x8x64, .f32⟩
  | .hbm, ⟨30, _⟩ => ⟨S512x512, .f32⟩
  | .hbm, ⟨31, _⟩ => ⟨S512x512, .bf16⟩
  | .hbm, ⟨32, _⟩ => ⟨S1x512, .f32⟩
  | .hbm, ⟨33, _⟩ => ⟨S1x512, .f32⟩
  | .hbm, ⟨34, _⟩ => ⟨S512x1024, .bf16⟩
  | .hbm, ⟨35, _⟩ => ⟨S512x1024, .bf16⟩
  | .hbm, ⟨36, _⟩ => ⟨S512x1024, .bf16⟩
  | .hbm, ⟨37, _⟩ => ⟨S1024x1024, .bf16⟩
  | .hbm, ⟨38, _⟩ => ⟨S34816x1024, .f32⟩
  | .hbm, ⟨39, _⟩ => ⟨S34816x7680, .f32⟩
  | .hbm, ⟨40, _⟩ => ⟨S34816x512, .f32⟩
  | .hbm, ⟨41, _⟩ => ⟨S34816x512, .f32⟩
  | .hbm, ⟨42, _⟩ => ⟨S34816x512, .bf16⟩
  | .hbm, ⟨43, _⟩ => ⟨S34816x512, .f32⟩
  | .hbm, ⟨44, _⟩ => ⟨S34816x512, .f32⟩
  | .hbm, ⟨45, _⟩ => ⟨S34816x512, .f32⟩
  | .hbm, ⟨46, _⟩ => ⟨S34816x512, .f32⟩
  | .hbm, ⟨47, _⟩ => ⟨S34816x1024, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S256x3072, .f32⟩
  | .local _ .vmem, ⟨5, _⟩ => ⟨S256x3072, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S1x512, .f32⟩
  | .local _ .vmem, ⟨21, _⟩ => ⟨S1x512, .f32⟩
  | .local _ .vmem, ⟨22, _⟩ => ⟨S512x512, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S1024x1024, .bf16⟩
  | .local _ .vmem, ⟨27, _⟩ => ⟨S256x1024, .f32⟩
  | .local _ .vmem, ⟨28, _⟩ => ⟨S256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![136], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .slt v9 c1_i32_3
  let c17_i32_4 : BitVec 32 := 17#32
  let v11 : BitVec 32 := Scalar.divsi arg0 c17_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c17_i32_4 c0_i32_7
  let v18 : BitVec 32 := Scalar.extui v17
  let c0_i32_8 : BitVec 32 := 0#32
  let v19 : BitVec 1 := Scalar.cmpi .slt c17_i32_4 c0_i32_8
  let v20 : BitVec 32 := Scalar.extui v19
  let v21 : BitVec 32 := Scalar.subi v18 v20
  let v22 : BitVec 1 := Scalar.cmpi .ne v16 v21
  let v23 : BitVec 32 := Scalar.remsi arg0 c17_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c8_i32 : BitVec 32 := 8#32
  let v28 : BitVec 32 := Scalar.select v10 c8_i32 v27
  let c0_i32_11 : BitVec 32 := 0#32
  let c0_i32_12 : BitVec 32 := 0#32
  let c0_i32_13 : BitVec 32 := 0#32
  ![v28.toNat, c0_i32_11.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference4Ideal.lean ====
abbrev S8x4352x1024 : Shape := ⟨3, ![8, 4352, 1024]⟩
abbrev S16x6x1024 : Shape := ⟨3, ![16, 6, 1024]⟩
abbrev S8x4352x7680 : Shape := ⟨3, ![8, 4352, 7680]⟩
abbrev S8x4352x512 : Shape := ⟨3, ![8, 4352, 512]⟩
abbrev S512 : Shape := ⟨1, ![512]⟩
abbrev S512x1024 : Shape := ⟨2, ![512, 1024]⟩
abbrev S1024x1024 : Shape := ⟨2, ![1024, 1024]⟩
abbrev S8x4352x8x64 : Shape := ⟨4, ![8, 4352, 8, 64]⟩
abbrev S_ : Shape := ⟨0, ![]⟩
abbrev S8x4352x8 : Shape := ⟨3, ![8, 4352, 8]⟩
abbrev S8x4352x8x1 : Shape := ⟨4, ![8, 4352, 8, 1]⟩
abbrev S8x64 : Shape := ⟨2, ![8, 64]⟩
abbrev S1x1x8x64 : Shape := ⟨4, ![1, 1, 8, 64]⟩
abbrev S8x4352x3072 : Shape := ⟨3, ![8, 4352, 3072]⟩
abbrev S8x256x1024 : Shape := ⟨3, ![8, 256, 1024]⟩
abbrev S1x1x1024 : Shape := ⟨3, ![1, 1, 1024]⟩
abbrev S1024 : Shape := ⟨1, ![1024]⟩
abbrev S8x4096x1024 : Shape := ⟨3, ![8, 4096, 1024]⟩
abbrev S8x1x1024 : Shape := ⟨3, ![8, 1, 1024]⟩
abbrev S34816x1024 : Shape := ⟨2, ![34816, 1024]⟩

abbrev nBuf : Space → Nat
  | .hbm => 90
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S16x6x1024, .f32⟩
  | .hbm, ⟨2, _⟩ => ⟨S8x4352x7680, .f32⟩
  | .hbm, ⟨3, _⟩ => ⟨S8x4352x512, .f32⟩
  | .hbm, ⟨4, _⟩ => ⟨S8x4352x512, .f32⟩
  | .hbm, ⟨5, _⟩ => ⟨S8x4352x512, .bf16⟩
  | .hbm, ⟨6, _⟩ => ⟨S8x4352x512, .f32⟩
  | .hbm, ⟨7, _⟩ => ⟨S8x4352x512, .f32⟩
  | .hbm, ⟨8, _⟩ => ⟨S8x4352x512, .f32⟩
  | .hbm, ⟨9, _⟩ => ⟨S8x4352x512, .f32⟩
  | .hbm, ⟨10, _⟩ => ⟨S512, .f32⟩
  | .hbm, ⟨11, _⟩ => ⟨S512, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S1024x1024, .f32⟩
  | .hbm, ⟨16, _⟩ => ⟨S8x4352x512, .f32⟩
  | .hbm, ⟨17, _⟩ => ⟨S8x4352x8x64, .f32⟩
  | .hbm, ⟨18, _⟩ => ⟨S_, .f32⟩
  | .hbm, ⟨19, _⟩ => ⟨S8x4352x8, .f32⟩
  | .hbm, ⟨20, _⟩ => ⟨S8x4352x8x1, .f32⟩
  | .hbm, ⟨21, _⟩ => ⟨S_, .f32⟩
  | .hbm, ⟨22, _⟩ => ⟨S8x4352x8x1, .f32⟩
  | .hbm, ⟨23, _⟩ => ⟨S8x4352x8x1, .f32⟩
  | .hbm, ⟨24, _⟩ => ⟨S8x4352x8x64, .f32⟩
  | .hbm, ⟨25, _⟩ => ⟨S8x4352x8x64, .f32⟩
  | .hbm, ⟨26, _⟩ => ⟨S8x4352x8x64, .f32⟩
  | .hbm, ⟨27, _⟩ => ⟨S_, .f32⟩
  | .hbm, ⟨28, _⟩ => ⟨S8x4352x8, .f32⟩
  | .hbm, ⟨29, _⟩ => ⟨S8x4352x8x1, .f32⟩
  | .hbm, ⟨30, _⟩ => ⟨S_, .f32⟩
  | .hbm, ⟨31, _⟩ => ⟨S8x4352x8x1, .f32⟩
  | .hbm, ⟨32, _⟩ => ⟨S8x4352x8x1, .f32⟩
  | .hbm, ⟨33, _⟩ => ⟨S_, .f32⟩
  | .hbm, ⟨34, _⟩ => ⟨S8x4352x8x1, .f32⟩
  | .hbm, ⟨35, _⟩ => ⟨S8x4352x8x1, .f32⟩
  | .hbm, ⟨36, _⟩ => ⟨S8x4352x8x1, .f32⟩
  | .hbm, ⟨37, _⟩ => ⟨S8x4352x8x64, .f32⟩
  | .hbm, ⟨38, _⟩ => ⟨S8x4352x8x64, .f32⟩
  | .hbm, ⟨39, _⟩ => ⟨S8x64, .f32⟩
  | .hbm, ⟨40, _⟩ => ⟨S1x1x8x64, .f32⟩
  | .hbm, ⟨41, _⟩ => ⟨S8x4352x8x64, .f32⟩
  | .hbm, ⟨42, _⟩ => ⟨S8x4352x8x64, .f32⟩
  | .hbm, ⟨43, _⟩ => ⟨S8x64, .f32⟩
  | .hbm, ⟨44, _⟩ => ⟨S1x1x8x64, .f32⟩
  | .hbm, ⟨45, _⟩ => ⟨S8x4352x8x64, .f32⟩
  | .hbm, ⟨46, _⟩ => ⟨S8x4352x8x64, .f32⟩
  | .hbm, ⟨47, _⟩ => ⟨S8x4352x8x64, .f32⟩
  | .hbm, ⟨48, _⟩ => ⟨S8x4352x8x64, .f32⟩
  | .hbm, ⟨49, _⟩ => ⟨S8x4352x512, .f32⟩
  | .hbm, ⟨50, _⟩ => ⟨S8x4352x512, .f32⟩
  | .hbm, ⟨51, _⟩ => ⟨S8x4352x3072, .f32⟩
  | .hbm, ⟨52, _⟩ => ⟨S8x4352x3072, .f32⟩
  | .hbm, ⟨53, _⟩ => ⟨S8x4352x3072, .f32⟩
  | .hbm, ⟨54, _⟩ => ⟨S_, .f32⟩
  | .hbm, ⟨55, _⟩ => ⟨S8x4352x3072, .f32⟩
  | .hbm, ⟨56, _⟩ => ⟨S8x4352x3072, .f32⟩
  | .hbm, ⟨57, _⟩ => ⟨S_, .f32⟩
  | .hbm, ⟨58, _⟩ => ⟨S8x4352x3072, .f32⟩
  | .hbm, ⟨59, _⟩ => ⟨S8x4352x3072, .f32⟩
  | .hbm, ⟨60, _⟩ => ⟨S8x4352x1024, .f32⟩
  | .hbm, ⟨61, _⟩ => ⟨S8x4352x1024, .f32⟩
  | .hbm, ⟨62, _⟩ => ⟨S8x4352x1024, .f32⟩
  | .hbm, ⟨63, _⟩ => ⟨S8x4352x512, .f32⟩
  | .hbm, ⟨64, _⟩ => ⟨S8x4352x1024, .f32⟩
  | .hbm, ⟨65, _⟩ => ⟨S8x4352x1024, .f32⟩
  | .hbm, ⟨66, _⟩ => ⟨S8x4352x512, .f32⟩
  | .hbm, ⟨67, _⟩ => ⟨S8x4352x1024, .f32⟩
  | .hbm, ⟨68, _⟩ => ⟨S8x4352x1024, .f32⟩
  | .hbm, ⟨69, _⟩ => ⟨S8x4352x1024, .f32⟩
  | .hbm, ⟨70, _⟩ => ⟨S8x4352x1024, .f32⟩
  | .hbm, ⟨71, _⟩ => ⟨S8x4352x1024, .f32⟩
  | .hbm, ⟨72, _⟩ => ⟨S8x4352x1024, .f32⟩
  | .hbm, ⟨73, _⟩ => ⟨S8x4352x1024, .f32⟩
  | .hbm, ⟨74, _⟩ => ⟨S8x256x1024, .f32⟩
  | .hbm, ⟨75, _⟩ => ⟨S1x1x1024, .f32⟩
  | .hbm, ⟨76, _⟩ => ⟨S1024, .f32⟩
  | .hbm, ⟨77, _⟩ => ⟨S8x256x1024, .f32⟩
  | .hbm, ⟨78, _⟩ => ⟨S1x1x1024, .f32⟩
  | .hbm, ⟨79, _⟩ => ⟨S8x256x1024, .f32⟩
  | .hbm, ⟨80, _⟩ => ⟨S8x256x1024, .f32⟩
  | .hbm, ⟨81, _⟩ => ⟨S8x256x1024, .f32⟩
  | .hbm, ⟨82, _⟩ => ⟨S8x4096x1024, .f32⟩
  | .hbm, ⟨83, _⟩ => ⟨S8x1x1024, .f32⟩
  | .hbm, ⟨84, _⟩ => ⟨S8x4096x1024, .f32⟩
  | .hbm, ⟨85, _⟩ => ⟨S8x4096x1024, .f32⟩
  | .hbm, ⟨86, _⟩ => ⟨S8x4096x1024, .f32⟩
  | .hbm, ⟨87, _⟩ => ⟨S8x4096x1024, .f32⟩
  | .hbm, ⟨88, _⟩ => ⟨S8x4352x1024, .f32⟩
  | .hbm, ⟨89, _⟩ => ⟨S34816x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_4 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩

abbrev nD : Nat := 1
abbrev τ : Topo := Topo.v7x

variable {F : FTy → Type} [FloatOps F]
-- ==== Kernel5.lean ====
abbrev S8x4352x416 : Shape := ⟨3, ![8, 4352, 416]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S96 : Shape := ⟨1, ![96]⟩
abbrev S4096x8 : Shape := ⟨2, ![4096, 8]⟩
abbrev S_ : Shape := ⟨0, ![]⟩
abbrev S8x4352x5120 : Shape := ⟨3, ![8, 4352, 5120]⟩
abbrev S8x4352x384 : Shape := ⟨3, ![8, 4352, 384]⟩
abbrev S8x4352x64 : Shape := ⟨3, ![8, 4352, 64]⟩
abbrev S8x4352x32 : Shape := ⟨3, ![8, 4352, 32]⟩
abbrev S8x4352x2080 : Shape := ⟨3, ![8, 4352, 2080]⟩
abbrev S8x4352x7680 : Shape := ⟨3, ![8, 4352, 7680]⟩
abbrev S4096x64 : Shape := ⟨2, ![4096, 64]⟩
abbrev S4096x32 : Shape := ⟨2, ![4096, 32]⟩
abbrev S4096x128 : Shape := ⟨2, ![4096, 128]⟩
abbrev S256x128 : Shape := ⟨2, ![256, 128]⟩
abbrev S4352x128 : Shape := ⟨2, ![4352, 128]⟩
abbrev S256x8x96 : Shape := ⟨3, ![256, 8, 96]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S1x256 : Shape := ⟨2, ![1, 256]⟩
abbrev S1x128 : Shape := ⟨2, ![1, 128]⟩
abbrev S34816x7680 : Shape := ⟨2, ![34816, 7680]⟩
abbrev S34816x1024 : Shape := ⟨2, ![34816, 1024]⟩
abbrev S256x512 : Shape := ⟨2, ![256, 512]⟩
abbrev S256x256 : Shape := ⟨2, ![256, 256]⟩
abbrev S256x1 : Shape := ⟨2, ![256, 1]⟩
abbrev S1x1024 : Shape := ⟨2, ![1, 1024]⟩

abbrev nBuf : Space → Nat
  | .hbm => 75
  | .vmem => 19
  | .smem => 0
  | _ => 0

abbrev bufTy : (tb : Table) → Fin (tcTables nBuf tb) → BufTy
  | .hbm, ⟨0, _⟩ => ⟨S8x4352x416, .f32⟩
  | .hbm, ⟨1, _⟩ => ⟨S256, .f32⟩
  | .hbm, ⟨2, _⟩ => ⟨S256x768, .f32⟩
  | .hbm, ⟨3, _⟩ => ⟨S128, .f32⟩
  | .hbm, ⟨4, _⟩ => ⟨S128x1024, .f32⟩
  | .hbm, ⟨5, _⟩ => ⟨S96, .f32⟩
  | .hbm, ⟨6, _⟩ => ⟨S96, .f32⟩
  | .hbm, ⟨7, _⟩ => ⟨S4096x8, .f32⟩
  | .hbm, ⟨8, _⟩ => ⟨S4096x8, .f32⟩
  | .hbm, ⟨9, _⟩ => ⟨S_, .f32⟩
  | .hbm, ⟨10, _⟩ => ⟨S8x4352x5120, .f32⟩
  | .hbm, ⟨11, _⟩ => ⟨S8x4352x384, .f32⟩
  | .hbm, ⟨12, _⟩ => ⟨S_, .f32⟩
  | .hbm, ⟨13, _⟩ => ⟨S8x4352x64, .f32⟩
  | .hbm, ⟨14, _⟩ => ⟨S8x4352x32, .f32⟩
  | .hbm, ⟨15, _⟩ => ⟨S_, .f32⟩
  | .hbm, ⟨16, _⟩ => ⟨S8x4352x2080, .f32⟩
  | .hbm, ⟨17, _⟩ => ⟨S8x4352x7680, .f32⟩
  | .hbm, ⟨18, _⟩ => ⟨S_, .f32⟩
  | .hbm, ⟨19, _⟩ => ⟨S4096x64, .f32⟩
  | .hbm, ⟨20, _⟩ => ⟨S_, .f32⟩
  | .hbm, ⟨21, _⟩ => ⟨S4096x64, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S4096x8, .f32⟩
  | .hbm, ⟨26, _⟩ => ⟨S4096x32, .f32⟩
  | .hbm, ⟨27, _⟩ => ⟨S4096x128, .f32⟩
  | .hbm, ⟨28, _⟩ => ⟨S4096x8, .f32⟩
  | .hbm, ⟨29, _⟩ => ⟨S4096x8, .f32⟩
  | .hbm, ⟨30, _⟩ => ⟨S4096x8, .f32⟩
  | .hbm, ⟨31, _⟩ => ⟨S4096x8, .f32⟩
  | .hbm, ⟨32, _⟩ => ⟨S4096x8, .f32⟩
  | .hbm, ⟨33, _⟩ => ⟨S4096x8, .f32⟩
  | .hbm, ⟨34, _⟩ => ⟨S4096x32, .f32⟩
  | .hbm, ⟨35, _⟩ => ⟨S4096x128, .f32⟩
  | .hbm, ⟨36, _⟩ => ⟨S_, .f32⟩
  | .hbm, ⟨37, _⟩ => ⟨S256x128, .f32⟩
  | .hbm, ⟨38, _⟩ => ⟨S4352x128, .f32⟩
  | .hbm, ⟨39, _⟩ => ⟨S_, .f32⟩
  | .hbm, ⟨40, _⟩ => ⟨S256x128, .f32⟩
  | .hbm, ⟨41, _⟩ => ⟨S4352x128, .f32⟩
  | .hbm, ⟨42, _⟩ => ⟨S256x8x96, .f32⟩
  | .hbm, ⟨43, _⟩ => ⟨S_, .i32⟩
  | .hbm, ⟨44, _⟩ => ⟨S_, .f32⟩
  | .hbm, ⟨45, _⟩ => ⟨S256x8x128, .f32⟩
  | .hbm, ⟨46, _⟩ => ⟨S256x1024, .f32⟩
  | .hbm, ⟨47, _⟩ => ⟨S128x8x128, .f32⟩
  | .hbm, ⟨48, _⟩ => ⟨S128x8x64, .f32⟩
  | .hbm, ⟨49, _⟩ => ⟨S_, .i32⟩
  | .hbm, ⟨50, _⟩ => ⟨S_, .f32⟩
  | .hbm, ⟨51, _⟩ => ⟨S128x8x128, .f32⟩
  | .hbm, ⟨52, _⟩ => ⟨S128x1024, .f32⟩
  | .hbm, ⟨53, _⟩ => ⟨S128x8x64, .f32⟩
  | .hbm, ⟨54, _⟩ => ⟨S_, .i32⟩
  | .hbm, ⟨55, _⟩ => ⟨S_, .f32⟩
  | .hbm, ⟨56, _⟩ => ⟨S128x8x128, .f32⟩
  | .hbm, ⟨57, _⟩ => ⟨S128x1024, .f32⟩
  | .hbm, ⟨58, _⟩ => ⟨S1x256, .f32⟩
  | .hbm, ⟨59, _⟩ => ⟨S256x1024, .bf16⟩
  | .hbm, ⟨60, _⟩ => ⟨S1x128, .f32⟩
  | .hbm, ⟨61, _⟩ => ⟨S128x1024, .bf16⟩
  | .hbm, ⟨62, _⟩ => ⟨S128x1024, .bf16⟩
  | .hbm, ⟨63, _⟩ => ⟨S_, .i32⟩
  | .hbm, ⟨64, _⟩ => ⟨S_, .f32⟩
  | .hbm, ⟨65, _⟩ => ⟨S128, .f32⟩
  | .hbm, ⟨66, _⟩ => ⟨S1x128, .f32⟩
  | .hbm, ⟨67, _⟩ => ⟨S_, .i32⟩
  | .hbm, ⟨68, _⟩ => ⟨S_, .f32⟩
  | .hbm, ⟨69, _⟩ => ⟨S128, .f32⟩
  | .hbm, ⟨70, _⟩ => ⟨S1x128, .f32⟩
  | .hbm, ⟨71, _⟩ => ⟨S34816x7680, .f32⟩
  | .hbm, ⟨72, _⟩ => ⟨S34816x1024, .bf16⟩
  | .hbm, ⟨73, _⟩ => ⟨S34816x1024, .bf16⟩
  | .hbm, ⟨74, _⟩ => ⟨S34816x1024, .bf16⟩
  | .local _ .vmem, ⟨0, _⟩ => ⟨S256x512, .f32⟩
  | .local _ .vmem, ⟨1, _⟩ => ⟨S256x512, .f32⟩
  | .local _ .vmem, ⟨2, _⟩ => ⟨S1x256, .f32⟩
  | .local _ .vmem, ⟨3, _⟩ => ⟨S256x1024, .bf16⟩
  | .local _ .vmem, ⟨4, _⟩ => ⟨S1x128, .f32⟩
  | .local _ .vmem, ⟨5, _⟩ => ⟨S128x1024, .bf16⟩
  | .local _ .vmem, ⟨6, _⟩ => ⟨S128x1024, .bf16⟩
  | .local _ .vmem, ⟨7, _⟩ => ⟨S1x128, .f32⟩
  | .local _ .vmem, ⟨8, _⟩ => ⟨S1x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | _, _ => ⟨S8x4352x416, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c : Ref sig .tc := ⟨.hbm, 43, rfl⟩
abbrev main_call0_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_call1_v0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_call2_v0 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_8 : Ref sig .tc := ⟨.hbm, 63, rfl⟩
abbrev main_call3_v0 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_call4_v0 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46_0 : Ref sig .tc := ⟨.hbm, 72, rfl⟩
abbrev main_v46_1 : Ref sig .tc := ⟨.hbm, 73, rfl⟩
abbrev main_v46_2 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![136], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel5Ideal.lean ====
variable {F : FTy → Type} [FloatOps F] [Named F]
def κ : String → Option EReal := fun
  | "part" => some ((96⁻¹ : ℝ) : EReal)
  | "scale" => some (((Real.sqrt 96)⁻¹ * (Real.log 2)⁻¹ : ℝ) : EReal)
  | _ => none
-- ==== Reference5Ideal.lean ====
abbrev S8x4352x416 : Shape := ⟨3, ![8, 4352, 416]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S96 : Shape := ⟨1, ![96]⟩
abbrev S4096x8 : Shape := ⟨2, ![4096, 8]⟩
abbrev S8x4352x256 : Shape := ⟨3, ![8, 4352, 256]⟩
abbrev S8x4352x128 : Shape := ⟨3, ![8, 4352, 128]⟩
abbrev S8x4352x32 : Shape := ⟨3, ![8, 4352, 32]⟩
abbrev S_ : Shape := ⟨0, ![]⟩
abbrev S8x4352 : Shape := ⟨2, ![8, 4352]⟩
abbrev S8x4352x1 : Shape := ⟨3, ![8, 4352, 1]⟩
abbrev S1x1x256 : Shape := ⟨3, ![1, 1, 256]⟩
abbrev S8x4352x768 : Shape := ⟨3, ![8, 4352, 768]⟩
abbrev S8x4352x8x96 : Shape := ⟨4, ![8, 4352, 8, 96]⟩
abbrev S1x1x128 : Shape := ⟨3, ![1, 1, 128]⟩
abbrev S8x4352x1024 : Shape := ⟨3, ![8, 4352, 1024]⟩
abbrev S8x4352x8x128 : Shape := ⟨4, ![8, 4352, 8, 128]⟩
abbrev S8x4352x8x64 : Shape := ⟨4, ![8, 4352, 8, 64]⟩
abbrev S8x4352x1x32 : Shape := ⟨4, ![8, 4352, 1, 32]⟩
abbrev S8x4352x8x32 : Shape := ⟨4, ![8, 4352, 8, 32]⟩
abbrev S8x4352x8 : Shape := ⟨3, ![8, 4352, 8]⟩
abbrev S8x4352x8x1 : Shape := ⟨4, ![8, 4352, 8, 1]⟩
abbrev S1x1x1x96 : Shape := ⟨4, ![1, 1, 1, 96]⟩
abbrev S8x4096x8x96 : Shape := ⟨4, ![8, 4096, 8, 96]⟩
abbrev S8x4096x8x64 : Shape := ⟨4, ![8, 4096, 8, 64]⟩
abbrev S8x4096x8x32 : Shape := ⟨4, ![8, 4096, 8, 32]⟩
abbrev S8x4096x8x16 : Shape := ⟨4, ![8, 4096, 8, 16]⟩
abbrev S4096x1x8 : Shape := ⟨3, ![4096, 1, 8]⟩
abbrev S8x4096x8x8 : Shape := ⟨4, ![8, 4096, 8, 8]⟩
abbrev S1x4096x1x8 : Shape := ⟨4, ![1, 4096, 1, 8]⟩
abbrev S8x256x8x96 : Shape := ⟨4, ![8, 256, 8, 96]⟩
abbrev S8x4352x8x63 : Shape := ⟨4, ![8, 4352, 8, 63]⟩
abbrev S34816x1024 : Shape := ⟨2, ![34816, 1024]⟩

abbrev nBuf : Space → Nat
  | .hbm => 211
  | .vmem => 0
  | .smem => 0
  | _ => 0

abbrev hbmTy0_0 (i : Nat) : BufTy := match i % 128 with
  | 0 => ⟨S8x4352x416, .f32⟩
  | 1 => ⟨S256, .f32⟩
  | 2 => ⟨S256x768, .f32⟩
  | 3 => ⟨S128, .f32⟩
  | 4 => ⟨S128x1024, .f32⟩
  | 5 => ⟨S96, .f32⟩
  | 6 => ⟨S96, .f32⟩
  | 7 => ⟨S4096x8, .f32⟩
  | 8 => ⟨S4096x8, .f32⟩
  | 9 => ⟨S8x4352x256, .f32⟩
  | 10 => ⟨S8x4352x128, .f32⟩
  | 11 => ⟨S8x4352x32, .f32⟩
  | 12 => ⟨S8x4352x256, .f32⟩
  | 13 => ⟨S_, .f32⟩
  | 14 => ⟨S8x4352, .f32⟩
  | 15 => ⟨S8x4352x1, .f32⟩
  | 16 => ⟨S_, .f32⟩
  | 17 => ⟨S8x4352x1, .f32⟩
  | 18 => ⟨S8x4352x1, .f32⟩
  | 19 => ⟨S_, .f32⟩
  | 20 => ⟨S8x4352x1, .f32⟩
  | 21 => ⟨S8x4352x1, .f32⟩
  | 22 => ⟨S8x4352x1, .f32⟩
  | 23 => ⟨S8x4352x256, .f32⟩
  | 24 => ⟨S8x4352x256, .f32⟩
  | 25 => ⟨S1x1x256, .f32⟩
  | 26 => ⟨S8x4352x256, .f32⟩
  | 27 => ⟨S8x4352x256, .f32⟩
  | 28 => ⟨S8x4352x768, .f32⟩
  | 29 => ⟨S8x4352x8x96, .f32⟩
  | 30 => ⟨S8x4352x128, .f32⟩
  | 31 => ⟨S_, .f32⟩
  | 32 => ⟨S8x4352, .f32⟩
  | 33 => ⟨S8x4352x1, .f32⟩
  | 34 => ⟨S_, .f32⟩
  | 35 => ⟨S8x4352x1, .f32⟩
  | 36 => ⟨S8x4352x1, .f32⟩
  | 37 => ⟨S_, .f32⟩
  | 38 => ⟨S8x4352x1, .f32⟩
  | 39 => ⟨S8x4352x1, .f32⟩
  | 40 => ⟨S8x4352x1, .f32⟩
  | 41 => ⟨S8x4352x128, .f32⟩
  | 42 => ⟨S8x4352x128, .f32⟩
  | 43 => ⟨S1x1x128, .f32⟩
  | 44 => ⟨S8x4352x128, .f32⟩
  | 45 => ⟨S8x4352x128, .f32⟩
  | 46 => ⟨S8x4352x1024, .f32⟩
  | 47 => ⟨S8x4352x8x128, .f32⟩
  | 48 => ⟨S8x4352x8x64, .f32⟩
  | 49 => ⟨S8x4352x8x64, .f32⟩
  | 50 => ⟨S8x4352x1x32, .f32⟩
  | 51 => ⟨S8x4352x8x32, .f32⟩
  | 52 => ⟨S8x4352x8x96, .f32⟩
  | 53 => ⟨S_, .f32⟩
  | 54 => ⟨S8x4352x8, .f32⟩
  | 55 => ⟨S8x4352x8x1, .f32⟩
  | 56 => ⟨S_, .f32⟩
  | 57 => ⟨S8x4352x8x1, .f32⟩
  | 58 => ⟨S8x4352x8x1, .f32⟩
  | 59 => ⟨S_, .f32⟩
  | 60 => ⟨S8x4352x8x1, .f32⟩
  | 61 => ⟨S8x4352x8x1, .f32⟩
  | 62 => ⟨S8x4352x8x1, .f32⟩
  | 63 => ⟨S8x4352x8x96, .f32⟩
  | 64 => ⟨S8x4352x8x96, .f32⟩
  | 65 => ⟨S1x1x1x96, .f32⟩
  | 66 => ⟨S8x4352x8x96, .f32⟩
  | 67 => ⟨S8x4352x8x96, .f32⟩
  | 68 => ⟨S8x4352x8x96, .f32⟩
  | 69 => ⟨S8x4352x8x96, .f32⟩
  | 70 => ⟨S_, .f32⟩
  | 71 => ⟨S8x4352x8, .f32⟩
  | 72 => ⟨S8x4352x8x1, .f32⟩
  | 73 => ⟨S_, .f32⟩
  | 74 => ⟨S8x4352x8x1, .f32⟩
  | 75 => ⟨S8x4352x8x1, .f32⟩
  | 76 => ⟨S_, .f32⟩
  | 77 => ⟨S8x4352x8x1, .f32⟩
  | 78 => ⟨S8x4352x8x1, .f32⟩
  | 79 => ⟨S8x4352x8x1, .f32⟩
  | 80 => ⟨S8x4352x8x96, .f32⟩
  | 81 => ⟨S8x4352x8x96, .f32⟩
  | 82 => ⟨S1x1x1x96, .f32⟩
  | 83 => ⟨S8x4352x8x96, .f32⟩
  | 84 => ⟨S8x4352x8x96, .f32⟩
  | 85 => ⟨S8x4096x8x96, .f32⟩
  | 86 => ⟨S8x4096x8x64, .f32⟩
  | 87 => ⟨S8x4096x8x32, .f32⟩
  | 88 => ⟨S8x4096x8x16, .f32⟩
  | 89 => ⟨S8x4096x8x16, .f32⟩
  | 90 => ⟨S4096x8, .f32⟩
  | 91 => ⟨S4096x1x8, .f32⟩
  | 92 => ⟨S4096x8, .f32⟩
  | 93 => ⟨S4096x1x8, .f32⟩
  | 94 => ⟨S8x4096x8x8, .f32⟩
  | 95 => ⟨S8x4096x8x8, .f32⟩
  | 96 => ⟨S1x4096x1x8, .f32⟩
  | 97 => ⟨S8x4096x8x8, .f32⟩
  | 98 => ⟨S8x4096x8x8, .f32⟩
  | 99 => ⟨S1x4096x1x8, .f32⟩
  | 100 => ⟨S8x4096x8x8, .f32⟩
  | 101 => ⟨S8x4096x8x8, .f32⟩
  | 102 => ⟨S8x4096x8x8, .f32⟩
  | 103 => ⟨S1x4096x1x8, .f32⟩
  | 104 => ⟨S8x4096x8x8, .f32⟩
  | 105 => ⟨S8x4096x8x8, .f32⟩
  | 106 => ⟨S1x4096x1x8, .f32⟩
  | 107 => ⟨S8x4096x8x8, .f32⟩
  | 108 => ⟨S8x4096x8x8, .f32⟩
  | 109 => ⟨S8x4096x8x8, .f32⟩
  | 110 => ⟨S8x4096x8x16, .f32⟩
  | 111 => ⟨S4096x8, .f32⟩
  | 112 => ⟨S4096x1x8, .f32⟩
  | 113 => ⟨S4096x8, .f32⟩
  | 114 => ⟨S4096x1x8, .f32⟩
  | 115 => ⟨S8x4096x8x8, .f32⟩
  | 116 => ⟨S8x4096x8x8, .f32⟩
  | 117 => ⟨S1x4096x1x8, .f32⟩
  | 118 => ⟨S8x4096x8x8, .f32⟩
  | 119 => ⟨S8x4096x8x8, .f32⟩
  | 120 => ⟨S1x4096x1x8, .f32⟩
  | 121 => ⟨S8x4096x8x8, .f32⟩
  | 122 => ⟨S8x4096x8x8, .f32⟩
  | 123 => ⟨S8x4096x8x8, .f32⟩
  | 124 => ⟨S1x4096x1x8, .f32⟩
  | 125 => ⟨S8x4096x8x8, .f32⟩
  | 126 => ⟨S8x4096x8x8, .f32⟩
  | 127 => ⟨S1x4096x1x8, .f32⟩
  | _ => ⟨S8x4352x416, .f32⟩

abbrev hbmTy0_1 (i : Nat) : BufTy := match i % 128 with
  | 0 => ⟨S8x4096x8x8, .f32⟩
  | 1 => ⟨S8x4096x8x8, .f32⟩
  | 2 => ⟨S8x4096x8x8, .f32⟩
  | 3 => ⟨S8x4096x8x16, .f32⟩
  | 4 => ⟨S8x4096x8x32, .f32⟩
  | 5 => ⟨S8x4096x8x96, .f32⟩
  | 6 => ⟨S8x256x8x96, .f32⟩
  | 7 => ⟨S8x4352x8x96, .f32⟩
  | 8 => ⟨S_, .f32⟩
  | 9 => ⟨S_, .f32⟩
  | 10 => ⟨S_, .f32⟩
  | 11 => ⟨S_, .f32⟩
  | 12 => ⟨S_, .f32⟩
  | 13 => ⟨S8x4352x8x96, .f32⟩
  | 14 => ⟨S8x4352x8x96, .f32⟩
  | 15 => ⟨S_, .i32⟩
  | 16 => ⟨S_, .f32⟩
  | 17 => ⟨S8x4352x8x128, .f32⟩
  | 18 => ⟨S8x4096x8x96, .f32⟩
  | 19 => ⟨S8x4096x8x64, .f32⟩
  | 20 => ⟨S8x4096x8x32, .f32⟩
  | 21 => ⟨S8x4096x8x16, .f32⟩
  | 22 => ⟨S8x4096x8x16, .f32⟩
  | 23 => ⟨S4096x8, .f32⟩
  | 24 => ⟨S4096x1x8, .f32⟩
  | 25 => ⟨S4096x8, .f32⟩
  | 26 => ⟨S4096x1x8, .f32⟩
  | 27 => ⟨S8x4096x8x8, .f32⟩
  | 28 => ⟨S8x4096x8x8, .f32⟩
  | 29 => ⟨S1x4096x1x8, .f32⟩
  | 30 => ⟨S8x4096x8x8, .f32⟩
  | 31 => ⟨S8x4096x8x8, .f32⟩
  | 32 => ⟨S1x4096x1x8, .f32⟩
  | 33 => ⟨S8x4096x8x8, .f32⟩
  | 34 => ⟨S8x4096x8x8, .f32⟩
  | 35 => ⟨S8x4096x8x8, .f32⟩
  | 36 => ⟨S1x4096x1x8, .f32⟩
  | 37 => ⟨S8x4096x8x8, .f32⟩
  | 38 => ⟨S8x4096x8x8, .f32⟩
  | 39 => ⟨S1x4096x1x8, .f32⟩
  | 40 => ⟨S8x4096x8x8, .f32⟩
  | 41 => ⟨S8x4096x8x8, .f32⟩
  | 42 => ⟨S8x4096x8x8, .f32⟩
  | 43 => ⟨S8x4096x8x16, .f32⟩
  | 44 => ⟨S4096x8, .f32⟩
  | 45 => ⟨S4096x1x8, .f32⟩
  | 46 => ⟨S4096x8, .f32⟩
  | 47 => ⟨S4096x1x8, .f32⟩
  | 48 => ⟨S8x4096x8x8, .f32⟩
  | 49 => ⟨S8x4096x8x8, .f32⟩
  | 50 => ⟨S1x4096x1x8, .f32⟩
  | 51 => ⟨S8x4096x8x8, .f32⟩
  | 52 => ⟨S8x4096x8x8, .f32⟩
  | 53 => ⟨S1x4096x1x8, .f32⟩
  | 54 => ⟨S8x4096x8x8, .f32⟩
  | 55 => ⟨S8x4096x8x8, .f32⟩
  | 56 => ⟨S8x4096x8x8, .f32⟩
  | 57 => ⟨S1x4096x1x8, .f32⟩
  | 58 => ⟨S8x4096x8x8, .f32⟩
  | 59 => ⟨S8x4096x8x8, .f32⟩
  | 60 => ⟨S1x4096x1x8, .f32⟩
  | 61 => ⟨S8x4096x8x8, .f32⟩
  | 62 => ⟨S8x4096x8x8, .f32⟩
  | 63 => ⟨S8x4096x8x8, .f32⟩
  | 64 => ⟨S8x4096x8x16, .f32⟩
  | 65 => ⟨S8x4096x8x32, .f32⟩
  | 66 => ⟨S8x4096x8x96, .f32⟩
  | 67 => ⟨S8x256x8x96, .f32⟩
  | 68 => ⟨S8x4352x8x96, .f32⟩
  | 69 => ⟨S_, .i32⟩
  | 70 => ⟨S_, .f32⟩
  | 71 => ⟨S8x4352x8x128, .f32⟩
  | 72 => ⟨S_, .f32⟩
  | 73 => ⟨S8x4352x8x1, .f32⟩
  | 74 => ⟨S_, .f32⟩
  | 75 => ⟨S8x4352x8x63, .f32⟩
  | 76 => ⟨S8x4352x8x128, .f32⟩
  | 77 => ⟨S34816x1024, .f32⟩
  | 78 => ⟨S34816x1024, .bf16⟩
  | 79 => ⟨S34816x1024, .f32⟩
  | 80 => ⟨S34816x1024, .bf16⟩
  | 81 => ⟨S34816x1024, .f32⟩
  | 82 => ⟨S34816x1024, .bf16⟩
  | _ => ⟨S8x4352x416, .f32⟩

abbrev hbmTy (i : Nat) : BufTy := match i / 128 with
  | 0 => hbmTy0_0 i
  | 1 => hbmTy0_1 i
  | _ => ⟨S8x4352x416, .f32⟩

abbrev bufTy : (tb : Table) → Fin (tcTables nBuf tb) → BufTy
  | .hbm, ⟨i, _⟩ => hbmTy i
  | _, _ => ⟨S8x4352x416, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_cst_11 : Ref sig .tc := ⟨.hbm, 136, rfl⟩
abbrev main_v115 : Ref sig .tc := ⟨.hbm, 137, rfl⟩
abbrev main_cst_12 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_c : Ref sig .tc := ⟨.hbm, 143, rfl⟩
abbrev main_call0_v0 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_c_13 : Ref sig .tc := ⟨.hbm, 197, rfl⟩
abbrev main_call1_v0 : Ref sig .tc := ⟨.hbm, 198, rfl⟩
abbrev main_v172 : Ref sig .tc := ⟨.hbm, 199, rfl⟩
abbrev main_cst_14 : Ref sig .tc := ⟨.hbm, 200, rfl⟩
abbrev main_v173 : Ref sig .tc := ⟨.hbm, 201, rfl⟩
abbrev main_cst_15 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩

abbrev nD : Nat := 1
abbrev τ : Topo := Topo.v7x

variable {F : FTy → Type} [FloatOps F]
-- ==== Proof.Heads.lean ====
/-
  What one head of one grid point computes, element by element: a softmax row over its keys, for the context block
  (256 keys) and for the others (all 4352 keys).
-/
module

public import proofs.«01_k».proof.Proof.Gen.KernelIdeal.Value
public import Idealize.ShloMosaic.Lib.Pointwise

@[expose] public section

set_option maxRecDepth 16384

noncomputable section

namespace Cert.Attn

open Cert.KernelIdeal Cert.KernelIdeal.Gen Idealize.ShloMosaic

/-- One row of a head as the kernel forms it: `s` the scores, `v` one column of values, `o` the column of ones. -/
def kernelRow {n : ℕ} (s v o : Fin n → EReal) : EReal :=
  Ideal.div (∑ j, Ideal.exp2 (s j - Finset.univ.fold max ⊥ s) * v j) (∑ j, Ideal.exp2 (s j - Finset.univ.fold max ⊥ s) * o j)

/-- The score of query row `r` against key row `j` over the 128 lanes of a head. -/
def score {a b : ℕ} (q : (⟨3, ![1, a, 128]⟩ : Shape).Idx → EReal) (k : (⟨3, ![1, b, 128]⟩ : Shape).Idx → EReal) (r : Fin a) (j : Fin b) : EReal :=
  ∑ d : Fin 128, q (ix3 0 r d) * k (ix3 0 j d)

/-- The word the maximum starts from is minus infinity. -/
theorem negInf : Ideal.ofBits .f32 0xFF800000#32 = ⊥ := by
  simp [Ideal.ofBits, Ideal.ieee]

theorem head0_A (q : Vec Ideal S1x256x128 .bf16) (k v : Vec Ideal S1x256x128 .bf16) (r : Fin 256) (e : Fin 64) :
    k0_pay7 (k0_pay5 q k) v (ix2 r e)
      = kernelRow (score q k r) (fun j => v (ix3 0 j ⟨e.val, by omega⟩)) (fun j => v (ix3 0 j 64)) := by
  unfold kernelRow score
  pointwise [k0_pay7, k0_pay5]
  rw [negInf]
  rfl

theorem head1_A (q : Vec Ideal S1x256x128 .bf16) (k v : Vec Ideal S1x256x128 .bf16) (r : Fin 256) (e : Fin 64) :
    k0_pay8 (k0_pay6 q k) v (ix2 r e)
      = kernelRow (score q k r) (fun j => v (ix3 0 j ⟨e.val, by omega⟩)) (fun j => v (ix3 0 j 64)) := by
  unfold kernelRow score
  pointwise [k0_pay8, k0_pay6]
  rw [negInf]
  rfl

theorem head2_A (q : Vec Ideal S1x256x128 .bf16) (k v : Vec Ideal S1x256x128 .bf16) (r : Fin 256) (e : Fin 64) :
    k0_pay9 (k0_pay3 q k) v (ix2 r e)
      = kernelRow (score q k r) (fun j => v (ix3 0 j ⟨e.val, by omega⟩)) (fun j => v (ix3 0 j 64)) := by
  unfold kernelRow score
  pointwise [k0_pay9, k0_pay3]
  rw [negInf]
  rfl

theorem head3_A (q : Vec Ideal S1x256x128 .bf16) (k v : Vec Ideal S1x256x128 .bf16) (r : Fin 256) (e : Fin 64) :
    k0_pay10 (k0_pay4 q k) v (ix2 r e)
      = kernelRow (score q k r) (fun j => v (ix3 0 j ⟨e.val, by omega⟩)) (fun j => v (ix3 0 j 64)) := by
  unfold kernelRow score
  pointwise [k0_pay10, k0_pay4]
  rw [negInf]
  rfl

theorem head0_B (q : Vec Ideal S1x256x128 .bf16) (k v : Vec Ideal S1x4352x128 .bf16) (r : Fin 256) (e : Fin 64) :
    k0_pay15 (k0_pay13 q k) v (ix2 r e)
      = kernelRow (score q k r) (fun j => v (ix3 0 j ⟨e.val, by omega⟩)) (fun j => v (ix3 0 j 64)) := by
  unfold kernelRow score
  pointwise [k0_pay15, k0_pay13]
  rw [negInf]
  rfl

theorem head1_B (q : Vec Ideal S1x256x128 .bf16) (k v : Vec Ideal S1x4352x128 .bf16) (r : Fin 256) (e : Fin 64) :
    k0_pay16 (k0_pay14 q k) v (ix2 r e)
      = kernelRow (score q k r) (fun j => v (ix3 0 j ⟨e.val, by omega⟩)) (fun j => v (ix3 0 j 64)) := by
  unfold kernelRow score
  pointwise [k0_pay16, k0_pay14]
  rw [negInf]
  rfl

theorem head2_B (q : Vec Ideal S1x256x128 .bf16) (k v : Vec Ideal S1x4352x128 .bf16) (r : Fin 256) (e : Fin 64) :
    k0_pay17 (k0_pay11 q k) v (ix2 r e)
      = kernelRow (score q k r) (fun j => v (ix3 0 j ⟨e.val, by omega⟩)) (fun j => v (ix3 0 j 64)) := by
  unfold kernelRow score
  pointwise [k0_pay17, k0_pay11]
  rw [negInf]
  rfl

theorem head3_B (q : Vec Ideal S1x256x128 .bf16) (k v : Vec Ideal S1x4352x128 .bf16) (r : Fin 256) (e : Fin 64) :
    k0_pay18 (k0_pay12 q k) v (ix2 r e)
      = kernelRow (score q k r) (fun j => v (ix3 0 j ⟨e.val, by omega⟩)) (fun j => v (ix3 0 j 64)) := by
  unfold kernelRow score
  pointwise [k0_pay18, k0_pay12]
  rw [negInf]
  rfl

end Cert.Attn

end
-- ==== Proof.Block.lean ====
/-
  What one grid point leaves in the output block: four heads side by side, 64 columns each.
-/
module

public import proofs.«01_k».proof.Proof.Heads
public import Idealize.ShloMosaic.Lib.Pipeline.ValueKit

@[expose] public section

set_option maxRecDepth 16384

noncomputable section

namespace Cert.Attn

open Cert.KernelIdeal Cert.KernelIdeal.Gen Idealize.ShloMosaic

/-- Element `(r, l)` of an output block: head `l / 64` of the block, column `l % 64` of its values, over the first `n` keys. -/
def blockAt (n : ℕ) (hn : n ≤ 4352) (x0 : Vec Ideal S1x256x512 .bf16) (x1 x2 : Vec Ideal S1x4352x512 .bf16) (r l : Fin 256) : EReal :=
  kernelRow
    (fun j : Fin n => ∑ d : Fin 128, x0 (ix3 0 r ⟨128 * (l.val / 64) + d.val, by omega⟩)
      * x1 (ix3 0 ⟨j.val, by omega⟩ ⟨128 * (l.val / 64) + d.val, by omega⟩))
    (fun j => x2 (ix3 0 ⟨j.val, by omega⟩ ⟨128 * (l.val / 64) + l.val % 64, by omega⟩))
    (fun j => x2 (ix3 0 ⟨j.val, by omega⟩ ⟨128 * (l.val / 64) + 64, by omega⟩))

/-- A grid point of the context rows attends to the first 256 keys. -/
theorem block_A (c : Dev nD) (i : grid0.Coords) (arg3 : Memref sig .tc .vmem S1x256x512 .bf16) (harg3 : arg3.IsWhole) (arg4 : Memref sig .tc .vmem S1x4352x512 .bf16) (harg4 : arg4.IsWhole) (arg5 : Memref sig .tc .vmem S1x4352x512 .bf16) (harg5 : arg5.IsWhole) (arg6 : Memref sig .tc .vmem S1x256x256 .bf16) (harg6 : arg6.IsWhole) (hc0 : cond0_0 i) (hc1 : ¬cond0_1 i)
    (x0 : Vec Ideal S1x256x512 .bf16) (x1 x2 : Vec Ideal S1x4352x512 .bf16) (r l : Fin 256) :
    out0_A_3 c i arg3 harg3 arg4 harg4 arg5 harg5 arg6 harg6 hc0 hc1 x0 x1 x2 (ix3 0 r l) = blockAt 256 (by decide) x0 x1 x2 r l := by
  frame_out
  pointwise [k0_pay1]
  unfold blockAt
  split
  · have h1 : l.val / 64 = 0 := by omega
    have h2 : l.val % 64 = l.val := by omega
    rw [head0_A]; unfold score
    simp only [h1, h2]
    pointwise
  split
  · have h1 : l.val / 64 = 1 := by omega
    have h2 : l.val % 64 = l.val - 64 := by omega
    rw [head1_A]; unfold score
    simp only [h1, h2]
    pointwise
  split
  · have h1 : l.val / 64 = 2 := by omega
    have h2 : l.val % 64 = l.val - 64 - 64 := by omega
    rw [head2_A]; unfold score
    simp only [h1, h2]
    pointwise
  · have h1 : l.val / 64 = 3 := by omega
    have h2 : l.val % 64 = l.val - 64 - 64 - 64 := by omega
    rw [head3_A]; unfold score
    simp only [h1, h2]
    pointwise

/-- Every other grid point attends to all 4352 keys. -/
theorem block_B (c : Dev nD) (i : grid0.Coords) (arg3 : Memref sig .tc .vmem S1x256x512 .bf16) (harg3 : arg3.IsWhole) (arg4 : Memref sig .tc .vmem S1x4352x512 .bf16) (harg4 : arg4.IsWhole) (arg5 : Memref sig .tc .vmem S1x4352x512 .bf16) (harg5 : arg5.IsWhole) (arg6 : Memref sig .tc .vmem S1x256x256 .bf16) (harg6 : arg6.IsWhole) (hc0 : ¬cond0_0 i) (hc1 : cond0_1 i)
    (x0 : Vec Ideal S1x256x512 .bf16) (x1 x2 : Vec Ideal S1x4352x512 .bf16) (r l : Fin 256) :
    out0_B_3 c i arg3 harg3 arg4 harg4 arg5 harg5 arg6 harg6 hc0 hc1 x0 x1 x2 (ix3 0 r l) = blockAt 4352 le_rfl x0 x1 x2 r l := by
  frame_out
  pointwise [k0_pay2]
  unfold blockAt
  split
  · have h1 : l.val / 64 = 0 := by omega
    have h2 : l.val % 64 = l.val := by omega
    rw [head0_B]; unfold score
    simp only [h1, h2]
    pointwise
  split
  · have h1 : l.val / 64 = 1 := by omega
    have h2 : l.val % 64 = l.val - 64 := by omega
    rw [head1_B]; unfold score
    simp only [h1, h2]
    pointwise
  split
  · have h1 : l.val / 64 = 2 := by omega
    have h2 : l.val % 64 = l.val - 64 - 64 := by omega
    rw [head2_B]; unfold score
    simp only [h1, h2]
    pointwise
  · have h1 : l.val / 64 = 3 := by omega
    have h2 : l.val % 64 = l.val - 64 - 64 - 64 := by omega
    rw [head3_B]; unfold score
    simp only [h1, h2]
    pointwise

end Cert.Attn

end
-- ==== Proof.Array.lean ====
/-
  The result array after the run, from the packed arrays the launch reads: the output blocks tile it.
-/
module

public import proofs.«01_k».proof.Proof.Block

@[expose] public section

set_option maxRecDepth 16384

noncomputable section

namespace Cert.Attn

open Cert.KernelIdeal Cert.KernelIdeal.Gen Idealize.ShloMosaic Idealize.ShloMosaic.TcCoe
open Idealize.ShloMosaic.Pipeline (Dat)

/-- Where each window's block lies at a grid point: batch, query tile and head group from the point's position. -/
theorem idx_facts : ∀ t : Fin cfg0.N, win0_0.index t = ![t.val / 34, t.val % 17, t.val / 17 % 2]
    ∧ win0_1.index t = ![t.val / 34, 0, t.val / 17 % 2] ∧ win0_2.index t = ![t.val / 34, 0, t.val / 17 % 2]
    ∧ win0_3.index t = ![t.val / 34, t.val % 17, t.val / 17 % 2] :=
  (by decide +kernel : ∀ t : Fin grid0.N, win0_0.index t = ![t.val / 34, t.val % 17, t.val / 17 % 2]
    ∧ win0_1.index t = ![t.val / 34, 0, t.val / 17 % 2] ∧ win0_2.index t = ![t.val / 34, 0, t.val / 17 % 2]
    ∧ win0_3.index t = ![t.val / 34, t.val % 17, t.val / 17 % 2])

/-- Element `(b, l, x)` of the result over the first `n` keys, from the packed queries, keys and values. -/
def packedAt (n : ℕ) (hn : n ≤ 4352) (X0 X1 X2 : S8x4352x1024.Idx → EReal) (b : Fin 8) (l : Fin 4352) (x : Fin 512) : EReal :=
  kernelRow
    (fun j : Fin n => ∑ d : Fin 128, X0 (ix3 b l ⟨128 * (x.val / 64) + d.val, by omega⟩)
      * X1 (ix3 b ⟨j.val, by omega⟩ ⟨128 * (x.val / 64) + d.val, by omega⟩))
    (fun j => X2 (ix3 b ⟨j.val, by omega⟩ ⟨128 * (x.val / 64) + x.val % 64, by omega⟩))
    (fun j => X2 (ix3 b ⟨j.val, by omega⟩ ⟨128 * (x.val / 64) + 64, by omega⟩))

/-- The result array as a function of the packed arrays: the first 256 rows see the first 256 keys, the others all. -/
def packedOut (X0 X1 X2 : S8x4352x1024.Idx → EReal) (i : S8x4352x512.Idx) : EReal :=
  if (i 1).val < 256 then packedAt 256 (by decide) X0 X1 X2 (i 0) (i 1) (i 2) else packedAt 4352 le_rfl X0 X1 X2 (i 0) (i 1) (i 2)

/-- A block's element is the array's element at its place, over the same keys. -/
theorem block_packed (n : ℕ) (hn : n ≤ 4352) (T : ℕ) (hT : T < 272) (x0 : Vec Ideal S1x256x512 .bf16) (x1 x2 : Vec Ideal S1x4352x512 .bf16)
    (X0 X1 X2 : S8x4352x1024.Idx → EReal)
    (e0 : ∀ (r : Fin 256) (x : Fin 512), x0 (ix3 0 r x) = X0 (ix3 ⟨T / 34, by omega⟩ ⟨256 * (T % 17) + r.val, by omega⟩ ⟨512 * (T / 17 % 2) + x.val, by omega⟩))
    (e1 : ∀ (r : Fin 4352) (x : Fin 512), x1 (ix3 0 r x) = X1 (ix3 ⟨T / 34, by omega⟩ r ⟨512 * (T / 17 % 2) + x.val, by omega⟩))
    (e2 : ∀ (r : Fin 4352) (x : Fin 512), x2 (ix3 0 r x) = X2 (ix3 ⟨T / 34, by omega⟩ r ⟨512 * (T / 17 % 2) + x.val, by omega⟩))
    (r l : Fin 256) :
    blockAt n hn x0 x1 x2 r l
      = packedAt n hn X0 X1 X2 ⟨T / 34, by omega⟩ ⟨256 * (T % 17) + r.val, by omega⟩ ⟨256 * (T / 17 % 2) + l.val, by omega⟩ := by
  unfold blockAt packedAt
  have f1 : (256 * (T / 17 % 2) + l.val) / 64 = 4 * (T / 17 % 2) + l.val / 64 := by omega
  have f2 : (256 * (T / 17 % 2) + l.val) % 64 = l.val % 64 := by omega
  have f3 : ∀ d : ℕ, 512 * (T / 17 % 2) + (128 * (l.val / 64) + d) = 128 * (4 * (T / 17 % 2) + l.val / 64) + d := by intro d; omega
  simp only [e0, e1, e2, f1, f2, f3]

/-- A query block of any array, read at the array. -/
theorem q_read (c : Dev nD) (A : Buf (Elt Ideal) ((c : Thread nD τ).loc (Pipeline.arrRef spec0 0))) (t : Fin cfg0.N) (r : Fin 256) (x : Fin 512) :
    ((cfg0.win 0).blk t).view.read (Elt Ideal) A (ix3 0 r x) = (A : S8x4352x1024.Idx → EReal) (ix3 ⟨t.val / 34, by have : t.val < 272 := t.isLt; omega⟩
      ⟨256 * (t.val % 17) + r.val, by omega⟩ ⟨512 * (t.val / 17 % 2) + x.val, by omega⟩) := by
  obtain ⟨h0, h1, h2, h3⟩ := idx_facts t
  blk_ext [h0]

/-- A key block of any array, read at the array. -/
theorem k_read (c : Dev nD) (A : Buf (Elt Ideal) ((c : Thread nD τ).loc (Pipeline.arrRef spec0 1))) (t : Fin cfg0.N) (r : Fin 4352) (x : Fin 512) :
    ((cfg0.win 1).blk t).view.read (Elt Ideal) A (ix3 0 r x) = (A : S8x4352x1024.Idx → EReal) (ix3 ⟨t.val / 34, by have : t.val < 272 := t.isLt; omega⟩
      r ⟨512 * (t.val / 17 % 2) + x.val, by omega⟩) := by
  obtain ⟨h0, h1, h2, h3⟩ := idx_facts t
  blk_ext [h1]

/-- A value block of any array, read at the array. -/
theorem v_read (c : Dev nD) (A : Buf (Elt Ideal) ((c : Thread nD τ).loc (Pipeline.arrRef spec0 2))) (t : Fin cfg0.N) (r : Fin 4352) (x : Fin 512) :
    ((cfg0.win 2).blk t).view.read (Elt Ideal) A (ix3 0 r x) = (A : S8x4352x1024.Idx → EReal) (ix3 ⟨t.val / 34, by have : t.val < 272 := t.isLt; omega⟩
      r ⟨512 * (t.val / 17 % 2) + x.val, by omega⟩) := by
  obtain ⟨h0, h1, h2, h3⟩ := idx_facts t
  blk_ext [h2]

variable (m : (ℓ : Loc nD τ sig) → Buf (Elt Ideal) ℓ)

/-- What the body leaves at a grid point, over abstract arrays. -/
theorem after_eq (c : Dev nD) (X0 X1 X2 : S8x4352x1024.Idx → EReal) (t : Fin cfg0.N) (x0 : Vec Ideal S1x256x512 .bf16) (x1 x2 : Vec Ideal S1x4352x512 .bf16)
    (hX0 : ∀ (r : Fin 256) (x : Fin 512), x0 (ix3 0 r x) = X0 (ix3 ⟨t.val / 34, by have : t.val < 272 := t.isLt; omega⟩ ⟨256 * (t.val % 17) + r.val, by omega⟩ ⟨512 * (t.val / 17 % 2) + x.val, by omega⟩))
    (hX1 : ∀ (r : Fin 4352) (x : Fin 512), x1 (ix3 0 r x) = X1 (ix3 ⟨t.val / 34, by have : t.val < 272 := t.isLt; omega⟩ r ⟨512 * (t.val / 17 % 2) + x.val, by omega⟩))
    (hX2 : ∀ (r : Fin 4352) (x : Fin 512), x2 (ix3 0 r x) = X2 (ix3 ⟨t.val / 34, by have : t.val < 272 := t.isLt; omega⟩ r ⟨512 * (t.val / 17 % 2) + x.val, by omega⟩))
    (r l : Fin 256) (n : ℕ) (hn : n ≤ 4352) (hc : n = if t.val % 17 = 0 then 256 else 4352) :
    blockAt n hn x0 x1 x2 r l = packedOut X0 X1 X2 (ix3 ⟨t.val / 34, by have : t.val < 272 := t.isLt; omega⟩ ⟨256 * (t.val % 17) + r.val, by omega⟩ ⟨256 * (t.val / 17 % 2) + l.val, by omega⟩) := by
  rw [block_packed n hn t.val t.isLt x0 x1 x2 X0 X1 X2 hX0 hX1 hX2]
  unfold packedOut
  by_cases hz : t.val % 17 = 0
  · rw [if_pos hz] at hc; subst hc
    have hlt : 256 * (t.val % 17) + r.val < 256 := by omega
    exact (if_pos hlt).symm
  · rw [if_neg hz] at hc; subst hc
    have hge : ¬ 256 * (t.val % 17) + r.val < 256 := by omega
    exact (if_neg hge).symm

/-- Where an element of an output block lies in the result array. -/
theorem out_place (t : Fin cfg0.N) (r l : Fin 256) :
    (win0_3.blk t).view.emb (ix3 0 r l) = (ix3 ⟨t.val / 34, by have : t.val < 272 := t.isLt; omega⟩ ⟨256 * (t.val % 17) + r.val, by omega⟩
      ⟨256 * (t.val / 17 % 2) + l.val, by omega⟩ : S8x4352x512.Idx) := by
  obtain ⟨h0, h1, h2, h3⟩ := idx_facts t
  blk_ext [h3]

/-- The output blocks tile the result array. -/
theorem arr_eq (c : Dev nD) : (dats m 0 c).arrAt 3 cfg0.N = packedOut (V m c main_v10) (V m c main_v13) (V m c main_v20) := by
  refine (dats m 0 c).arrAt_eq_of_covers 3 _ (by decide +kernel) fun t hf y => ?_
  obtain ⟨u, r, l, rfl⟩ : ∃ (u : Fin 1) (r l : Fin 256), y = ix3 u r l := ⟨y 0, y 1, y 2, eq_ix3 y⟩
  obtain rfl : u = 0 := Subsingleton.elim _ _
  blk_simp
  rw [out_place, after0_3]
  have e0 := q_read c (V m c main_v10) t
  have e1 := k_read c (V m c main_v13) t
  have e2 := v_read c (V m c main_v20) t
  by_cases hz : t.val % 17 = 0
  · rw [outsAt0_A m c t hz (by omega)]
    refine (block_A _ _ _ _ _ _ _ _ _ _ _ _ _ _ _ r l).trans ?_
    exact after_eq c _ _ _ t _ _ _ e0 e1 e2 r l 256 _ (if_pos hz).symm
  · rw [outsAt0_B m c t hz (by omega)]
    refine (block_B _ _ _ _ _ _ _ _ _ _ _ _ _ _ _ r l).trans ?_
    exact after_eq c _ _ _ t _ _ _ e0 e1 e2 r l 4352 _ (if_neg hz).symm

end Cert.Attn

end
-- ==== Proof.Packed.lean ====
/-
  The packed queries, keys and values the launch reads, element by element from the arguments.
-/
module

public import proofs.«01_k».proof.Proof.Array
public import Idealize.ShloMosaic.Lib.StableHlo.ReadAt
public import Idealize.ShloMosaic.Lib.Claim

@[expose] public section

set_option maxRecDepth 16384

noncomputable section

namespace Cert.Attn

open Cert.KernelIdeal Cert.KernelIdeal.Gen Idealize.ShloMosaic Idealize.ShloMosaic.TcCoe

variable (m : (ℓ : Loc nD τ sig) → Buf (Elt Ideal) ℓ)

/-- A head of `n` lanes in the 128 the call reads: the lanes past the head hold zero. -/
def lane {n : Nat} (f : Fin n → EReal) (d : Fin 128) : EReal := if h : d.val < n then f ⟨d.val, h⟩ else 0

/-- The zero the heads are padded with. -/
theorem pad_zero : FloatOps.sitofp (F := Ideal) FTy.f32 (0#32) = (0 : EReal) := by
  simp [FloatOps.sitofp]

/-- What a query is divided by: the root of the head's size times the logarithm of two. -/
theorem unscale_eq : Ideal.sqrt (Ideal.ofBits FTy.f32 1119879168#32) * Ideal.log (Ideal.ofBits FTy.f32 1073741824#32)
    = ((Real.sqrt 96 * Real.log 2 : ℝ) : EReal) := by
  have h96 : Ideal.ofBits FTy.f32 1119879168#32 = ((96 : ℝ) : EReal) := by
    simp [Ideal.ofBits, Ideal.ieee]; rw [← EReal.coe_mul]; norm_num
  have h2 : Ideal.ofBits FTy.f32 1073741824#32 = ((2 : ℝ) : EReal) := by
    simp [Ideal.ofBits, Ideal.ieee]; rw [← EReal.coe_mul]; norm_num
  rw [h96, h2, Ideal.sqrt_coe, Ideal.log_coe, if_neg (by norm_num), if_neg (by norm_num), EReal.coe_mul]

/-- A packed query: its head's lane of the argument, over `√96 · log 2`. -/
theorem q_packed (c : Dev nD) (b : Fin 8) (l : Fin 4352) (x : Fin 1024) (h : Fin 8) (d : Fin 128)
    (hh : x.val / 128 = h.val) (hd : x.val % 128 = d.val) :
    (V m c main_v10 : S8x4352x1024.Idx → EReal) (ix3 b l x)
      = Ideal.div (lane (fun d : Fin 96 => (m (c, Proc.tc.devRef main_arg0) : S8x4352x8x96.Idx → EReal) (ix4 b l h d)) d)
          ((Real.sqrt 96 * Real.log 2 : ℝ) : EReal) := by
  have hl := h.isLt
  unfold V
  after_reads_at
  rw [unscale_eq]
  congr 1
  unfold lane
  by_cases hc : d.val < 96
  · rw [dif_pos hc, dif_pos ⟨by omega, by omega⟩]
    congr 2 <;> exact Fin.ext (by assumption)
  · rw [dif_neg hc, dif_neg (by omega)]
    exact pad_zero

/-- A packed key: its head's lane of the argument. -/
theorem k_packed (c : Dev nD) (b : Fin 8) (l : Fin 4352) (x : Fin 1024) (h : Fin 8) (d : Fin 128)
    (hh : x.val / 128 = h.val) (hd : x.val % 128 = d.val) :
    (V m c main_v13 : S8x4352x1024.Idx → EReal) (ix3 b l x)
      = lane (fun d : Fin 96 => (m (c, Proc.tc.devRef main_arg1) : S8x4352x8x96.Idx → EReal) (ix4 b l h d)) d := by
  have hl := h.isLt
  unfold V
  after_reads_at
  unfold lane
  by_cases hc : d.val < 96
  · rw [dif_pos hc, dif_pos ⟨by omega, by omega⟩]
    congr 2 <;> exact Fin.ext (by assumption)
  · rw [dif_neg hc, dif_neg (by omega)]
    exact pad_zero

/-- The column of ones: one at lane 64, zero at the others. -/
theorem ones_at (x : Fin 128) :
    (select
      (cmpi CmpIPredicate.eq (iotaInDim S1x1x1x128 32 3)
        (broadcastInDim S1x1x1x128 ![] bcast_S_S1x1x1x128 (constantI S_ 32 64#32)))
      (broadcastInDim S1x1x1x128 ![] bcast_S_S1x1x1x128 (constant (F := Ideal) S_ FTy.f32 1065353216#32))
      (broadcastInDim S1x1x1x128 ![] bcast_S_S1x1x1x128 (constant (F := Ideal) S_ FTy.f32 0#32)))
      (ix4 0 0 0 x) = if x.val = 64 then (1 : EReal) else 0 := by
  pointwise
  have hx := x.isLt
  have hw : (BitVec.ofNat 32 x.val = 64#32) ↔ x.val = 64 := by
    rw [← BitVec.toNat_inj]
    simp only [BitVec.toNat_ofNat]
    omega
  by_cases h : x.val = 64
  · simp [Scalar.select, IntOp.cmpi, h]
  · have hb : (BitVec.ofNat 32 x.val == 64#32) = false := beq_eq_false_iff_ne.2 (fun e => h (hw.1 e))
    simp [Scalar.select, IntOp.cmpi, hb, h]

/-- A packed value: its head's lane of the argument, and one at lane 64. -/
theorem v_packed (c : Dev nD) (b : Fin 8) (l : Fin 4352) (x : Fin 1024) (h : Fin 8) (d : Fin 128)
    (hh : x.val / 128 = h.val) (hd : x.val % 128 = d.val) :
    (V m c main_v20 : S8x4352x1024.Idx → EReal) (ix3 b l x)
      = lane (fun d : Fin 64 => (m (c, Proc.tc.devRef main_arg2) : S8x4352x8x64.Idx → EReal) (ix4 b l h d)) d
        + (if d.val = 64 then (1 : EReal) else 0) := by
  have hl := h.isLt
  unfold V
  after_reads_at
  congr 1
  · unfold lane
    by_cases hc : d.val < 64
    · rw [dif_pos hc, dif_pos ⟨by omega, by omega⟩]
      congr 2 <;> exact Fin.ext (by assumption)
    · rw [dif_neg hc, dif_neg (by omega)]
      exact pad_zero
  · refine (ones_at _).trans ?_
    simp only [hd]

end Cert.Attn

end
-- ==== Proof.Reference.lean ====
/-
  The reference at an index: a row of weights against its values, for the context rows and for the latent rows.
-/
module

public import proofs.«01_k».proof.Proof.Gen.ReferenceIdeal.Read
public import Idealize.ShloMosaic.Lib.Pointwise

@[expose] public section

set_option maxRecDepth 16384

noncomputable section

namespace Cert.Attn.Ref

open Cert.ReferenceIdeal Cert.ReferenceIdeal.Gen Cert.ReferenceIdeal.Read Idealize.ShloMosaic Idealize.ShloMosaic.TcCoe

/-- The softmax of a row of scores against a row of values, the weights divided before the sum. -/
def softRow {n : Nat} (s v : Fin n → EReal) : EReal :=
  ∑ j, v j * Ideal.div (Ideal.exp (s j - Finset.univ.fold max ⊥ s)) (∑ j, Ideal.exp (s j - Finset.univ.fold max ⊥ s))

/-- The score of a query row against a key row in one head. -/
def scoreAt (q k : S8x4352x8x96.Idx → EReal) (b : Fin 8) (i j : Fin 4352) (h : Fin 8) : EReal :=
  Ideal.div (∑ d : Fin 96, q (ix4 b i h d) * k (ix4 b j h d)) (Ideal.sqrt (Ideal.ofBits FTy.f32 0x42C00000#32))

/-- An element of the result computed over the first `n` key rows. -/
def refAt (n : Nat) (hn : n ≤ 4352) (q k : S8x4352x8x96.Idx → EReal) (v : S8x4352x8x64.Idx → EReal) (b : Fin 8) (i : Fin 4352)
    (x : Fin 512) : EReal :=
  softRow (fun j : Fin n => scoreAt q k b i ⟨j.val, j.isLt.trans_le hn⟩ ⟨x.val / 64, by omega⟩)
    (fun j : Fin n => v (ix4 b ⟨j.val, j.isLt.trans_le hn⟩ ⟨x.val / 64, by omega⟩ ⟨x.val % 64, by omega⟩))

/-- The word of negative infinity denotes the bottom of the extended reals. -/
theorem negInf : Ideal.ofBits .f32 0xFF800000#32 = ⊥ := by
  simp [Ideal.ofBits, Ideal.ieee]

/-! ### The context rows -/

/-- A score of the context rows. -/
theorem ctx_score (q k : S8x4352x8x96.Idx → EReal) (b h : Fin 8) (i : Fin 256) (j : Fin 256) :
    val_main_v6 (F := Ideal) q k (ix4 b h i j) = scoreAt q k b ⟨i.val, by omega⟩ ⟨j.val, by omega⟩ h := by
  pointwise [val_main_v6, val_main_v5, val_main_v4, val_main_cst, val_main_v3, val_main_v0, val_main_v1]
  simp only [scoreAt, Nat.zero_add]

/-- The host's maximum along the last axis, over any scores. -/
theorem ctx_max (A : S8x8x256x256.Idx → Ideal .f32) (c : S_.Idx → Ideal .f32) (b h : Fin 8) (i : Fin 256) :
    Host.reduce FloatOps.maximumf A c reducesTo_S8x8x256x256_S8x8x256_d3 h_S_ (ix3 b h i)
      = Finset.univ.fold max (c (Shape.Idx.first h_S_)) (fun j : Fin 256 => A (ix4 b h i j)) := by
  rw [Host.reduce_eq_fold, Shape.ReducesTo.fold_fiber_r4_a3]
  rfl

/-- The row maximum of the context rows, from negative infinity. -/
theorem ctx_top (q k : S8x4352x8x96.Idx → EReal) (b h : Fin 8) (i : Fin 256) (j : Fin 256) :
    val_main_v11 (F := Ideal) q k (ix4 b h i j)
      = Finset.univ.fold max ⊥ (fun j : Fin 256 => scoreAt q k b ⟨i.val, by omega⟩ ⟨j.val, by omega⟩ h) := by
  rw [val_main_v11_apply, val_main_v10_apply, val_main_v9_apply, val_main_v8_apply, val_main_cst_1_apply]
  have hi : idx_main_v10 (idx_main_v11 (ix4 b h i j)) = ix3 b h i := by
    funext a; match a with | ⟨0, _⟩ => rfl | ⟨1, _⟩ => rfl | ⟨2, _⟩ => rfl
  rw [hi]
  unfold val_main_v7
  rw [ctx_max, val_main_cst_0_apply]
  simp only [ctx_score, Ideal.maximumf_def, Ideal.ofBits_def, negInf]
  exact max_eq_right bot_le

/-- A weight of the context rows before the division. -/
theorem ctx_exp (q k : S8x4352x8x96.Idx → EReal) (b h : Fin 8) (i : Fin 256) (j : Fin 256) :
    val_main_v13 (F := Ideal) q k (ix4 b h i j)
      = Ideal.exp (scoreAt q k b ⟨i.val, by omega⟩ ⟨j.val, by omega⟩ h
          - Finset.univ.fold max ⊥ (fun j : Fin 256 => scoreAt q k b ⟨i.val, by omega⟩ ⟨j.val, by omega⟩ h)) := by
  rw [val_main_v13_apply, val_main_v12_apply, ctx_score, ctx_top]
  rfl

/-- An element of the context rows. -/
theorem ctx_out (q k : S8x4352x8x96.Idx → EReal) (v : S8x4352x8x64.Idx → EReal) (b : Fin 8) (i : Fin 256) (x : Fin 512) :
    val_main_v20 (F := Ideal) q k v (ix3 b i x)
      = refAt 256 (by decide) q k v b ⟨i.val, by omega⟩ x := by
  pointwise [val_main_v20, val_main_v19, val_main_v18, val_main_v17, val_main_v16, val_main_v15, val_main_v14, val_main_cst_2, val_main_v2]
  simp only [ctx_exp, refAt, softRow, Nat.zero_add]

/-! ### The latent rows -/

/-- A score of the latent rows. -/
theorem lat_score (q k : S8x4352x8x96.Idx → EReal) (b h : Fin 8) (i : Fin 4096) (j : Fin 4352) :
    val_main_v25 (F := Ideal) q k (ix4 b h i j) = scoreAt q k b ⟨256 + i.val, by omega⟩ ⟨j.val, by omega⟩ h := by
  pointwise [val_main_v25, val_main_v24, val_main_v23, val_main_cst_3, val_main_v22, val_main_v21]
  simp only [scoreAt]

/-- The host's maximum along the last axis, over any scores. -/
theorem lat_max (A : S8x8x4096x4352.Idx → Ideal .f32) (c : S_.Idx → Ideal .f32) (b h : Fin 8) (i : Fin 4096) :
    Host.reduce FloatOps.maximumf A c reducesTo_S8x8x4096x4352_S8x8x4096_d3 h_S_ (ix3 b h i)
      = Finset.univ.fold max (c (Shape.Idx.first h_S_)) (fun j : Fin 4352 => A (ix4 b h i j)) := by
  rw [Host.reduce_eq_fold, Shape.ReducesTo.fold_fiber_r4_a3]
  rfl

/-- The row maximum of the latent rows, from negative infinity. -/
theorem lat_top (q k : S8x4352x8x96.Idx → EReal) (b h : Fin 8) (i : Fin 4096) (j : Fin 4352) :
    val_main_v30 (F := Ideal) q k (ix4 b h i j)
      = Finset.univ.fold max ⊥ (fun j : Fin 4352 => scoreAt q k b ⟨256 + i.val, by omega⟩ ⟨j.val, by omega⟩ h) := by
  rw [val_main_v30_apply, val_main_v29_apply, val_main_v28_apply, val_main_v27_apply, val_main_cst_5_apply]
  have hi : idx_main_v29 (idx_main_v30 (ix4 b h i j)) = ix3 b h i := by
    funext a; match a with | ⟨0, _⟩ => rfl | ⟨1, _⟩ => rfl | ⟨2, _⟩ => rfl
  rw [hi]
  unfold val_main_v26
  rw [lat_max, val_main_cst_4_apply]
  simp only [lat_score, Ideal.maximumf_def, Ideal.ofBits_def, negInf]
  exact max_eq_right bot_le

/-- A weight of the latent rows before the division. -/
theorem lat_exp (q k : S8x4352x8x96.Idx → EReal) (b h : Fin 8) (i : Fin 4096) (j : Fin 4352) :
    val_main_v32 (F := Ideal) q k (ix4 b h i j)
      = Ideal.exp (scoreAt q k b ⟨256 + i.val, by omega⟩ ⟨j.val, by omega⟩ h
          - Finset.univ.fold max ⊥ (fun j : Fin 4352 => scoreAt q k b ⟨256 + i.val, by omega⟩ ⟨j.val, by omega⟩ h)) := by
  rw [val_main_v32_apply, val_main_v31_apply, lat_score, lat_top]
  rfl

/-- An element of the latent rows. -/
theorem lat_out (q k : S8x4352x8x96.Idx → EReal) (v : S8x4352x8x64.Idx → EReal) (b : Fin 8) (i : Fin 4096) (x : Fin 512) :
    val_main_v39 (F := Ideal) q k v (ix3 b i x)
      = refAt 4352 (by decide) q k v b ⟨256 + i.val, by omega⟩ x := by
  pointwise [val_main_v39, val_main_v38, val_main_v37, val_main_v36, val_main_v35, val_main_v34, val_main_v33, val_main_cst_6]
  simp only [lat_exp, refAt, softRow]

/-- The reference's result at an index: the context rows over the context keys, the latent rows over every key. -/
theorem out_at (q k : S8x4352x8x96.Idx → EReal) (v : S8x4352x8x64.Idx → EReal) (b : Fin 8) (l : Fin 4352) (x : Fin 512) :
    val_main_v41 (F := Ideal) q k v (ix3 b l x)
      = if l.val < 256 then refAt 256 (by decide) q k v b l x else refAt 4352 le_rfl q k v b l x := by
  pointwise [val_main_v41, val_main_v40]
  by_cases h : l.val < 256
  · rw [dif_pos h, if_pos h]
    exact ctx_out q k v b _ x
  · rw [dif_neg h, if_neg h, lat_out]
    have e : (⟨256 + (l.val - 256), by omega⟩ : Fin 4352) = l := Fin.ext (by show 256 + (l.val - 256) = l.val; omega)
    rw [e]

end Cert.Attn.Ref
-- ==== Proof.RowMath.lean ====
/-
  The row equation: the kernel's quotient of two sums of powers of two is the reference's sum of divided exponentials.
-/
module

public import proofs.«01_k».proof.Proof.Packed
public import proofs.«01_k».proof.Proof.Reference

@[expose] public section

noncomputable section

namespace Cert.Attn

open Idealize.ShloMosaic

/-- The largest of finitely many reals, as the fold the programs take from the bottom of the extended reals. -/
theorem fold_max_real {n : Nat} (hn : 0 < n) (s : Fin n → ℝ) :
    ∃ M : ℝ, Finset.univ.fold max ⊥ (fun j => ((s j : ℝ) : EReal)) = M ∧ (∀ j, s j ≤ M) ∧ ∃ j, s j = M := by
  have hne : (Finset.univ : Finset (Fin n)).Nonempty := ⟨⟨0, hn⟩, Finset.mem_univ _⟩
  obtain ⟨j, _, hj⟩ := Finset.exists_max_image Finset.univ s hne
  refine ⟨s j, ?_, fun i => hj i (Finset.mem_univ i), j, rfl⟩
  apply le_antisymm
  · rw [Finset.fold_max_le]
    exact ⟨bot_le, fun i _ => EReal.coe_le_coe_iff.2 (hj i (Finset.mem_univ i))⟩
  · rw [Finset.le_fold_max]
    exact Or.inr ⟨j, Finset.mem_univ j, le_rfl⟩

/-- A sum of reals taken in the extended reals is the real sum. -/
theorem sum_real {ι : Type*} (t : Finset ι) (f : ι → ℝ) : ∑ j ∈ t, ((f j : ℝ) : EReal) = ((∑ j ∈ t, f j : ℝ) : EReal) := by
  classical
  induction t using Finset.induction_on with
  | empty => simp
  | insert a t ha ih => rw [Finset.sum_insert ha, Finset.sum_insert ha, ih, EReal.coe_add]

/-- A factor that is a real and not negative distributes over a sum of extended reals. -/
theorem sum_mul_real {ι : Type*} (t : Finset ι) (f : ι → EReal) (r : ℝ) (hr : 0 ≤ r) :
    (∑ j ∈ t, f j) * (r : EReal) = ∑ j ∈ t, f j * (r : EReal) := by
  classical
  induction t using Finset.induction_on with
  | empty => simp
  | insert a t ha ih =>
    rw [Finset.sum_insert ha, Finset.sum_insert ha, ← ih]
    exact EReal.right_distrib_of_nonneg_of_ne_top (EReal.coe_nonneg.2 hr) (EReal.coe_ne_top r) _ _

/-- The lanes past a head add nothing to a score, and the queries' divisor divides the whole score. -/
theorem sum_lanes (q k : Fin 96 → ℝ) (c : ℝ) (hc : c ≠ 0) :
    ∑ d : Fin 128, Ideal.div (lane (fun d => ((q d : ℝ) : EReal)) d) (c : EReal) * lane (fun d => ((k d : ℝ) : EReal)) d
      = (((∑ d, q d * k d) / c : ℝ) : EReal) := by
  refine (Fin.sum_univ_add (a := 96) (b := 32) (fun d : Fin 128 => Ideal.div (lane (fun d => ((q d : ℝ) : EReal)) d) (c : EReal)
      * lane (fun d => ((k d : ℝ) : EReal)) d)).trans ?_
  have hl : ∀ d : Fin 96, Ideal.div (lane (fun d => ((q d : ℝ) : EReal)) (Fin.castAdd 32 d)) (c : EReal)
      * lane (fun d => ((k d : ℝ) : EReal)) (Fin.castAdd 32 d) = ((q d * k d / c : ℝ) : EReal) := by
    intro d
    have h : (Fin.castAdd 32 d : Fin 128).val < 96 := d.isLt
    rw [lane, lane, dif_pos h, dif_pos h, Ideal.div_coe hc, ← EReal.coe_mul, ← EReal.coe_mul]
    congr 1
    show q d * (1 / c) * k d = q d * k d / c
    ring
  have hr : ∀ d : Fin 32, Ideal.div (lane (fun d => ((q d : ℝ) : EReal)) (Fin.natAdd 96 d)) (c : EReal)
      * lane (fun d => ((k d : ℝ) : EReal)) (Fin.natAdd 96 d) = 0 := by
    intro d
    have h : ¬ (Fin.natAdd 96 d : Fin 128).val < 96 := by simp
    rw [lane, lane, dif_neg h, dif_neg h, mul_zero]
  rw [Finset.sum_congr rfl (fun d _ => hl d), Finset.sum_congr rfl (fun d _ => hr d), sum_real]
  simp [Finset.sum_div]

/-- The row equation. The scores are reals; the values may be any extended reals. -/
theorem row_eq {n : Nat} (hn : 0 < n) (s : Fin n → ℝ) (v : Fin n → EReal) :
    kernelRow (fun j => ((s j / Real.log 2 : ℝ) : EReal)) v (fun _ => 1) = Ref.softRow (fun j => ((s j : ℝ) : EReal)) v := by
  have h2 : (0 : ℝ) < Real.log 2 := Real.log_pos (by norm_num)
  obtain ⟨M, hM, hle, j0, hj0⟩ := fold_max_real hn s
  obtain ⟨K, hK, kle, j1, hj1⟩ := fold_max_real hn (fun j => s j / Real.log 2)
  have hKM : K = M / Real.log 2 := by
    apply le_antisymm
    · rw [← hj1]
      exact div_le_div_of_nonneg_right (hle j1) h2.le
    · rw [← hj0]
      exact kle j0
  have he2 : ∀ j, Ideal.exp2 (((s j / Real.log 2 : ℝ) : EReal) - (K : EReal)) = ((Real.exp (s j - M) : ℝ) : EReal) := by
    intro j
    rw [← EReal.coe_sub, Ideal.exp2_coe, hKM]
    congr 1
    show (2 : ℝ) ^ (s j / Real.log 2 - M / Real.log 2) = _
    rw [Real.rpow_def_of_pos (by norm_num)]
    congr 1
    field_simp
  have he : ∀ j, Ideal.exp (((s j : ℝ) : EReal) - (M : EReal)) = ((Real.exp (s j - M) : ℝ) : EReal) := by
    intro j
    rw [← EReal.coe_sub, Ideal.exp_coe]
  have hZ : 0 < ∑ j, Real.exp (s j - M) :=
    Finset.sum_pos (fun j _ => Real.exp_pos _) ⟨⟨0, hn⟩, Finset.mem_univ _⟩
  unfold kernelRow Ref.softRow
  rw [hM, hK]
  simp only [he2, he, mul_one]
  rw [sum_real, Ideal.div_coe hZ.ne', sum_mul_real _ _ _ (one_div_pos.2 hZ).le]
  refine Finset.sum_congr rfl fun j _ => ?_
  rw [Ideal.div_coe hZ.ne', mul_comm ((Real.exp (s j - M) : ℝ) : EReal) (v j), mul_assoc]

end Cert.Attn
-- ==== Proof.Equation.lean ====
/-
  The call's result is the reference's, element by element.
-/
module

public import proofs.«01_k».proof.Proof.RowMath

@[expose] public section

set_option maxRecDepth 16384

noncomputable section

namespace Cert.Attn

open Cert.KernelIdeal Cert.KernelIdeal.Gen Idealize.ShloMosaic Idealize.ShloMosaic.TcCoe

/-- The root of the head's size, as the reference takes it. -/
theorem root_eq : Ideal.sqrt (Ideal.ofBits FTy.f32 0x42C00000#32) = ((Real.sqrt 96 : ℝ) : EReal) := by
  have h96 : Ideal.ofBits FTy.f32 0x42C00000#32 = ((96 : ℝ) : EReal) := by
    simp [Ideal.ofBits, Ideal.ieee]; rw [← EReal.coe_mul]; norm_num
  rw [h96, Ideal.sqrt_coe, if_neg (by norm_num)]

/-- A row of the packed result over the first `n` key rows is the reference's row over them. -/
theorem packed_row (n : Nat) (h0 : 0 < n) (hn : n ≤ 4352) (q k : S8x4352x8x96.Idx → EReal) (v : S8x4352x8x64.Idx → EReal)
    (hq : ∀ i, ∃ r : ℝ, q i = r) (hk : ∀ i, ∃ r : ℝ, k i = r) (X0 X1 X2 : S8x4352x1024.Idx → EReal)
    (e0 : ∀ (b : Fin 8) (l : Fin 4352) (x : Fin 1024) (h : Fin 8) (d : Fin 128), x.val / 128 = h.val → x.val % 128 = d.val →
      X0 (ix3 b l x) = Ideal.div (lane (fun d : Fin 96 => q (ix4 b l h d)) d) ((Real.sqrt 96 * Real.log 2 : ℝ) : EReal))
    (e1 : ∀ (b : Fin 8) (l : Fin 4352) (x : Fin 1024) (h : Fin 8) (d : Fin 128), x.val / 128 = h.val → x.val % 128 = d.val →
      X1 (ix3 b l x) = lane (fun d : Fin 96 => k (ix4 b l h d)) d)
    (e2 : ∀ (b : Fin 8) (l : Fin 4352) (x : Fin 1024) (h : Fin 8) (d : Fin 128), x.val / 128 = h.val → x.val % 128 = d.val →
      X2 (ix3 b l x) = lane (fun d : Fin 64 => v (ix4 b l h d)) d + (if d.val = 64 then (1 : EReal) else 0))
    (b : Fin 8) (l : Fin 4352) (x : Fin 512) :
    packedAt n hn X0 X1 X2 b l x = Ref.refAt n hn q k v b l x := by
  choose qr hqr using hq
  choose kr hkr using hk
  have hx := x.isLt
  have hc : Real.sqrt 96 * Real.log 2 ≠ 0 :=
    mul_ne_zero (Real.sqrt_pos.2 (by norm_num)).ne' (Real.log_pos (by norm_num)).ne'
  have hs : Real.sqrt 96 ≠ 0 := (Real.sqrt_pos.2 (by norm_num)).ne'
  let h : Fin 8 := ⟨x.val / 64, by omega⟩
  let dot : Fin n → ℝ := fun j => ∑ d : Fin 96, qr (ix4 b l h d) * kr (ix4 b ⟨j.val, j.isLt.trans_le hn⟩ h d)
  have hscore : (fun j : Fin n => ∑ d : Fin 128, X0 (ix3 b l ⟨128 * (x.val / 64) + d.val, by omega⟩)
        * X1 (ix3 b ⟨j.val, j.isLt.trans_le hn⟩ ⟨128 * (x.val / 64) + d.val, by omega⟩))
      = fun j => ((dot j / Real.sqrt 96 / Real.log 2 : ℝ) : EReal) := by
    funext j
    rw [div_div, ← sum_lanes _ _ _ hc]
    refine Finset.sum_congr rfl fun d _ => ?_
    have hd := d.isLt
    rw [e0 b l _ h d (by show (128 * (x.val / 64) + d.val) / 128 = x.val / 64; omega)
        (by show (128 * (x.val / 64) + d.val) % 128 = d.val; omega),
      e1 b _ _ h d (by show (128 * (x.val / 64) + d.val) / 128 = x.val / 64; omega)
        (by show (128 * (x.val / 64) + d.val) % 128 = d.val; omega)]
    simp only [hqr, hkr]
  have hval : (fun j : Fin n => X2 (ix3 b ⟨j.val, j.isLt.trans_le hn⟩ ⟨128 * (x.val / 64) + x.val % 64, by omega⟩))
      = fun j => v (ix4 b ⟨j.val, j.isLt.trans_le hn⟩ h ⟨x.val % 64, by omega⟩) := by
    funext j
    rw [e2 b _ _ h ⟨x.val % 64, by omega⟩ (by show (128 * (x.val / 64) + x.val % 64) / 128 = x.val / 64; omega)
        (by show (128 * (x.val / 64) + x.val % 64) % 128 = x.val % 64; omega),
      if_neg (by show ¬ x.val % 64 = 64; omega), add_zero, lane, dif_pos (by show x.val % 64 < 64; omega)]
  have hone : (fun j : Fin n => X2 (ix3 b ⟨j.val, j.isLt.trans_le hn⟩ ⟨128 * (x.val / 64) + 64, by omega⟩))
      = fun _ => (1 : EReal) := by
    funext j
    rw [e2 b _ _ h ⟨64, by omega⟩ (by show (128 * (x.val / 64) + 64) / 128 = x.val / 64; omega)
        (by show (128 * (x.val / 64) + 64) % 128 = 64; omega),
      if_pos rfl, lane, dif_neg (Nat.lt_irrefl 64), zero_add]
  have href : (fun j : Fin n => Ref.scoreAt q k b l ⟨j.val, j.isLt.trans_le hn⟩ h)
      = fun j => ((dot j / Real.sqrt 96 : ℝ) : EReal) := by
    funext j
    rw [Ref.scoreAt, root_eq, Ideal.div_coe hs]
    simp only [hqr, hkr]
    rw [Finset.sum_congr rfl (fun d _ => (EReal.coe_mul _ _).symm), sum_real, ← EReal.coe_mul, mul_one_div]
  unfold packedAt Ref.refAt
  rw [hscore, hval, hone, row_eq h0]
  exact congrArg (fun s => Ref.softRow s _) href.symm

/-- The launch's result array is the reference's function of the arguments, under the precondition read back. -/
theorem result_eq (m : (ℓ : Loc nD τ sig) → Buf (Elt Ideal) ℓ) (c : Dev nD)
    (hq : ∀ i, ∃ r : ℝ, @Eq EReal ((m (c, Proc.tc.devRef main_arg0) : S8x4352x8x96.Idx → EReal) i) r)
    (hk : ∀ i, ∃ r : ℝ, @Eq EReal ((m (c, Proc.tc.devRef main_arg1) : S8x4352x8x96.Idx → EReal) i) r) :
    (dats m 0 c).arrAt 3 cfg0.N
      = Cert.ReferenceIdeal.Read.val_main_v41 (F := Ideal) (m (c, Proc.tc.devRef main_arg0)) (m (c, Proc.tc.devRef main_arg1))
          (m (c, Proc.tc.devRef main_arg2)) := by
  rw [arr_eq]
  funext i
  obtain ⟨b, l, x, rfl⟩ : ∃ (b : Fin 8) (l : Fin 4352) (x : Fin 512), i = ix3 b l x := ⟨i 0, i 1, i 2, eq_ix3 i⟩
  refine Eq.trans ?_ (Ref.out_at _ _ _ b l x).symm
  by_cases h : l.val < 256
  · refine (if_pos h).trans (Eq.trans ?_ (if_pos h).symm)
    exact packed_row 256 (by decide) (by decide) _ _ _ hq hk _ _ _ (q_packed m c) (k_packed m c) (v_packed m c) b l x
  · refine (if_neg h).trans (Eq.trans ?_ (if_neg h).symm)
    exact packed_row 4352 (by decide) le_rfl _ _ _ hq hk _ _ _ (q_packed m c) (k_packed m c) (v_packed m c) b l x

end Cert.Attn
-- ==== Proof.Finite.lean ====
/-
  The precondition read back: the queries and the keys are reals.
-/
module

public import proofs.«01_k».proof.Defs
public import proofs.«01_k».proof.Proof.Gen.Pre_finite
public import Idealize.ShloMosaic.Lib.ReduceAll
public import Idealize.ShloMosaic.Lib.Pointwise

@[expose] public section

noncomputable section

namespace Cert.Attn

open Idealize.ShloMosaic Cert.Pre_finite Cert.Pre_finite.Gen

/-- The word of infinity denotes the top of the extended reals. -/
theorem posInf : Ideal.ofBits .f32 0x7F800000#32 = ⊤ := by
  simp [Ideal.ofBits, Ideal.ieee]

/-- An extended real whose absolute value compares below infinity is a real. -/
theorem real_of_abs (x : EReal)
    (h : FloatOps.cmpf (F := Ideal) (φ := .f32) .olt (FloatOps.hostAbsf (F := Ideal) (φ := .f32) x) (Ideal.ofBits .f32 0x7F800000#32) = 1#1) :
    ∃ r : ℝ, x = r := by
  rw [posInf] at h
  induction x with
  | coe r => exact ⟨r, rfl⟩
  | bot => simp [Ideal.cmpf_def, Ideal.cmp, Ideal.absf_def, FloatOps.hostAbsf] at h
  | top => simp [Ideal.cmpf_def, Ideal.cmp, Ideal.absf_def, FloatOps.hostAbsf] at h

/-- Under the precondition every query and every key is a real. -/
theorem reals (q k : FVec Ideal S8x4352x8x96 .f32) (v : FVec Ideal S8x4352x8x64 .f32)
    (h : fn q k v ix0 = 1#1) : (∀ i, ∃ r : ℝ, q i = r) ∧ ∀ i, ∃ r : ℝ, k i = r := by
  dsimp only [fn] at h
  have h' := h
  simp only [andi] at h'
  obtain ⟨h1, h2⟩ := IntOp.andi_eq_one.1 h'
  have hq := Host.reduce_andi_all _ _ _ _ _ h1
  have hk := Host.reduce_andi_all _ _ _ _ _ h2
  exact ⟨fun i => real_of_abs _ (hq i), fun i => real_of_abs _ (hk i)⟩

end Cert.Attn
-- ==== Proof.InBlock.lean ====
/-
  The input projection: what one grid point leaves in the output block.
-/
module

public import proofs.«01_k».proof.Proof.Gen.Kernel2Ideal.Value
public import Idealize.ShloMosaic.Lib.Pointwise
public import Idealize.ShloMosaic.Lib.Pipeline.ValueKit

@[expose] public section

set_option maxRecDepth 16384

noncomputable section

namespace Cert.InProj

open Cert.Kernel2Ideal Cert.Kernel2Ideal.Gen Idealize.ShloMosaic

/-- One entry of a normalized and modulated row: `x` over its root mean square, times the gain, scaled and shifted. -/
def modulated (x g scale shift : Fin 1024 → EReal) (d : Fin 1024) : EReal :=
  x d * Ideal.rsqrt (Ideal.div (∑ e : Fin 1024, x e * x e) (Ideal.ofBits FTy.f32 0x44800000#32) + Ideal.ofBits FTy.f32 0x358637BD#32)
      * g d * (Ideal.ofBits FTy.f32 0x3F800000#32 + scale d) + shift d

/-- The result's columns in terms of the weights': the gate's first, then the retention's and the latent attention's, the
    shared key's among zeros, and the recurrence's last. -/
def column (f : Fin 7456 → EReal) (l : Fin 7680) : EReal :=
  if h0 : l.val < 3072 then f ⟨4384 + l.val, by omega⟩
  else if h1 : l.val < 5504 then f ⟨l.val - 3072, by omega⟩
  else if l.val < 5568 then 0
  else if h3 : l.val < 5600 then f ⟨2432 + (l.val - 5568), by omega⟩
  else if l.val < 5760 then 0
  else f ⟨2464 + (l.val - 5760), by omega⟩

/-- Entry `(r, l)` of an output block: the modulated row against the column of the block's weights. -/
theorem block_at (x0 : Vec Ideal S256x1024 .f32) (x1 : Vec Ideal S1x6x1024 .f32) (x2 : Vec Ideal S1x1024 .f32) (x3 : Vec Ideal S1024x7680 .bf16)
    (r : Fin 256) (l : Fin 7680) :
    out0_4 x0 x1 x2 x3 (ix2 r l)
      = ∑ d : Fin 1024, modulated (fun d => x0 (ix2 r d)) (fun d => x2 (ix2 0 d)) (fun d => x1 (ix3 0 1 d)) (fun d => x1 (ix3 0 0 d)) d
          * x3 (ix2 d l) := by
  frame_out
  unfold modulated
  pointwise [k0_pay1]

end Cert.InProj

end
-- ==== Proof.InArray.lean ====
/-
  The input projection's result array after the run, from the arrays the launch reads: the output blocks tile it.
-/
module

public import proofs.«01_k».proof.Proof.InBlock

@[expose] public section

set_option maxRecDepth 16384

noncomputable section

namespace Cert.InProj

open Cert.Kernel2Ideal Cert.Kernel2Ideal.Gen Idealize.ShloMosaic Idealize.ShloMosaic.TcCoe
open Idealize.ShloMosaic.Pipeline (Dat)

/-- The modulation row of a row tile: the context's for the first tile of a batch, the batch's for the others. -/
def modRow (t : ℕ) : ℕ := if t % 17 = 0 then 8 else t / 17

/-- A row tile's modulation row is one of the sixteen. -/
theorem modRow_lt (t : ℕ) (h : t < 136) : modRow t < 16 := by unfold modRow; split <;> omega

/-- Where each window's block lies at a grid point. -/
theorem idx_facts : ∀ t : Fin cfg0.N, win0_0.index t = ![t.val, 0] ∧ win0_1.index t = ![modRow t.val, 0, 0]
    ∧ win0_2.index t = ![0, 0] ∧ win0_3.index t = ![0, 0] ∧ win0_4.index t = ![t.val, 0] :=
  (by decide +kernel : ∀ t : Fin grid0.N, win0_0.index t = ![t.val, 0] ∧ win0_1.index t = ![modRow t.val, 0, 0]
    ∧ win0_2.index t = ![0, 0] ∧ win0_3.index t = ![0, 0] ∧ win0_4.index t = ![t.val, 0])

/-- The result array as a function of the arrays the launch reads. -/
def projected (X : S34816x1024.Idx → EReal) (W : S16x6x1024.Idx → EReal) (G : S1x1024.Idx → EReal) (P : S1024x7680.Idx → EReal)
    (i : S34816x7680.Idx) : EReal :=
  ∑ d : Fin 1024, modulated (fun d => X (ix2 (i 0) d)) (fun d => G (ix2 0 d))
    (fun d => W (ix3 ⟨modRow ((i 0).val / 256), modRow_lt _ (by have : (i 0).val < 34816 := (i 0).isLt; omega)⟩ 1 d))
    (fun d => W (ix3 ⟨modRow ((i 0).val / 256), modRow_lt _ (by have : (i 0).val < 34816 := (i 0).isLt; omega)⟩ 0 d)) d
    * P (ix2 d (i 1))

/-- A row tile of any array, read at the array. -/
theorem x_read (c : Dev nD) (A : Buf (Elt Ideal) ((c : Thread nD τ).loc (Pipeline.arrRef spec0 0))) (t : Fin cfg0.N) (r : Fin 256) (d : Fin 1024) :
    ((cfg0.win 0).blk t).view.read (Elt Ideal) A (ix2 r d) = (A : S34816x1024.Idx → EReal) (ix2 ⟨256 * t.val + r.val, by have : t.val < 136 := t.isLt; omega⟩ d) := by
  obtain ⟨h0, h1, h2, h3, h4⟩ := idx_facts t
  blk_ext [h0]

/-- A modulation block of any array, read at the array. -/
theorem w_read (c : Dev nD) (A : Buf (Elt Ideal) ((c : Thread nD τ).loc (Pipeline.arrRef spec0 1))) (t : Fin cfg0.N) (e : Fin 6) (d : Fin 1024) :
    ((cfg0.win 1).blk t).view.read (Elt Ideal) A (ix3 0 e d) = (A : S16x6x1024.Idx → EReal) (ix3 ⟨modRow t.val, modRow_lt _ t.isLt⟩ e d) := by
  obtain ⟨h0, h1, h2, h3, h4⟩ := idx_facts t
  blk_ext [h1]

/-- The gain's block is the gain. -/
theorem g_read (c : Dev nD) (A : Buf (Elt Ideal) ((c : Thread nD τ).loc (Pipeline.arrRef spec0 2))) (t : Fin cfg0.N) (d : Fin 1024) :
    ((cfg0.win 2).blk t).view.read (Elt Ideal) A (ix2 0 d) = (A : S1x1024.Idx → EReal) (ix2 0 d) := by
  obtain ⟨h0, h1, h2, h3, h4⟩ := idx_facts t
  blk_ext [h2]

/-- The weights' block is the weights. -/
theorem p_read (c : Dev nD) (A : Buf (Elt Ideal) ((c : Thread nD τ).loc (Pipeline.arrRef spec0 3))) (t : Fin cfg0.N) (d : Fin 1024) (l : Fin 7680) :
    ((cfg0.win 3).blk t).view.read (Elt Ideal) A (ix2 d l) = (A : S1024x7680.Idx → EReal) (ix2 d l) := by
  obtain ⟨h0, h1, h2, h3, h4⟩ := idx_facts t
  blk_ext [h3]

/-- Where an element of an output block lies in the result array. -/
theorem out_place (t : Fin cfg0.N) (r : Fin 256) (l : Fin 7680) :
    (win0_4.blk t).view.emb (ix2 r l) = (ix2 ⟨256 * t.val + r.val, by have : t.val < 136 := t.isLt; omega⟩ l : S34816x7680.Idx) := by
  obtain ⟨h0, h1, h2, h3, h4⟩ := idx_facts t
  blk_ext [h4]

/-- A block's element is the array's element at its place. -/
theorem block_projected (T : ℕ) (hT : T < 136) (x0 : Vec Ideal S256x1024 .f32) (x1 : Vec Ideal S1x6x1024 .f32) (x2 : Vec Ideal S1x1024 .f32)
    (x3 : Vec Ideal S1024x7680 .bf16) (X : S34816x1024.Idx → EReal) (W : S16x6x1024.Idx → EReal) (G : S1x1024.Idx → EReal)
    (P : S1024x7680.Idx → EReal)
    (e0 : ∀ (r : Fin 256) (d : Fin 1024), x0 (ix2 r d) = X (ix2 ⟨256 * T + r.val, by omega⟩ d))
    (e1 : ∀ (e : Fin 6) (d : Fin 1024), x1 (ix3 0 e d) = W (ix3 ⟨modRow T, modRow_lt T hT⟩ e d))
    (e2 : ∀ d : Fin 1024, x2 (ix2 0 d) = G (ix2 0 d)) (e3 : ∀ (d : Fin 1024) (l : Fin 7680), x3 (ix2 d l) = P (ix2 d l))
    (r : Fin 256) (l : Fin 7680) :
    out0_4 x0 x1 x2 x3 (ix2 r l) = projected X W G P (ix2 ⟨256 * T + r.val, by omega⟩ l) := by
  have hr : (256 * T + r.val) / 256 = T := by omega
  have f : (⟨modRow ((256 * T + r.val) / 256), modRow_lt _ (by omega)⟩ : Fin 16) = ⟨modRow T, modRow_lt T hT⟩ := Fin.ext (by show modRow _ = _; rw [hr])
  rw [block_at]
  simp only [e0, e1, e2, e3]
  show _ = ∑ d : Fin 1024, modulated (fun d => X (ix2 ⟨256 * T + r.val, _⟩ d)) (fun d => G (ix2 0 d))
    (fun d => W (ix3 ⟨modRow ((256 * T + r.val) / 256), _⟩ 1 d)) (fun d => W (ix3 ⟨modRow ((256 * T + r.val) / 256), _⟩ 0 d)) d * P (ix2 d l)
  rw [f]

variable (m : (ℓ : Loc nD τ sig) → Buf (Elt Ideal) ℓ)

/-- The output blocks tile the result array. -/
theorem arr_eq (c : Dev nD) :
    (dats m 0 c).arrAt 4 cfg0.N = projected (V m c main_v0) (V m c main_arg1) (V m c main_v12) (V m c main_v11) := by
  refine (dats m 0 c).arrAt_eq_of_covers 4 _ (by decide +kernel) fun t hf y => ?_
  obtain ⟨r, l, rfl⟩ : ∃ (r : Fin 256) (l : Fin 7680), y = ix2 r l := ⟨y 0, y 1, eq_ix2 y⟩
  blk_simp
  rw [out_place, after0_4]
  exact block_projected t.val t.isLt _ _ _ _ _ _ _ _ (x_read c (V m c main_v0) t) (w_read c (V m c main_arg1) t)
    (g_read c (V m c main_v12) t) (p_read c (V m c main_v11) t) r l

end Cert.InProj

end
-- ==== Proof.InReference.lean ====
/-
  The input projection's reference, entry by entry.
-/
module

public import proofs.«01_k».proof.Proof.InBlock
public import proofs.«01_k».proof.Proof.Gen.Reference2Ideal.Read

@[expose] public section

set_option maxRecDepth 16384

noncomputable section

namespace Cert.InProj.Ref

open Cert.Reference2Ideal Cert.Reference2Ideal.Read Idealize.ShloMosaic

variable (x : S8x4352x1024.Idx → EReal) (w : S16x6x1024.Idx → EReal) (g : S1024.Idx → EReal) (v : S1024x7456.Idx → EReal)

/-- A latent row after normalization and modulation, by its batch's row of the modulation. -/
theorem lat_at (b : Fin 8) (l : Fin 4096) (d : Fin 1024) :
    val_main_v21 (F := Ideal) x w g (ix3 b l d)
      = modulated (fun d => x (ix3 b ⟨256 + l.val, by omega⟩ d)) (fun d => g (ix1 d)) (fun d => w (ix3 ⟨b.val, by omega⟩ 1 d))
          (fun d => w (ix3 ⟨b.val, by omega⟩ 0 d)) d := by
  unfold modulated
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

/-- A context row after normalization and modulation, by the context's row of the modulation. -/
theorem ctx_at (b : Fin 8) (l : Fin 256) (d : Fin 1024) :
    val_main_v47 (F := Ideal) x w g (ix3 b l d)
      = modulated (fun d => x (ix3 b ⟨l.val, by omega⟩ d)) (fun d => g (ix1 d)) (fun d => w (ix3 8 1 d))
          (fun d => w (ix3 8 0 d)) d := by
  unfold modulated
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_cst_3, val_main_cst_4, val_main_cst_5, val_main_cst_6]

/-- The row of the modulation that row `l` of batch `b` takes. -/
def row (b : Fin 8) (l : Fin 4352) : Fin 16 := if l.val < 256 then 8 else ⟨b.val, by omega⟩

/-- Entry `(b, l, k)` of the projection, before its columns are put in order. -/
def projAt (b : Fin 8) (l : Fin 4352) (k : Fin 7456) : EReal :=
  ∑ d : Fin 1024, modulated (fun d => x (ix3 b l d)) (fun d => g (ix1 d)) (fun d => w (ix3 (row b l) 1 d)) (fun d => w (ix3 (row b l) 0 d)) d
    * v (ix2 d k)

/-- The context rows come first, the latent rows after them. -/
theorem proj_at (b : Fin 8) (l : Fin 4352) (k : Fin 7456) : val_main_v50 (F := Ideal) x w g v (ix3 b l k) = projAt x w g v b l k := by
  unfold projAt row
  by_cases h : l.val < 256
  · simp only [if_pos h]
    have e := ctx_at x w g b ⟨l.val, h⟩
    rw [← Finset.sum_congr rfl fun d _ => congrArg (· * v (ix2 d k)) (e d)]
    generalize hA : val_main_v47 (F := Ideal) x w g = A
    generalize hB : val_main_v21 (F := Ideal) x w g = B
    unfold val_main_v50 val_main_v49 val_main_v48
    rw [hA, hB]
    pointwise
    exact dif_pos h
  · simp only [if_neg h]
    have e := lat_at x w g b ⟨l.val - 256, by omega⟩
    have hl : (⟨256 + (l.val - 256), by omega⟩ : Fin 4352) = l := Fin.ext (by show 256 + (l.val - 256) = l.val; omega)
    simp only [hl] at e
    rw [← Finset.sum_congr rfl fun d _ => congrArg (· * v (ix2 d k)) (e d)]
    generalize hA : val_main_v47 (F := Ideal) x w g = A
    generalize hB : val_main_v21 (F := Ideal) x w g = B
    unfold val_main_v50 val_main_v49 val_main_v48
    rw [hA, hB]
    pointwise
    exact dif_neg h

/-- The columns counted piece by piece are the columns counted from the first. -/
theorem column_split (f : Fin 7456 → EReal) (l : Fin 7680) :
    (if h : l.val < 3072 then f ⟨4384 + l.val, by omega⟩
      else if h : l.val - 3072 < 2432 then f ⟨l.val - 3072, by omega⟩
      else if h : l.val - 3072 - 2432 < 64 then 0
      else if h : l.val - 3072 - 2432 - 64 < 32 then f ⟨2432 + (l.val - 3072 - 2432 - 64), by omega⟩
      else if h : l.val - 3072 - 2432 - 64 - 32 < 160 then 0
      else f ⟨2464 + (l.val - 3072 - 2432 - 64 - 32 - 160), by omega⟩) = column f l := by
  have hl := l.isLt
  unfold column
  split_ifs <;> first | (exfalso; omega) | (refine congrArg f (Fin.ext ?_); dsimp only; done) | (refine congrArg f (Fin.ext ?_); dsimp only; omega) | exact Eq.refl (0 : EReal)

/-- Entry `(R, l)` of the result: the projection's column in its place. -/
theorem out_at (R : Fin 34816) (l : Fin 7680) :
    val_main_v58 (F := Ideal) x w g v (ix2 R l)
      = column (fun k => projAt x w g v ⟨R.val / 4352, by omega⟩ ⟨R.val % 4352, by omega⟩ k) l := by
  simp only [← proj_at]
  unfold val_main_v58 val_main_v57 val_main_v55 val_main_v53 val_main_v52 val_main_v51
  generalize val_main_v50 (F := Ideal) x w g v = A
  pointwise [val_main_v54, val_main_v56, val_main_cst_7, val_main_cst_8]
  exact column_split (fun k => A (ix3 _ _ k)) l

end Cert.InProj.Ref

end
-- ==== Proof.InEquation.lean ====
/-
  The input projection computes its reference: the padded weights, column by column, and the two results.
-/
module

public import proofs.«01_k».proof.Proof.InArray
public import proofs.«01_k».proof.Proof.InReference
public import Idealize.ShloMosaic.Lib.StableHlo.ReadAt
public import Idealize.ShloMosaic.Lib.Claim

@[expose] public section

set_option maxRecDepth 16384

noncomputable section

namespace Cert.InProj

open Cert.Kernel2Ideal Cert.Kernel2Ideal.Gen Idealize.ShloMosaic Idealize.ShloMosaic.TcCoe

variable (m : (ℓ : Loc nD τ sig) → Buf (Elt Ideal) ℓ)

/-- The launch's rows are the batches' rows, one batch after another. -/
theorem x_flat (c : Dev nD) (R : Fin 34816) (d : Fin 1024) :
    (V m c main_v0 : S34816x1024.Idx → EReal) (ix2 R d)
      = (m (c, Proc.tc.devRef main_arg0) : S8x4352x1024.Idx → EReal) (ix3 ⟨R.val / 4352, by omega⟩ ⟨R.val % 4352, by omega⟩ d) := by
  unfold V
  after_reads_at

/-- The launch's gain is the argument's. -/
theorem g_flat (c : Dev nD) (d : Fin 1024) :
    (V m c main_v12 : S1x1024.Idx → EReal) (ix2 0 d) = (m (c, Proc.tc.devRef main_arg2) : S1024.Idx → EReal) (ix1 d) := by
  unfold V
  after_reads_at

/-- The gate's columns of the weights. -/
theorem gate_piece (c : Dev nD) (d : Fin 1024) (k : Fin 3072) :
    (StableHlo.upto hostOps0 (fun b => m (c, b)) 13 (Proc.tc.devRef main_v6) : S1024x3072.Idx → EReal) (ix2 d k)
      = (m (c, Proc.tc.devRef main_arg3) : S1024x7456.Idx → EReal) (ix2 d ⟨4384 + k.val, by omega⟩) := by
  after_reads_at

/-- The retention's columns of the weights. -/
theorem ret_piece (c : Dev nD) (d : Fin 1024) (k : Fin 2048) :
    (StableHlo.upto hostOps0 (fun b => m (c, b)) 13 (Proc.tc.devRef main_v1) : S1024x2048.Idx → EReal) (ix2 d k)
      = (m (c, Proc.tc.devRef main_arg3) : S1024x7456.Idx → EReal) (ix2 d ⟨k.val, by omega⟩) := by
  after_reads_at

/-- The columns of the latent attention's queries. -/
theorem query_piece (c : Dev nD) (d : Fin 1024) (k : Fin 256) :
    (StableHlo.upto hostOps0 (fun b => m (c, b)) 13 (Proc.tc.devRef main_v2) : S1024x256.Idx → EReal) (ix2 d k)
      = (m (c, Proc.tc.devRef main_arg3) : S1024x7456.Idx → EReal) (ix2 d ⟨2048 + k.val, by omega⟩) := by
  after_reads_at

/-- The columns of its keys and values. -/
theorem kv_piece (c : Dev nD) (d : Fin 1024) (k : Fin 128) :
    (StableHlo.upto hostOps0 (fun b => m (c, b)) 13 (Proc.tc.devRef main_v3) : S1024x128.Idx → EReal) (ix2 d k)
      = (m (c, Proc.tc.devRef main_arg3) : S1024x7456.Idx → EReal) (ix2 d ⟨2304 + k.val, by omega⟩) := by
  after_reads_at

/-- The zero columns before the shared key. -/
theorem zero_left (c : Dev nD) (d : Fin 1024) (k : Fin 64) :
    @Eq EReal ((StableHlo.upto hostOps0 (fun b => m (c, b)) 13 (Proc.tc.devRef main_v7) : S1024x64.Idx → EReal) (ix2 d k)) 0 := by
  after_reads_at

/-- The shared key's columns. -/
theorem key_piece (c : Dev nD) (d : Fin 1024) (k : Fin 32) :
    (StableHlo.upto hostOps0 (fun b => m (c, b)) 13 (Proc.tc.devRef main_v4) : S1024x32.Idx → EReal) (ix2 d k)
      = (m (c, Proc.tc.devRef main_arg3) : S1024x7456.Idx → EReal) (ix2 d ⟨2432 + k.val, by omega⟩) := by
  after_reads_at

/-- The zero columns after the shared key. -/
theorem zero_right (c : Dev nD) (d : Fin 1024) (k : Fin 32) :
    @Eq EReal ((StableHlo.upto hostOps0 (fun b => m (c, b)) 13 (Proc.tc.devRef main_v8) : S1024x32.Idx → EReal) (ix2 d k)) 0 := by
  after_reads_at

/-- The zero columns after those. -/
theorem zero_far (c : Dev nD) (d : Fin 1024) (k : Fin 128) :
    @Eq EReal ((StableHlo.upto hostOps0 (fun b => m (c, b)) 13 (Proc.tc.devRef main_v9) : S1024x128.Idx → EReal) (ix2 d k)) 0 := by
  after_reads_at

/-- The recurrence's columns. -/
theorem rec_piece (c : Dev nD) (d : Fin 1024) (k : Fin 1920) :
    (StableHlo.upto hostOps0 (fun b => m (c, b)) 13 (Proc.tc.devRef main_v5) : S1024x1920.Idx → EReal) (ix2 d k)
      = (m (c, Proc.tc.devRef main_arg3) : S1024x7456.Idx → EReal) (ix2 d ⟨2464 + k.val, by omega⟩) := by
  after_reads_at

/-- The nine pieces of the padded weights, counted one after another, are the columns counted from the first. -/
theorem column_pieces (f : Fin 7456 → EReal) (l : Fin 7680) :
    (if h : l.val < 3072 then f ⟨4384 + l.val, by omega⟩
      else if h : l.val - 3072 < 2048 then f ⟨l.val - 3072, by omega⟩
      else if h : l.val - 3072 - 2048 < 256 then f ⟨2048 + (l.val - 3072 - 2048), by omega⟩
      else if h : l.val - 3072 - 2048 - 256 < 128 then f ⟨2304 + (l.val - 3072 - 2048 - 256), by omega⟩
      else if h : l.val - 3072 - 2048 - 256 - 128 < 64 then 0
      else if h : l.val - 3072 - 2048 - 256 - 128 - 64 < 32 then f ⟨2432 + (l.val - 3072 - 2048 - 256 - 128 - 64), by omega⟩
      else if h : l.val - 3072 - 2048 - 256 - 128 - 64 - 32 < 32 then 0
      else if h : l.val - 3072 - 2048 - 256 - 128 - 64 - 32 - 32 < 128 then 0
      else f ⟨2464 + (l.val - 3072 - 2048 - 256 - 128 - 64 - 32 - 32 - 128), by omega⟩) = column f l := by
  have hl := l.isLt
  unfold column
  split_ifs <;> first | (exfalso; omega) | (refine congrArg f (Fin.ext ?_); dsimp only; done) | (refine congrArg f (Fin.ext ?_); dsimp only; omega) | exact Eq.refl (0 : EReal)

/-- A column of the padded weights: the argument's column there, or zero. -/
theorem w_padded (c : Dev nD) (d : Fin 1024) (l : Fin 7680) :
    (V m c main_v11 : S1024x7680.Idx → EReal) (ix2 d l)
      = column (fun k => (m (c, Proc.tc.devRef main_arg3) : S1024x7456.Idx → EReal) (ix2 d k)) l := by
  rw [← column_pieces]
  unfold V
  after_reads_at
  refine dite_congr rfl (fun h => gate_piece m c d _) fun h => ?_
  refine dite_congr rfl (fun h => ret_piece m c d _) fun h => ?_
  refine dite_congr rfl (fun h => query_piece m c d _) fun h => ?_
  refine dite_congr rfl (fun h => kv_piece m c d _) fun h => ?_
  refine dite_congr rfl (fun h => zero_left m c d _) fun h => ?_
  refine dite_congr rfl (fun h => key_piece m c d _) fun h => ?_
  refine dite_congr rfl (fun h => zero_right m c d _) fun h => ?_
  refine dite_congr rfl (fun h => zero_far m c d _) fun h => ?_
  exact rec_piece m c d _

/-- Rows against reordered columns are the products reordered: a zero column's product is zero. -/
theorem sum_column (M : Fin 1024 → EReal) (v : Fin 1024 → Fin 7456 → EReal) (l : Fin 7680) :
    ∑ d : Fin 1024, M d * column (v d) l = column (fun k => ∑ d : Fin 1024, M d * v d k) l := by
  unfold column
  split_ifs <;> simp only [mul_zero, Finset.sum_const_zero]

/-- A row's modulation row is the one its tile takes. -/
theorem row_eq (R : Fin 34816) (h : modRow (R.val / 256) < 16) :
    (⟨modRow (R.val / 256), h⟩ : Fin 16) = Ref.row ⟨R.val / 4352, by omega⟩ ⟨R.val % 4352, by omega⟩ := by
  unfold Ref.row
  by_cases h : R.val % 4352 < 256
  · rw [if_pos h]
    exact Fin.ext (if_pos (show R.val / 256 % 17 = 0 by omega))
  · rw [if_neg h]
    exact Fin.ext ((if_neg (show ¬ R.val / 256 % 17 = 0 by omega)).trans (show R.val / 256 / 17 = R.val / 4352 by omega))

/-- The launch's result array is the reference's function of the arguments. -/
theorem result_eq (c : Dev nD) :
    (dats m 0 c).arrAt 4 cfg0.N
      = Cert.Reference2Ideal.Read.val_main_v58 (F := Ideal) (m (c, Proc.tc.devRef main_arg0)) (m (c, Proc.tc.devRef main_arg1))
          (m (c, Proc.tc.devRef main_arg2)) (m (c, Proc.tc.devRef main_arg3)) := by
  rw [arr_eq]
  funext i
  obtain ⟨R, l, rfl⟩ : ∃ (R : Fin 34816) (l : Fin 7680), i = ix2 R l := ⟨i 0, i 1, eq_ix2 i⟩
  refine Eq.trans ?_ (Ref.out_at _ _ _ _ R l).symm
  unfold Ref.projAt
  rw [← sum_column, ← row_eq R (modRow_lt _ (by omega))]
  refine Finset.sum_congr rfl fun d _ => ?_
  refine congrArg₂ (· * ·) ?_ (w_padded m c d l)
  rw [V_main_arg1]
  have hx : (fun d => (V m c main_v0 : S34816x1024.Idx → EReal) (ix2 R d)) = _ := funext (x_flat m c R)
  have hg : (fun d => (V m c main_v12 : S1x1024.Idx → EReal) (ix2 0 d)) = _ := funext (g_flat m c)
  exact congrArg₂ (fun x g => modulated x g _ _ d) hx hg

end Cert.InProj

end
-- ==== Proof.ExPre.lean ====
/-
  The experts' precondition read back: a tile is used, and every tile's expert is one of the 32.
-/
module

public import proofs.«01_k».proof.Defs
public import proofs.«01_k».proof.Proof.Gen.Pre_tables
public import Idealize.ShloMosaic.Lib.ReduceAll
public import Idealize.ShloMosaic.Lib.Pointwise

@[expose] public section

noncomputable section

namespace Cert.Experts

open Idealize.ShloMosaic Cert.Pre_tables Cert.Pre_tables.Gen

/-- Under the precondition at least one tile is used, and every expert's number is below 32. -/
theorem tables_read {F : FTy → Type} [FloatOps F] (te : IVec S576 32) (nu : IVec S1 32) (xs : FVec F S147456x1024 .f32)
    (wgu : FVec F S4x32x1024x2048 .f32) (bgu : FVec F S4x32x2048 .f32) (wd : FVec F S4x32x1024x1024 .f32)
    (bd : FVec F S4x32x1024 .f32) (h : fn te nu xs wgu bgu wd bd ix0 = 1#1) :
    1 ≤ (nu (ix1 0)).toInt ∧ ∀ i, 0 ≤ (te i).toInt ∧ (te i).toInt < 32 := by
  dsimp only [fn] at h
  simp only [andi] at h
  obtain ⟨h12, h3⟩ := IntOp.andi_eq_one.1 h
  obtain ⟨h1, h2⟩ := IntOp.andi_eq_one.1 h12
  have e1 := Host.reduce_andi_all _ _ _ _ _ h1
  have e2 := Host.reduce_andi_all _ _ _ _ _ h2
  have e3 := Host.reduce_andi_all _ _ _ _ _ h3
  exact ⟨IntOp.cmpi_sge.1 (e1 (ix1 0)), fun i => ⟨IntOp.cmpi_sge.1 (e2 i), IntOp.cmpi_slt.1 (e3 i)⟩⟩

end Cert.Experts

end
-- ==== Proof.ExBody.lean ====
/-
  One grid point of the expert kernel, run: a tile past the used ones is filled with zero, and a used tile is computed
  from its rows and from the weights held in scratch memory, which are read afresh where the expert changes.
-/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A table of the launch as the body is handed it, held at half the share. -/
abbrev Held (c : Dev nD) {S : Shape} {e : EltTy} (M : Memref sig .tc .smem S e)
    (f : Buf (Elt F) (M.view.loc (c : Thread nD τ))) : sProp (MT nD τ sig Unit (Elt F) ℕ (UR sig nD τ) ℕ) :=
  M.view.loc (c : Thread nD τ) ↦{fullShare.right} f

/-- The number of used tiles, as the body loads it. -/
abbrev wordNu (c : Dev nD) (a2 : Memref sig .tc .smem S1 .i32) (f2 : Buf (Elt F) (a2.view.loc (c : Thread nD τ))) :
    BitVec 32 :=
  View.readAt (Elt F) a2.view (Rect.unit (s := S1) ![0] S1.size inb_S1_S1_0).toLoadRect f2
    (Shape.Idx.first (numel1_S1.symm ▸ Nat.one_pos))

/-- The expert of this tile, as the body loads it. -/
abbrev wordTe (c : Dev nD) (i : grid0.Coords) (a1 : Memref sig .tc .smem S576 .i32)
    (f1 : Buf (Elt F) (a1.view.loc (c : Thread nD τ))) : BitVec 32 :=
  View.readAt (Elt F) a1.view (Rect.unit (s := S576) (k0_off2 i) S1.size (k0_off2_inb i)).toLoadRect f1
    (Shape.Idx.first (numel1_S1.symm ▸ Nat.one_pos))

/-- The expert of the tile before, as the body loads it. -/
abbrev wordTp (c : Dev nD) (i : grid0.Coords) (a1 : Memref sig .tc .smem S576 .i32)
    (f1 : Buf (Elt F) (a1.view.loc (c : Thread nD τ))) : BitVec 32 :=
  View.readAt (Elt F) a1.view (Rect.unit (s := S576) (k0_off3 i) S1.size (k0_off3_inb i)).toLoadRect f1
    (Shape.Idx.first (numel1_S1.symm ▸ Nat.one_pos))

/-- The condition under which the scratch memory is filled afresh, from the three words. -/
abbrev fillCond (i : grid0.Coords) (nu te tp : BitVec 32) : BitVec 1 :=
  Scalar.cmpi .ne (Scalar.extui (Scalar.andi (Scalar.cmpi .slt (BitVec.ofNat 32 (i 0).val) nu)
    (Scalar.ori (Scalar.cmpi .eq (BitVec.ofNat 32 (i 0).val) 0#32) (Scalar.cmpi .ne te tp)))) 0#32

/-- A load of the whole buffer reads the buffer's value. -/
theorem readAt_full {sp : Space} {S : Shape} {e : EltTy} (v : View sig .tc sp S e) {off : Fin S.rank → ℕ}
    (inb : ∀ a, off a + S.size a ≤ S.size a) (f : v.ty.Contents (Elt F)) :
    v.readAt (Elt F) (Rect.unit off S.size inb).toLoadRect f = v.read (Elt F) f := by
  funext y
  show v.read (Elt F) f ((Rect.unit off S.size inb).emb y) = _
  rw [Rect.emb_unit_full]

set_option maxHeartbeats 1000000 in
/-- The body at a tile past the used ones: the result's block is filled with zero, and nothing else is touched. -/
theorem run_unused (c : Dev nD) (E : Set ℕ) (i : grid0.Coords)
    (a1 : Memref sig .tc .smem S576 .i32) (h1 : a1.IsWhole) (a2 : Memref sig .tc .smem S1 .i32) (h2 : a2.IsWhole)
    (a3 : Memref sig .tc .vmem S256x1024 .f32) (h3 : a3.IsWhole)
    (a4 : Memref sig .tc .vmem S1x1x1024x2048 .f32) (h4 : a4.IsWhole)
    (a5 : Memref sig .tc .vmem S1x1x1x2048 .f32) (h5 : a5.IsWhole)
    (a6 : Memref sig .tc .vmem S1x1x1024x1024 .f32) (h6 : a6.IsWhole)
    (a7 : Memref sig .tc .vmem S1x1x1x1024 .f32) (h7 : a7.IsWhole)
    (a8 : Memref sig .tc .vmem S256x1024 .f32) (h8 : a8.IsWhole)
    (a9 : Memref sig .tc .vmem S1024x2048 .bf16) (h9 : a9.IsWhole)
    (a10 : Memref sig .tc .vmem S1024x1024 .bf16) (h10 : a10.IsWhole)
    (f1 : Buf (Elt F) (a1.view.loc (c : Thread nD τ))) (f2 : Buf (Elt F) (a2.view.loc (c : Thread nD τ)))
    (hz : k0_cond1 i (wordNu c a2 f2) = 1#1)
    (hr : ¬ fillCond i (wordNu c a2 f2) (wordTe c i a1 f1) (wordTp c i a1 f1) = 1#1)
    (hu : ¬ k0_cond3 i (wordNu c a2 f2) = 1#1)
    (K : PUnit → sProp (MT nD τ sig Unit (Elt F) ℕ (UR sig nD τ) ℕ)) :
    iprop(Held c a1 f1 ∗ Held c a2 f2 ∗ (∃ d, owns (c : Thread nD τ) a8 fullShare d)
        ∗ (iprop(Held c a1 f1 ∗ Held c a2 f2 ∗ owns (c : Thread nD τ) a8 fullShare (k0_pay1 (F := F))) -∗ K ⟨⟩))
      ⊢ wp frame (wpE (defs₀ (F := F)) Variants.none c none) E
          (cc0_moe_experts i a1 h1 a2 h2 a3 h3 a4 h4 a5 h5 a6 h6 a7 h7 a8 h8 a9 h9 a10 h10) K := by
  simp only [cc0_moe_experts_eq_skeleton]; unfold cc0_moe_experts_skel
  simp only [k0_part1_eq_skeleton]; unfold k0_part1_skel
  unfold owns
  iintro ⟨H1, H2, ⟨%d8, %f8, -, H8⟩, Hk⟩
  sl_exec (disch := first | sl_exact hz | sl_exact hr | sl_exact hu)
  sl_step
  iapply Hk
  isplitl [H1]; · iexact H1
  isplitl [H2]; · iexact H2
  · iexists _; isplitr; swap
    · iexact H8
    ipureintro
    exact View.read_writes_full a8.view f8 inb_S256x1024_S256x1024_0_0 _ []

set_option maxHeartbeats 1000000 in
/-- The body at a used tile whose expert is not the one in scratch memory: the weights are read afresh. -/
theorem run_fill (c : Dev nD) (E : Set ℕ) (i : grid0.Coords)
    (a1 : Memref sig .tc .smem S576 .i32) (h1 : a1.IsWhole) (a2 : Memref sig .tc .smem S1 .i32) (h2 : a2.IsWhole)
    (a3 : Memref sig .tc .vmem S256x1024 .f32) (h3 : a3.IsWhole)
    (a4 : Memref sig .tc .vmem S1x1x1024x2048 .f32) (h4 : a4.IsWhole)
    (a5 : Memref sig .tc .vmem S1x1x1x2048 .f32) (h5 : a5.IsWhole)
    (a6 : Memref sig .tc .vmem S1x1x1024x1024 .f32) (h6 : a6.IsWhole)
    (a7 : Memref sig .tc .vmem S1x1x1x1024 .f32) (h7 : a7.IsWhole)
    (a8 : Memref sig .tc .vmem S256x1024 .f32) (h8 : a8.IsWhole)
    (a9 : Memref sig .tc .vmem S1024x2048 .bf16) (h9 : a9.IsWhole)
    (a10 : Memref sig .tc .vmem S1024x1024 .bf16) (h10 : a10.IsWhole)
    (f1 : Buf (Elt F) (a1.view.loc (c : Thread nD τ))) (f2 : Buf (Elt F) (a2.view.loc (c : Thread nD τ)))
    (hz : ¬ k0_cond1 i (wordNu c a2 f2) = 1#1)
    (hr : fillCond i (wordNu c a2 f2) (wordTe c i a1 f1) (wordTp c i a1 f1) = 1#1)
    (hu : k0_cond3 i (wordNu c a2 f2) = 1#1)
    (x3 : Vec F S256x1024 .f32) (x4 : Vec F S1x1x1024x2048 .f32) (x5 : Vec F S1x1x1x2048 .f32)
    (x6 : Vec F S1x1x1024x1024 .f32) (x7 : Vec F S1x1x1x1024 .f32)
    (K : PUnit → sProp (MT nD τ sig Unit (Elt F) ℕ (UR sig nD τ) ℕ)) :
    iprop(Held c a1 f1 ∗ Held c a2 f2 ∗ owns (c : Thread nD τ) a3 fullShare x3 ∗ owns (c : Thread nD τ) a4 fullShare x4
        ∗ owns (c : Thread nD τ) a5 fullShare x5 ∗ owns (c : Thread nD τ) a6 fullShare x6
        ∗ owns (c : Thread nD τ) a7 fullShare x7 ∗ (∃ d, owns (c : Thread nD τ) a8 fullShare d)
        ∗ (∃ d, owns (c : Thread nD τ) a9 fullShare d) ∗ (∃ d, owns (c : Thread nD τ) a10 fullShare d)
        ∗ (iprop(Held c a1 f1 ∗ Held c a2 f2 ∗ owns (c : Thread nD τ) a3 fullShare x3
            ∗ owns (c : Thread nD τ) a4 fullShare x4 ∗ owns (c : Thread nD τ) a5 fullShare x5
            ∗ owns (c : Thread nD τ) a6 fullShare x6 ∗ owns (c : Thread nD τ) a7 fullShare x7
            ∗ owns (c : Thread nD τ) a8 fullShare (k0_pay4 x3 (k0_pay2 x4) x5 (k0_pay3 x6) x7)
            ∗ owns (c : Thread nD τ) a9 fullShare (k0_pay2 x4) ∗ owns (c : Thread nD τ) a10 fullShare (k0_pay3 x6))
          -∗ K ⟨⟩))
      ⊢ wp frame (wpE (defs₀ (F := F)) Variants.none c none) E
          (cc0_moe_experts i a1 h1 a2 h2 a3 h3 a4 h4 a5 h5 a6 h6 a7 h7 a8 h8 a9 h9 a10 h10) K := by
  simp only [cc0_moe_experts_eq_skeleton]; unfold cc0_moe_experts_skel
  simp only [k0_part1_eq_skeleton]; unfold k0_part1_skel
  unfold owns
  iintro ⟨H1, H2, ⟨%f3, %e3, H3⟩, ⟨%f4, %e4, H4⟩, ⟨%f5, %e5, H5⟩, ⟨%f6, %e6, H6⟩, ⟨%f7, %e7, H7⟩,
    ⟨%d8, %f8, -, H8⟩, ⟨%d9, %f9, -, H9⟩, ⟨%d10, %f10, -, H10⟩, Hk⟩
  subst e3 e4 e5 e6 e7
  sl_exec (disch := first | sl_exact hz | sl_exact hr | sl_exact hu)
  sl_step
  iapply Hk
  isplitl [H1]; · iexact H1
  isplitl [H2]; · iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap
    · iexact H8
    ipureintro
    refine (View.read_writes_full a8.view f8 inb_S256x1024_S256x1024_0_0 _ []).trans ?_
    unfold run_fill.sl.v21 run_fill.sl.v49 run_fill.sl.H9_1 run_fill.sl.H10_1
    rw [readAt_full a3.view, readAt_full a5.view, readAt_full a7.view]
    congr 1
    · exact (View.readCov_full a9.view inb_S1024x2048_S1024x2048_0_0 inb_S1024x2048_S1024x2048_0_0 _ []).trans
        (congrArg k0_pay2 (readAt_full a4.view inb_S1x1x1024x2048_S1x1x1024x2048_0_0_0_0 f4))
    · exact (View.readCov_full a10.view inb_S1024x1024_S1024x1024_0_0 inb_S1024x1024_S1024x1024_0_0 _ []).trans
        (congrArg k0_pay3 (readAt_full a6.view inb_S1x1x1024x1024_S1x1x1024x1024_0_0_0_0 f6))
  isplitl [H9]
  · iexists _; isplitr; swap
    · iexact H9
    ipureintro
    unfold run_fill.sl.H9_1
    exact (View.read_writes_full a9.view f9 inb_S1024x2048_S1024x2048_0_0 _ []).trans
      (congrArg k0_pay2 (readAt_full a4.view inb_S1x1x1024x2048_S1x1x1024x2048_0_0_0_0 f4))
  · iexists _; isplitr; swap
    · iexact H10
    ipureintro
    unfold run_fill.sl.H10_1
    exact (View.read_writes_full a10.view f10 inb_S1024x1024_S1024x1024_0_0 _ []).trans
      (congrArg k0_pay3 (readAt_full a6.view inb_S1x1x1024x1024_S1x1x1024x1024_0_0_0_0 f6))

set_option maxHeartbeats 1000000 in
/-- The body at a used tile whose expert is already in scratch memory. -/
theorem run_keep (c : Dev nD) (E : Set ℕ) (i : grid0.Coords)
    (a1 : Memref sig .tc .smem S576 .i32) (h1 : a1.IsWhole) (a2 : Memref sig .tc .smem S1 .i32) (h2 : a2.IsWhole)
    (a3 : Memref sig .tc .vmem S256x1024 .f32) (h3 : a3.IsWhole)
    (a4 : Memref sig .tc .vmem S1x1x1024x2048 .f32) (h4 : a4.IsWhole)
    (a5 : Memref sig .tc .vmem S1x1x1x2048 .f32) (h5 : a5.IsWhole)
    (a6 : Memref sig .tc .vmem S1x1x1024x1024 .f32) (h6 : a6.IsWhole)
    (a7 : Memref sig .tc .vmem S1x1x1x1024 .f32) (h7 : a7.IsWhole)
    (a8 : Memref sig .tc .vmem S256x1024 .f32) (h8 : a8.IsWhole)
    (a9 : Memref sig .tc .vmem S1024x2048 .bf16) (h9 : a9.IsWhole)
    (a10 : Memref sig .tc .vmem S1024x1024 .bf16) (h10 : a10.IsWhole)
    (f1 : Buf (Elt F) (a1.view.loc (c : Thread nD τ))) (f2 : Buf (Elt F) (a2.view.loc (c : Thread nD τ)))
    (hz : ¬ k0_cond1 i (wordNu c a2 f2) = 1#1)
    (hr : ¬ fillCond i (wordNu c a2 f2) (wordTe c i a1 f1) (wordTp c i a1 f1) = 1#1)
    (hu : k0_cond3 i (wordNu c a2 f2) = 1#1)
    (x3 : Vec F S256x1024 .f32) (x5 : Vec F S1x1x1x2048 .f32) (x7 : Vec F S1x1x1x1024 .f32)
    (x9 : Vec F S1024x2048 .bf16) (x10 : Vec F S1024x1024 .bf16)
    (K : PUnit → sProp (MT nD τ sig Unit (Elt F) ℕ (UR sig nD τ) ℕ)) :
    iprop(Held c a1 f1 ∗ Held c a2 f2 ∗ owns (c : Thread nD τ) a3 fullShare x3
        ∗ owns (c : Thread nD τ) a5 fullShare x5
        ∗ owns (c : Thread nD τ) a7 fullShare x7 ∗ (∃ d, owns (c : Thread nD τ) a8 fullShare d)
        ∗ owns (c : Thread nD τ) a9 fullShare x9 ∗ owns (c : Thread nD τ) a10 fullShare x10
        ∗ (iprop(Held c a1 f1 ∗ Held c a2 f2 ∗ owns (c : Thread nD τ) a3 fullShare x3
            ∗ owns (c : Thread nD τ) a5 fullShare x5
            ∗ owns (c : Thread nD τ) a7 fullShare x7
            ∗ owns (c : Thread nD τ) a8 fullShare (k0_pay4 x3 x9 x5 x10 x7)
            ∗ owns (c : Thread nD τ) a9 fullShare x9 ∗ owns (c : Thread nD τ) a10 fullShare x10)
          -∗ K ⟨⟩))
      ⊢ wp frame (wpE (defs₀ (F := F)) Variants.none c none) E
          (cc0_moe_experts i a1 h1 a2 h2 a3 h3 a4 h4 a5 h5 a6 h6 a7 h7 a8 h8 a9 h9 a10 h10) K := by
  simp only [cc0_moe_experts_eq_skeleton]; unfold cc0_moe_experts_skel
  simp only [k0_part1_eq_skeleton]; unfold k0_part1_skel
  unfold owns
  iintro ⟨H1, H2, ⟨%f3, %e3, H3⟩, ⟨%f5, %e5, H5⟩, ⟨%f7, %e7, H7⟩,
    ⟨%d8, %f8, -, H8⟩, ⟨%f9, %e9, H9⟩, ⟨%f10, %e10, H10⟩, Hk⟩
  subst e3 e5 e7 e9 e10
  sl_exec (disch := first | sl_exact hz | sl_exact hr | sl_exact hu)
  sl_step
  iapply Hk
  isplitl [H1]; · iexact H1
  isplitl [H2]; · iexact H2
  isplitl [H3]
  · iexists f3; isplitr; · ipureintro; rfl
    iexact H3
  isplitl [H5]
  · iexists f5; isplitr; · ipureintro; rfl
    iexact H5
  isplitl [H7]
  · iexists f7; isplitr; · ipureintro; rfl
    iexact H7
  isplitl [H8]
  · iexists _; isplitr; swap
    · iexact H8
    ipureintro
    refine (View.read_writes_full a8.view f8 inb_S256x1024_S256x1024_0_0 _ []).trans ?_
    rw [readAt_full a3.view, readAt_full a9.view, readAt_full a5.view, readAt_full a10.view, readAt_full a7.view]
  isplitl [H9]
  · iexists f9; isplitr; · ipureintro; rfl
    iexact H9
  · iexists f10; isplitr; · ipureintro; rfl
    iexact H10

end Cert.Kernel3Ideal.Gen

end
-- ==== Proof.ExData.lean ====
/-
  The expert kernel's launch: what its windows' buffers and its scratch memory hold at each grid point, and the run.
-/
module

public import proofs.«01_k».proof.Proof.ExBody

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The words the body decides by -/

theorem cond1_iff (i : grid0.Coords) (nu : BitVec 32) :
    k0_cond1 i nu = 1#1 ↔ ¬ Scalar.cmpi .slt (BitVec.ofNat 32 (i 0).val) nu = 1#1 := by
  unfold k0_cond1
  simp only
  generalize Scalar.cmpi .slt (BitVec.ofNat 32 (i 0).val) nu = b
  revert b; decide

theorem cond3_iff (i : grid0.Coords) (nu : BitVec 32) :
    k0_cond3 i nu = 1#1 ↔ Scalar.cmpi .slt (BitVec.ofNat 32 (i 0).val) nu = 1#1 := by
  unfold k0_cond3
  simp only
  generalize Scalar.cmpi .slt (BitVec.ofNat 32 (i 0).val) nu = b
  revert b; decide

theorem fill_iff (i : grid0.Coords) (nu te tp : BitVec 32) :
    fillCond i nu te tp = 1#1 ↔ Scalar.cmpi .slt (BitVec.ofNat 32 (i 0).val) nu = 1#1
      ∧ (Scalar.cmpi .eq (BitVec.ofNat 32 (i 0).val) 0#32 = 1#1 ∨ Scalar.cmpi .ne te tp = 1#1) := by
  unfold fillCond
  generalize Scalar.cmpi .slt (BitVec.ofNat 32 (i 0).val) nu = b
  generalize Scalar.cmpi .eq (BitVec.ofNat 32 (i 0).val) 0#32 = b'
  generalize Scalar.cmpi .ne te tp = b''
  revert b b' b''; decide

/-- A grid point's coordinate is its number. -/
theorem coord_val (t : Fin grid0.N) : (grid0.coords t 0).val = t.val := by
  revert t; decide +kernel

variable (m : (ℓ : Loc nD τ sig) → Buf (Elt F) ℓ) (ρ : Dev nD → PrngReg)

/-! ## The host operations before the region -/

/-- The buffers as the region finds them, after the host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- A buffer no host operation writes is found as launched. -/
theorem V_of_not_written (c : Dev nD) (b : Ref sig .tc)
    (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

theorem V_main_arg0 (c : Dev nD) : V m c main_arg0 = m ((c : Thread nD τ).loc main_arg0) :=
  V_of_not_written m c main_arg0 (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

theorem V_main_arg1 (c : Dev nD) : V m c main_arg1 = m ((c : Thread nD τ).loc main_arg1) :=
  V_of_not_written m c main_arg1 (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

theorem V_main_arg2 (c : Dev nD) : V m c main_arg2 = m ((c : Thread nD τ).loc main_arg2) :=
  V_of_not_written m c main_arg2 (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

theorem V_main_arg3 (c : Dev nD) : V m c main_arg3 = m ((c : Thread nD τ).loc main_arg3) :=
  V_of_not_written m c main_arg3 (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

theorem V_main_arg4 (c : Dev nD) : V m c main_arg4 = m ((c : Thread nD τ).loc main_arg4) :=
  V_of_not_written m c main_arg4 (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

theorem V_main_arg5 (c : Dev nD) : V m c main_arg5 = m ((c : Thread nD τ).loc main_arg5) :=
  V_of_not_written m c main_arg5 (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

theorem V_main_arg6 (c : Dev nD) : V m c main_arg6 = m ((c : Thread nD τ).loc main_arg6) :=
  V_of_not_written m c main_arg6 (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

/-! ## The tables -/

/-- The two tables as the region finds them: each tile's expert, and the number of used tiles. -/
def tbl : pre0.Contents (Elt F) := fun j => V m (0 : Dev nD) (pre0.ref j)

theorem V_pre (c : Dev nD) (j : Fin 2) : V m c (pre0.ref j) = tbl m j := by
  obtain rfl : c = 0 := Subsingleton.elim _ _
  rfl

/-- The side condition of the region: every block the tables point at lies inside its array. -/
abbrev Ok : Prop := ok0 (F := F) (tbl m)

variable (hO : Ok m)

abbrev adm : (pcfg0 (F := F)).Adm := ⟨tbl m, hO⟩
abbrev cfgM : Pipeline.Cfg sig Λ₀ := cfg0 (adm m hO)

/-- The number of used tiles, the expert of a tile and the expert of the tile before. -/
abbrev nuAt (c : Dev nD) : BitVec 32 := wordNu c (Memref.whole main_arg1) (tbl m 1)
abbrev teAt (c : Dev nD) (i : grid0.Coords) : BitVec 32 := wordTe c i (Memref.whole main_v13) (tbl m 0)
abbrev tpAt (c : Dev nD) (i : grid0.Coords) : BitVec 32 := wordTp c i (Memref.whole main_v13) (tbl m 0)

/-- Whether the tile of a grid point is used. -/
abbrev Used (c : Dev nD) (t : Fin grid0.N) : Prop := k0_cond3 (grid0.coords t) (nuAt m c) = 1#1

/-! ## The windows' blocks -/

/-- A window's block at a grid point, read off its array as the region finds it. -/
def iblk (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The element of the expert table a tile reads is its own, -/
theorem off2_eq (t : Fin grid0.N) : k0_off2 (grid0.coords t) = ![t.val] := by
  revert t; decide +kernel

/-- and the other element it reads is the tile before's. -/
theorem off3_eq (t : Fin grid0.N) : k0_off3 (grid0.coords t) = ![t.val - 1] := by
  revert t; decide +kernel

/-- What the body leaves in the result's buffer at a point. -/
def outAt (c : Dev nD) (t : Fin (cfgM m hO).N) : Vec F S256x1024 .f32 :=
  if Used m c t then k0_pay4 (iblk m hO c 0 t) (k0_pay2 (iblk m hO c 1 t)) (iblk m hO c 2 t)
    (k0_pay3 (iblk m hO c 3 t)) (iblk m hO c 4 t)
  else k0_pay1

/-- Scratch memory after `n` points: it holds the weights of the tile before, if that tile is used. -/
def Kept (c : Dev nD) (n : ℕ) (h : n ≤ grid0.N) (d9 : Vec F S1024x2048 .bf16) (d10 : Vec F S1024x1024 .bf16) : Prop :=
  ∀ (k : ℕ) (hk : n = k + 1), Used m c ⟨k, Nat.lt_of_lt_of_le (hk ▸ Nat.lt_succ_self k) h⟩ →
    d9 = k0_pay2 (iblk m hO c 1 ⟨k, Nat.lt_of_lt_of_le (hk ▸ Nat.lt_succ_self k) h⟩) ∧ d10 = k0_pay3 (iblk m hO c 3 ⟨k, Nat.lt_of_lt_of_le (hk ▸ Nat.lt_succ_self k) h⟩)

/-- What the body carries from point to point: the scratch memory, the generator's register, the tables. -/
def PhiS (c : Dev nD) (n : ℕ) (h : n ≤ grid0.N) : sProp (MT nD τ sig Unit (Elt F) ℕ (UR sig nD τ) ℕ) :=
  iprop(∃ d9 d10, ⌜Kept m hO c n h d9 d10⌝ ∗ owns (c : Thread nD τ) (Memref.whole cc0_scratch0) fullShare d9
    ∗ owns (c : Thread nD τ) (Memref.whole cc0_scratch1) fullShare d10
    ∗ (∃ r, prngReg c r)
    ∗ Held c (Memref.whole main_v13) (tbl m 0) ∗ Held c (Memref.whole main_arg1) (tbl m 1))

/-- The proof data of the pipeline. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := PhiS m hO c t.val (Nat.le_of_lt_succ t.isLt)
  q _ := fullShare
  owed _ := 0

theorem A_eq (c : Dev nD) (w : Fin (cfgM m hO).W) : (dats m hO 0 c).A w = V m c (Pipeline.arrRef spec0 w) := by
  dsimp only [dats]
theorem after0_0 (c : Dev nD) (t : Fin (cfgM m hO).N) : (dats m hO 0 c).after 0 t = iblk m hO c 0 t := by dsimp only [dats]; rfl
theorem after0_1 (c : Dev nD) (t : Fin (cfgM m hO).N) : (dats m hO 0 c).after 1 t = iblk m hO c 1 t := by dsimp only [dats]; rfl
theorem after0_2 (c : Dev nD) (t : Fin (cfgM m hO).N) : (dats m hO 0 c).after 2 t = iblk m hO c 2 t := by dsimp only [dats]; rfl
theorem after0_3 (c : Dev nD) (t : Fin (cfgM m hO).N) : (dats m hO 0 c).after 3 t = iblk m hO c 3 t := by dsimp only [dats]; rfl
theorem after0_4 (c : Dev nD) (t : Fin (cfgM m hO).N) : (dats m hO 0 c).after 4 t = iblk m hO c 4 t := by dsimp only [dats]; rfl
theorem after0_5 (c : Dev nD) (t : Fin (cfgM m hO).N) : (dats m hO 0 c).after 5 t = outAt m hO c t := by dsimp only [dats]; rfl

theorem before0_0 (c : Dev nD) (t : Fin (cfgM m hO).N) (d) : (dats m hO 0 c).before 0 t d = iblk m hO c 0 t :=
  ((dats m hO 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

theorem before0_1 (c : Dev nD) (t : Fin (cfgM m hO).N) (d) : (dats m hO 0 c).before 1 t d = iblk m hO c 1 t :=
  ((dats m hO 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

theorem before0_2 (c : Dev nD) (t : Fin (cfgM m hO).N) (d) : (dats m hO 0 c).before 2 t d = iblk m hO c 2 t :=
  ((dats m hO 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)

theorem before0_3 (c : Dev nD) (t : Fin (cfgM m hO).N) (d) : (dats m hO 0 c).before 3 t d = iblk m hO c 3 t :=
  ((dats m hO 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)

theorem before0_4 (c : Dev nD) (t : Fin (cfgM m hO).N) (d) : (dats m hO 0 c).before 4 t d = iblk m hO c 4 t :=
  ((dats m hO 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)

end Cert.Kernel3Ideal.Gen

end
-- ==== Proof.ExKept.lean ====
/-
  The expert kernel's body at a generic grid point, its launch, and what the launch leaves in memory.
-/
module

public import Idealize.ShloMosaic.Lib.Pointwise
public import Idealize.ShloMosaic.Lib.WordCmp
public import proofs.«01_k».proof.Proof.ExData

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg) (hO : Ok m)

/-! ## The words at a grid point -/

/-- A tile's expert is the table's entry of its number. -/
theorem teAt_eq (c : Dev nD) (t : Fin grid0.N) : teAt m c (grid0.coords t) = tbl m 0 (ix1 ⟨t.val, t.isLt⟩) := by
  show tbl m 0 _ = tbl m 0 _
  congr 1
  funext a
  apply Fin.ext
  obtain rfl : a = (0 : Fin 1) := Subsingleton.elim (α := Fin 1) _ _
  have e : k0_off2 (grid0.coords t) 0 = t.val := congrFun (off2_eq t) 0
  show k0_off2 (grid0.coords t) 0 + 1 * 0 = t.val
  omega

theorem tpAt_eq (c : Dev nD) (t k : Fin grid0.N) (hk : t.val = k.val + 1) :
    tpAt m c (grid0.coords t) = teAt m c (grid0.coords k) := by
  show tbl m 0 _ = tbl m 0 _
  congr 1
  funext a
  apply Fin.ext
  obtain rfl : a = (0 : Fin 1) := Subsingleton.elim (α := Fin 1) _ _
  have e : k0_off3 (grid0.coords t) 0 = t.val - 1 := congrFun (off3_eq t) 0
  have e' : k0_off2 (grid0.coords k) 0 = k.val := congrFun (off2_eq k) 0
  show k0_off3 (grid0.coords t) 0 + 1 * 0 = k0_off2 (grid0.coords k) 0 + 1 * 0
  omega

theorem toInt_coord (t : Fin grid0.N) : (BitVec.ofNat 32 (grid0.coords t 0).val).toInt = t.val := by
  have ht : t.val < 576 := t.isLt
  rw [coord_val, BitVec.toInt_eq_toNat_of_lt (by rw [BitVec.toNat_ofNat]; omega), BitVec.toNat_ofNat]
  omega

/-- A tile is used if its number is below the number of used tiles. -/
theorem used_iff (c : Dev nD) (t : Fin grid0.N) : Used m c t ↔ (t.val : ℤ) < (nuAt m c).toInt := by
  rw [← toInt_coord t]
  exact (cond3_iff _ _).trans IntOp.cmpi_slt

/-! ## What is kept in scratch memory -/

theorem fetched_eq (c : Dev nD) (t : Fin (cfgM m hO).N) (d) : (dats m hO 0 c).fetched 1 t d = iblk m hO c 1 t := by
  unfold Dat.fetched Dat.blockOf iblk; rw [A_eq]; rfl

theorem fetched_eq' (c : Dev nD) (t : Fin (cfgM m hO).N) (d) : (dats m hO 0 c).fetched 3 t d = iblk m hO c 3 t := by
  unfold Dat.fetched Dat.blockOf iblk; rw [A_eq]; rfl

/-- Two tiles of one expert are handed the same first matrix, -/
theorem iblk1_congr (c : Dev nD) (t k : Fin (cfgM m hO).N)
    (h : teAt m c (grid0.coords t) = teAt m c (grid0.coords k)) :
    k0_pay2 (F := F) (iblk m hO c 1 t) = k0_pay2 (iblk m hO c 1 k) := by
  have hix : ((cfgM m hO).win 1).index t = ((cfgM m hO).win 1).index k := by
    show ![_, (teAt m c (grid0.coords t)).toNat, _, _] = ![_, (teAt m c (grid0.coords k)).toNat, _, _]
    rw [h]
  have := (dats m hO 0 c).fetched_congr 1 hix rfl (iblk m hO c 1 t)
  rw [fetched_eq, fetched_eq] at this
  exact congrArg k0_pay2 this

/-- and the same second one. -/
theorem iblk3_congr (c : Dev nD) (t k : Fin (cfgM m hO).N)
    (h : teAt m c (grid0.coords t) = teAt m c (grid0.coords k)) :
    k0_pay3 (F := F) (iblk m hO c 3 t) = k0_pay3 (iblk m hO c 3 k) := by
  have hix : ((cfgM m hO).win 3).index t = ((cfgM m hO).win 3).index k := by
    show ![_, (teAt m c (grid0.coords t)).toNat, _, _] = ![_, (teAt m c (grid0.coords k)).toNat, _, _]
    rw [h]
  have := (dats m hO 0 c).fetched_congr 3 hix rfl (iblk m hO c 3 t)
  rw [fetched_eq', fetched_eq'] at this
  exact congrArg k0_pay3 this

/-- At a used tile that does not fill scratch memory, it holds the tile's own weights. -/
theorem kept_own (c : Dev nD) (t : Fin grid0.N) (d9 : Vec F S1024x2048 .bf16) (d10 : Vec F S1024x1024 .bf16)
    (hK : Kept m hO c t.val (Nat.le_of_lt t.isLt) d9 d10) (hu : Used m c t)
    (hf : ¬ fillCond (grid0.coords t) (nuAt m c) (teAt m c (grid0.coords t)) (tpAt m c (grid0.coords t)) = 1#1) :
    d9 = k0_pay2 (iblk m hO c 1 t) ∧ d10 = k0_pay3 (iblk m hO c 3 t) := by
  have hs := (cond3_iff _ _).1 hu
  rw [fill_iff] at hf
  push Not at hf
  obtain ⟨h0, hne⟩ := hf hs
  have ht0 : t.val ≠ 0 := fun h => h0 (by rw [coord_val, h]; decide)
  obtain ⟨k, hk⟩ := Nat.exists_eq_succ_of_ne_zero ht0
  have hkl : k < grid0.N := by have := t.isLt; omega
  have htp := tpAt_eq m c t ⟨k, hkl⟩ hk
  have heq : teAt m c (grid0.coords t) = teAt m c (grid0.coords ⟨k, hkl⟩) := by
    rw [← htp]
    by_contra hc
    exact hne ((WordCmp.cmpi_ne_eq _ _).trans (by simp [hc]))
  have huk : Used m c ⟨k, hkl⟩ := by
    rw [used_iff] at hu ⊢
    have : (t.val : ℤ) = k + 1 := by exact_mod_cast hk
    show (k : ℤ) < _
    omega
  obtain ⟨h9, h10⟩ := hK k hk huk
  exact ⟨h9.trans (iblk1_congr m hO c t ⟨k, hkl⟩ heq).symm, h10.trans (iblk3_congr m hO c t ⟨k, hkl⟩ heq).symm⟩

end Cert.Kernel3Ideal.Gen

end
-- ==== Proof.ExBodyAt.lean ====
/-
  The expert kernel's body at a generic grid point, its launch, and what the launch leaves in memory.
-/
module

public import proofs.«01_k».proof.Proof.ExKept

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg) (hO : Ok m)

/-! ## The body at a grid point -/

/-- Window 0's staging buffer at a point. -/
abbrev st0_0 (t : Fin (cfgM m hO).N) := ((cfgM m hO).win 0).stage ((cfgM m hO).slots t 0)
/-- Window 1's staging buffer at a point. -/
abbrev st0_1 (t : Fin (cfgM m hO).N) := ((cfgM m hO).win 1).stage ((cfgM m hO).slots t 1)
/-- Window 2's staging buffer at a point. -/
abbrev st0_2 (t : Fin (cfgM m hO).N) := ((cfgM m hO).win 2).stage ((cfgM m hO).slots t 2)
/-- Window 3's staging buffer at a point. -/
abbrev st0_3 (t : Fin (cfgM m hO).N) := ((cfgM m hO).win 3).stage ((cfgM m hO).slots t 3)
/-- Window 4's staging buffer at a point. -/
abbrev st0_4 (t : Fin (cfgM m hO).N) := ((cfgM m hO).win 4).stage ((cfgM m hO).slots t 4)
/-- Window 5's staging buffer at a point. -/
abbrev st0_5 (t : Fin (cfgM m hO).N) := ((cfgM m hO).win 5).stage ((cfgM m hO).slots t 5)

/-- The body at a point, on the buffers it is called with. -/
def bodyAt0 (t : Fin (cfgM m hO).N) :=
  cc0_moe_experts (F := F) (grid0.coords t) (Memref.whole main_v13) (Memref.isWhole_whole _) (Memref.whole main_arg1)
    (Memref.isWhole_whole _)
    (st0_0 m hO t) (hstage0_0 (((cfgM m hO).slots t 0).cast nbuf0_0))
    (st0_1 m hO t) (hstage0_1 (((cfgM m hO).slots t 1).cast nbuf0_1))
    (st0_2 m hO t) (hstage0_2 (((cfgM m hO).slots t 2).cast nbuf0_2))
    (st0_3 m hO t) (hstage0_3 (((cfgM m hO).slots t 3).cast nbuf0_3))
    (st0_4 m hO t) (hstage0_4 (((cfgM m hO).slots t 4).cast nbuf0_4))
    (st0_5 m hO t) (hstage0_5 (((cfgM m hO).slots t 5).cast nbuf0_5))
    (Memref.whole cc0_scratch0) (Memref.isWhole_whole _) (Memref.whole cc0_scratch1) (Memref.isWhole_whole _)

/-- What the body is handed at a point. -/
def bodyPre (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (st0_0 m hO t) fullShare ((dats m hO 0 c).before 0 t d))
    ∗ (∃ d, owns (c : Thread nD τ) (st0_1 m hO t) fullShare ((dats m hO 0 c).before 1 t d))
    ∗ (∃ d, owns (c : Thread nD τ) (st0_2 m hO t) fullShare ((dats m hO 0 c).before 2 t d))
    ∗ (∃ d, owns (c : Thread nD τ) (st0_3 m hO t) fullShare ((dats m hO 0 c).before 3 t d))
    ∗ (∃ d, owns (c : Thread nD τ) (st0_4 m hO t) fullShare ((dats m hO 0 c).before 4 t d))
    ∗ (∃ d, owns (c : Thread nD τ) (st0_5 m hO t) fullShare ((dats m hO 0 c).before 5 t d)))

/-- What the body hands back. -/
def bodyPost (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (st0_0 m hO t) fullShare ((dats m hO 0 c).after 0 t)
    ∗ owns (c : Thread nD τ) (st0_1 m hO t) fullShare ((dats m hO 0 c).after 1 t)
    ∗ owns (c : Thread nD τ) (st0_2 m hO t) fullShare ((dats m hO 0 c).after 2 t)
    ∗ owns (c : Thread nD τ) (st0_3 m hO t) fullShare ((dats m hO 0 c).after 3 t)
    ∗ owns (c : Thread nD τ) (st0_4 m hO t) fullShare ((dats m hO 0 c).after 4 t)
    ∗ owns (c : Thread nD τ) (st0_5 m hO t) fullShare ((dats m hO 0 c).after 5 t))

theorem phi_castSucc (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem phi_succ (c : Dev nD) (t : Fin (cfgM m hO).N) :
    (dats m hO 0 c).Φ t.succ = PhiS m hO c (t.val + 1) t.isLt := by
  dsimp only [dats]; rfl

/-- After a tile that is not used, nothing is claimed of scratch memory. -/
theorem kept_unused (c : Dev nD) (t : Fin grid0.N) (d9 : Vec F S1024x2048 .bf16) (d10 : Vec F S1024x1024 .bf16)
    (hu : ¬ Used m c t) : Kept m hO c (t.val + 1) t.isLt d9 d10 := by
  intro k hk hk'
  obtain rfl : t.val = k := Nat.succ.inj hk
  exact absurd hk' hu

/-- After a used tile, scratch memory holds the tile's weights. -/
theorem kept_used (c : Dev nD) (t : Fin grid0.N) :
    Kept m hO c (t.val + 1) t.isLt (k0_pay2 (iblk m hO c 1 t)) (k0_pay3 (iblk m hO c 3 t)) := by
  intro k hk hk'
  obtain rfl : t.val = k := Nat.succ.inj hk
  exact ⟨rfl, rfl⟩

set_option maxHeartbeats 1000000 in
/-- The body at any point: by whether the tile is used, and whether it fills scratch memory. -/
theorem sound_body (c : Dev nD) (t : Fin (cfgM m hO).N) :
    bodyPre m hO c t ⊢ wp frame (wpE (defs₀ (F := F)) Variants.none c none) Set.univ (bodyAt0 m hO t)
      (fun _ => bodyPost m hO c t) := by
  unfold bodyPre bodyPost bodyAt0
  simp only [before0_0, before0_1, before0_2, before0_3, before0_4]
  rw [phi_castSucc, phi_succ,
    show (dats m hO 0 c).owesAt () t.succ = (dats m hO 0 c).owesAt () t.castSucc from rfl,
    after0_0, after0_1, after0_2, after0_3, after0_4, after0_5]
  by_cases hu : Used m c t
  · have hz : ¬ k0_cond1 (grid0.coords t) (nuAt m c) = 1#1 := by
      rw [cond1_iff, not_not]; exact (cond3_iff _ _).1 hu
    have hout : outAt m hO c t = k0_pay4 (iblk m hO c 0 t) (k0_pay2 (iblk m hO c 1 t)) (iblk m hO c 2 t)
        (k0_pay3 (iblk m hO c 3 t)) (iblk m hO c 4 t) := by unfold outAt; exact if_pos hu
    rw [hout]
    by_cases hf : fillCond (grid0.coords t) (nuAt m c) (teAt m c (grid0.coords t)) (tpAt m c (grid0.coords t)) = 1#1
    · unfold PhiS
      iintro ⟨⟨%d9, %d10, %hK, H9, H10, Hr, Ha, Hb⟩, Ho, ⟨%e0, H0⟩, ⟨%e1, H1⟩, ⟨%e2, H2⟩, ⟨%e3, H3⟩, ⟨%e4, H4⟩, ⟨%e5, H5⟩⟩
      iapply (run_fill c Set.univ (grid0.coords t) (Memref.whole main_v13) _ (Memref.whole main_arg1) _ _ _ _ _ _ _ _ _ _ _ _ _
        (Memref.whole cc0_scratch0) _ (Memref.whole cc0_scratch1) _ (tbl m 0) (tbl m 1) hz hf hu
        (iblk m hO c 0 t) (iblk m hO c 1 t) (iblk m hO c 2 t) (iblk m hO c 3 t) (iblk m hO c 4 t) _)
      isplitl [Ha]; · iexact Ha
      isplitl [Hb]; · iexact Hb
      isplitl [H0]; · iexact H0
      isplitl [H1]; · iexact H1
      isplitl [H2]; · iexact H2
      isplitl [H3]; · iexact H3
      isplitl [H4]; · iexact H4
      isplitl [H5]; · iexists _; iexact H5
      isplitl [H9]; · iexists _; iexact H9
      isplitl [H10]; · iexists _; iexact H10
      iintro ⟨Ha, Hb, H0, H1, H2, H3, H4, H5, H9, H10⟩
      isplitl [H9 H10 Hr Ha Hb]
      · iexists _; iexists _
        isplitr; · ipureintro; exact kept_used m hO c t
        isplitl [H9]; · iexact H9
        isplitl [H10]; · iexact H10
        isplitl [Hr]; · iexact Hr
        isplitl [Ha]; · iexact Ha
        iexact Hb
      isplitl [Ho]; · iexact Ho
      isplitl [H0]; · iexact H0
      isplitl [H1]; · iexact H1
      isplitl [H2]; · iexact H2
      isplitl [H3]; · iexact H3
      isplitl [H4]; · iexact H4
      iexact H5
    · unfold PhiS
      iintro ⟨⟨%d9, %d10, %hK, H9, H10, Hr, Ha, Hb⟩, Ho, ⟨%e0, H0⟩, ⟨%e1, H1⟩, ⟨%e2, H2⟩, ⟨%e3, H3⟩, ⟨%e4, H4⟩, ⟨%e5, H5⟩⟩
      obtain ⟨h9, h10⟩ := kept_own m hO c t d9 d10 hK hu hf
      subst h9 h10
      iapply (run_keep c Set.univ (grid0.coords t) (Memref.whole main_v13) _ (Memref.whole main_arg1) _ _ _ _ _ _ _ _ _ _ _ _ _
        (Memref.whole cc0_scratch0) _ (Memref.whole cc0_scratch1) _ (tbl m 0) (tbl m 1) hz hf hu
        (iblk m hO c 0 t) (iblk m hO c 2 t) (iblk m hO c 4 t) (k0_pay2 (iblk m hO c 1 t)) (k0_pay3 (iblk m hO c 3 t)) _)
      isplitl [Ha]; · iexact Ha
      isplitl [Hb]; · iexact Hb
      isplitl [H0]; · iexact H0
      isplitl [H2]; · iexact H2
      isplitl [H4]; · iexact H4
      isplitl [H5]; · iexists _; iexact H5
      isplitl [H9]; · iexact H9
      isplitl [H10]; · iexact H10
      iintro ⟨Ha, Hb, H0, H2, H4, H5, H9, H10⟩
      isplitl [H9 H10 Hr Ha Hb]
      · iexists _; iexists _
        isplitr; · ipureintro; exact kept_used m hO c t
        isplitl [H9]; · iexact H9
        isplitl [H10]; · iexact H10
        isplitl [Hr]; · iexact Hr
        isplitl [Ha]; · iexact Ha
        iexact Hb
      isplitl [Ho]; · iexact Ho
      isplitl [H0]; · iexact H0
      isplitl [H1]; · iexact H1
      isplitl [H2]; · iexact H2
      isplitl [H3]; · iexact H3
      isplitl [H4]; · iexact H4
      iexact H5
  · have hs := fun h => hu ((cond3_iff _ _).2 h)
    have hz : k0_cond1 (grid0.coords t) (nuAt m c) = 1#1 := (cond1_iff _ _).2 hs
    have hf : ¬ fillCond (grid0.coords t) (nuAt m c) (teAt m c (grid0.coords t)) (tpAt m c (grid0.coords t)) = 1#1 :=
      fun h => hs ((fill_iff _ _ _ _).1 h).1
    have hout : outAt m hO c t = k0_pay1 := by unfold outAt; exact if_neg hu
    rw [hout]
    unfold PhiS
    iintro ⟨⟨%d9, %d10, %hK, H9, H10, Hr, Ha, Hb⟩, Ho, ⟨%e0, H0⟩, ⟨%e1, H1⟩, ⟨%e2, H2⟩, ⟨%e3, H3⟩, ⟨%e4, H4⟩, ⟨%e5, H5⟩⟩
    iapply (run_unused c Set.univ (grid0.coords t) (Memref.whole main_v13) _ (Memref.whole main_arg1) _ _ _ _ _ _ _ _ _ _ _ _ _
      (Memref.whole cc0_scratch0) _ (Memref.whole cc0_scratch1) _ (tbl m 0) (tbl m 1) hz hf hu _)
    isplitl [Ha]; · iexact Ha
    isplitl [Hb]; · iexact Hb
    isplitl [H5]; · iexists _; iexact H5
    iintro ⟨Ha, Hb, H5⟩
    isplitl [H9 H10 Hr Ha Hb]
    · iexists _; iexists _
      isplitr; · ipureintro; exact kept_unused m hO c t d9 d10 hu
      isplitl [H9]; · iexact H9
      isplitl [H10]; · iexact H10
      isplitl [Hr]; · iexact Hr
      isplitl [Ha]; · iexact Ha
      iexact Hb
    isplitl [Ho]; · iexact Ho
    isplitl [H0]; · iexact H0
    isplitl [H1]; · iexact H1
    isplitl [H2]; · iexact H2
    isplitl [H3]; · iexact H3
    isplitl [H4]; · iexact H4
    iexact H5

/-- The body table's row at a point is the body there. -/
theorem defs₀_row (t : Fin (cfgM m hO).N) :
    defs₀ (F := F) .tc (cfgM m hO).body ((cfgM m hO).bodyArgs t ((cfgM m hO).slots t)) = bodyAt0 m hO t := by
  unfold defs₀ bodyAt0; rw [Defs.onTc_tc]; rfl

/-- The body writes the result's buffer at every point, whether the tile is used or not. -/
theorem not_idle (i : grid0.Coords) : (cfgM m hO).idle 5 i = false := by
  show (!(k0_cond1 i ((tbl m).atD 1 ![0]) == 1#1) && !(k0_cond3 i ((tbl m).atD 1 ![0]) == 1#1)) = false
  generalize (tbl m).atD 1 ![0] = nu
  by_cases h : Scalar.cmpi .slt (BitVec.ofNat 32 (i 0).val) nu = 1#1
  · have := (cond3_iff i nu).2 h
    simp [this]
  · have := (cond1_iff i nu).2 h
    simp [this]

theorem body_obligation (c : Dev nD) :
    BodyObligation (dats m hO 0 c) (defs₀ (F := F)) Variants.none () Set.univ := fun t => by
  rw [bigSep_W0, bigSep_W0, defs₀_row]
  refine triple_restated (sound_body m hO c t) rfl .rfl fun _ => ?_
  unfold bodyPost
  rw [not_idle]
  exact .rfl

end Cert.Kernel3Ideal.Gen

end
-- ==== Proof.ExLaunch.lean ====
/-
  The launch of the expert kernel: from the state the region is entered in to what it leaves in memory.
-/
module

public import proofs.«01_k».proof.Proof.ExBodyAt

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg) (hO : Ok m)

/-! ## The launch -/

/-- What the region hands the body before the first point is what the body carries: nothing is claimed of scratch
    memory yet. -/
theorem phi_first (c : Dev nD) : iprop(Pipeline.ΦA spec0 c ∗ Pipeline.ΦT pre0 (tbl m) c) ⊢ (dats m hO 0 c).Φ 0 := by
  have hΦ : (dats m hO 0 c).Φ 0 = PhiS m hO c 0 (Nat.zero_le _) := by dsimp only [dats]; rfl
  have hT : (Pipeline.ΦT pre0 (tbl m) c : sProp (MT nD τ sig Unit (Elt F) ℕ (UR sig nD τ) ℕ))
      = iprop(Held c (Memref.whole main_v13) (tbl m 0) ∗ Held c (Memref.whole main_arg1) (tbl m 1)) := by
    unfold Pipeline.ΦT Pipeline.prefHeld
    rw [show (Finset.univ : Finset (Fin 2)) = insert (0 : Fin 2) {(1 : Fin 2)} from by decide,
      bigSep_insert (by decide), bigSep_singleton]
    rfl
  rw [hΦ, hT]
  unfold PhiS Pipeline.ΦA
  rw [scopedRest0_eq]
  iintro ⟨⟨⟨⟨%f9, H9⟩, ⟨%f10, H10⟩⟩, Hr⟩, Ha, Hb⟩
  iexists f9; iexists f10
  isplitr
  · ipureintro
    intro k hk
    exact absurd hk (Nat.succ_ne_zero k).symm
  isplitl [H9]; · rw [owns_whole]; iexact H9
  isplitl [H10]; · rw [owns_whole]; iexact H10
  isplitl [Hr]; · iexact Hr
  isplitl [Ha]; · iexact Ha
  iexact Hb

/-- What the body carries after the last point gives back what the region handed it. -/
theorem phi_last (c : Dev nD) : (dats m hO 0 c).Φ (Fin.last (cfgM m hO).N) ⊢ Pipeline.ΦA spec0 c := by
  have hΦ : (dats m hO 0 c).Φ (Fin.last (cfgM m hO).N) = PhiS m hO c grid0.N le_rfl := by dsimp only [dats]; rfl
  rw [hΦ]
  unfold PhiS Pipeline.ΦA
  rw [scopedRest0_eq]
  iintro ⟨%d9, %d10, %hK, H9, H10, Hr, Ha, Hb⟩
  isplitl [H9 H10]
  · isplitl [H9]
    · iexists d9; rw [owns_whole]; exact .rfl
    iexists d10; rw [owns_whole]; exact .rfl
  iexact Hr

set_option backward.isDefEq.respectTransparency.types false in
set_option maxHeartbeats 800000 in
/-- The run: every execution ends, with each window's array at what the proof data computes, every other buffer as the
    region found it and every semaphore at zero. -/
theorem run_quiescent : θ_run defs (onTc (τ := τ) (main (F := F))) (s₀ m ρ) (fun r =>
    Pipeline.FramePost (Pipeline.pin (pcfgs (F := F)) fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m)
    (hmain := Pipeline.hmainP_prefix pcfgs 0 defs₀ Variants.none m main hostOps0 hostOps0_sub hostOps0_fresh main_chain)
    (hA := A_eq m hO) (hpf := V_pre m) (hin := phi_first m hO) (hout := phi_last m hO)

/-- What the run leaves: the result's array as the proof data computes it, the arguments as launched. -/
theorem run_main : θ_run defs (onTc (τ := τ) (main (F := F))) ⟨m, fun _ => 0, ρ⟩ (fun r => (∀ c : Dev nD,
      r.2.mem ((c.tc : Thread nD τ).loc main_v14) = (dats m hO 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c).1 5,
      ((h.1 c).2 main_arg0 (Pipeline.mem_restRefs_of main_arg0 (by decide)
        (show ∀ w : Fin 6, (spec0 w).arr.view.ref ≠ main_arg0 by decide))).trans (V_main_arg0 m c),
      ((h.1 c).2 main_arg1 (Pipeline.mem_restRefs_of main_arg1 (by decide)
        (show ∀ w : Fin 6, (spec0 w).arr.view.ref ≠ main_arg1 by decide))).trans (V_main_arg1 m c),
      ((h.1 c).1 0).trans (((dats m hO 0 c).arrAt_in 0 rfl _).trans ((A_eq m hO c 0).trans (V_main_arg2 m c))),
      ((h.1 c).1 1).trans (((dats m hO 0 c).arrAt_in 1 rfl _).trans ((A_eq m hO c 1).trans (V_main_arg3 m c))),
      ((h.1 c).2 main_arg4 (Pipeline.mem_restRefs_of main_arg4 (by decide)
        (show ∀ w : Fin 6, (spec0 w).arr.view.ref ≠ main_arg4 by decide))).trans (V_main_arg4 m c),
      ((h.1 c).1 3).trans (((dats m hO 0 c).arrAt_in 3 rfl _).trans ((A_eq m hO c 3).trans (V_main_arg5 m c))),
      ((h.1 c).2 main_arg6 (Pipeline.mem_restRefs_of main_arg6 (by decide)
        (show ∀ w : Fin 6, (spec0 w).arr.view.ref ≠ main_arg6 by decide))).trans (V_main_arg6 m c)⟩, h.2⟩)
    (run_quiescent m ρ hO)

end Cert.Kernel3Ideal.Gen

end
-- ==== Proof.ExTables.lean ====
/-
  The expert kernel's tables: what the host gathers, and why every block they point at lies inside its array.
-/
module

public import Idealize.ShloMosaic.Lib.Pointwise
public import Idealize.ShloMosaic.Lib.WordCmp
public import Idealize.ShloMosaic.Lib.StableHlo.ReadAt
public import Idealize.ShloMosaic.Lib.StableHlo.Predicate
public import proofs.«01_k».proof.Proof.ExLaunch

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The gather of table entries, at a tile: the entry the tile's index points at, held inside the table. -/
theorem gather_at (x : S576.Idx → BitVec 32) (ix : IVec S576x1 32) (t : Fin 576) :
    Host.gather gather_S576_S576x1_S576_n_0_n_n_0_1_1 x ix (ix1 t)
      = x (ix1 ⟨min (ix (ix2 t 0)).toInt.toNat 575, by omega⟩) := by
  have h := StableHlo.Predicate.gather_take gather_S576_S576x1_S576_n_0_n_n_0_1_1 rfl rfl rfl rfl x ix t (by decide)
  have e1 : (ix1 t : S576.Idx) = Shape.Idx.ofFin t := by
    funext a
    obtain rfl : a = (0 : Fin 1) := Subsingleton.elim (α := Fin 1) _ _
    rfl
  have e2 : (ix2 t (0 : Fin 1) : S576x1.Idx) = StableHlo.Predicate.ixP t := by
    funext a
    match a with
    | ⟨0, _⟩ => rfl
    | ⟨1, _⟩ => rfl
  have e3 : (ix (ix2 t 0)).toInt.toNat = (ix (StableHlo.Predicate.ixP t)).toInt.toNat := by rw [e2]
  refine (congrArg _ e1).trans (h.trans (congrArg x ?_))
  funext a
  obtain rfl : a = (0 : Fin 1) := Subsingleton.elim (α := Fin 1) _ _
  apply Fin.ext
  show min (ix (StableHlo.Predicate.ixP t)).toInt.toNat 575 = min (ix (ix2 t 0)).toInt.toNat 575
  rw [e3]

/-- A tile's number held below the number of used tiles, as a word. -/
theorem held_word (t : ℕ) (ht : t < 576) (nu : BitVec 32) (h : 1 ≤ nu.toInt) :
    (IntOp.minsi (BitVec.ofNat 32 t) (IntOp.subi nu 1#32)).toInt = min (t : ℤ) (nu.toInt - 1) := by
  have e1 : (BitVec.ofNat 32 t).toInt = t := by
    rw [BitVec.toInt_eq_toNat_of_lt (by rw [BitVec.toNat_ofNat]; omega), BitVec.toNat_ofNat]; omega
  have e2 : (IntOp.subi nu 1#32).toInt = nu.toInt - 1 := by
    have hl := nu.toInt_lt
    show (nu - 1#32).toInt = _
    rw [BitVec.toInt_sub]
    have : (1#32 : BitVec 32).toInt = 1 := by decide
    rw [this]
    exact Int.bmod_eq_of_le (by norm_num; omega) (by norm_num; omega)
  rw [← e1, ← e2]
  unfold IntOp.minsi
  split_ifs with hc
  · have := BitVec.slt_iff_toInt_lt.1 hc
    omega
  · have := mt BitVec.slt_iff_toInt_lt.2 hc
    omega

/-- The tile whose entry tile `t` is handed: itself, or the last used one if it lies beyond. -/
def fromTile (nu : BitVec 32) (t : Fin 576) : Fin 576 := ⟨min t.val (nu.toInt.toNat - 1), by omega⟩

/-- The table the launch reads, at a tile: the expert of the tile, or of the last used one. -/
theorem tbl0_at (t : Fin 576) (hnu : 1 ≤ BitVec.toInt (m ((0 : Dev nD), main_arg1) (ix1 (0 : Fin 1)))) :
    tbl m 0 (ix1 t) = m ((0 : Dev nD), main_arg0) (ix1 (fromTile (m ((0 : Dev nD), main_arg1) (ix1 (0 : Fin 1))) t)) := by
  show V m 0 main_v13 (ix1 t) = _
  unfold V
  after_reads_at
  rw [gather_at]
  refine congrArg _ (congrArg ix1 (Fin.ext ?_))
  generalize m ((0 : Dev nD), main_arg1) = nu at hnu ⊢
  show _ = min t.val ((nu (ix1 0)).toInt.toNat - 1)
  pointwise
  have hw := held_word t.val t.isLt (nu (ix1 0)) hnu
  have hs : ¬ IntOp.cmpi CmpIPredicate.slt (IntOp.minsi (BitVec.ofNat 32 t.val) (IntOp.subi (nu (ix1 0)) 1#32)) 0#32 = 1#1 := by
    intro hc
    have := IntOp.cmpi_slt.1 hc
    rw [hw] at this
    have e0 : (0#32 : BitVec 32).toInt = 0 := by decide
    omega
  have hsel : ∀ a b : BitVec 32, Scalar.select (IntOp.cmpi CmpIPredicate.slt (IntOp.minsi (BitVec.ofNat 32 t.val) (IntOp.subi (nu (ix1 0)) 1#32)) 0#32) a b = b := fun a b => if_neg hs
  rw [hsel, hw]
  have := t.isLt
  omega

/-- The number of used tiles is the word the launch is given. -/
theorem nuAt_eq (c : Dev nD) : nuAt m c = m ((0 : Dev nD), main_arg1) (ix1 (0 : Fin 1)) := by
  show tbl m 1 _ = _
  have e : tbl m 1 = m ((0 : Dev nD), main_arg1) := V_main_arg1 m 0
  refine (congrFun e _).trans (congrArg _ ?_)
  funext a
  obtain rfl : a = (0 : Fin 1) := Subsingleton.elim (α := Fin 1) _ _
  exact Subsingleton.elim (α := Fin 1) _ _

/-- A grid point's expert is the table's entry of its coordinate. -/
theorem teAt_coords (c : Dev nD) (i : grid0.Coords) : teAt m c i = tbl m 0 (ix1 ⟨(i 0).val, (i 0).isLt⟩) := by
  show tbl m 0 _ = tbl m 0 _
  congr 1
  funext a
  apply Fin.ext
  obtain rfl : a = (0 : Fin 1) := Subsingleton.elim (α := Fin 1) _ _
  have hi : (i 0).val < 576 := (i 0).isLt
  have e : k0_off2 i 0 = (BitVec.ofNat 32 (i 0).val).toNat := rfl
  rw [BitVec.toNat_ofNat] at e
  show k0_off2 i 0 + 1 * 0 = (i 0).val
  omega

/-- The launch's two tables are good: one tile at least is used, and every tile's expert is one of the thirty-two. -/
def Good : Prop := 1 ≤ BitVec.toInt (m ((0 : Dev nD), main_arg1) (ix1 (0 : Fin 1))) ∧
  ∀ t : Fin 576, 0 ≤ BitVec.toInt (m ((0 : Dev nD), main_arg0) (ix1 t)) ∧ BitVec.toInt (m ((0 : Dev nD), main_arg0) (ix1 t)) < 32

theorem toNat_of_toInt (w : BitVec 32) (h0 : 0 ≤ w.toInt) : (w.toNat : ℤ) = w.toInt := by
  have h := BitVec.toInt_eq_toNat_cond w
  have := w.isLt
  split_ifs at h <;> omega

variable {m}

/-- Then a grid point's expert is one of the thirty-two, -/
theorem teAt_lt (h : Good m) (c : Dev nD) (i : grid0.Coords) : (teAt m c i).toNat < 32 := by
  rw [teAt_coords, tbl0_at m _ h.1]
  obtain ⟨h0, h1⟩ := h.2 (fromTile (m ((0 : Dev nD), main_arg1) (ix1 (0 : Fin 1))) ⟨(i 0).val, (i 0).isLt⟩)
  have e := toNat_of_toInt _ h0
  rw [← e] at h1
  exact_mod_cast h1

/-- the block of rows it is handed is its own, or the last used one's, -/
theorem rows_eq (h : Good m) (c : Dev nD) (i : grid0.Coords) :
    (IntOp.minsi (BitVec.ofNat 32 (i 0).val) (IntOp.subi (nuAt m c) 1#32)).toNat
      = min (i 0).val ((nuAt m c).toInt.toNat - 1) := by
  have hnu : 1 ≤ (nuAt m c).toInt := by rw [nuAt_eq]; exact h.1
  have hi : (i 0).val < 576 := (i 0).isLt
  have hw := held_word (i 0).val hi (nuAt m c) hnu
  have := toNat_of_toInt (IntOp.minsi (BitVec.ofNat 32 (i 0).val) (IntOp.subi (nuAt m c) 1#32)) (by omega)
  omega

/-- A block of the first matrices lies inside their array, -/
theorem inside1 (n : ℕ) (h : n < 32) : ∀ a : Fin 4, ((![0, n, 0, 0] : Fin 4 → ℕ) a + 1) * S1x1x1024x2048.size a ≤ S4x32x1024x2048.size a := by
  intro a
  match a with
  | ⟨0, _⟩ => exact (by decide : (0 + 1) * 1 ≤ 4)
  | ⟨1, _⟩ => show (n + 1) * 1 ≤ 32; omega
  | ⟨2, _⟩ => exact (by decide : (0 + 1) * 1024 ≤ 1024)
  | ⟨3, _⟩ => exact (by decide : (0 + 1) * 2048 ≤ 2048)

/-- so does one of their biases, -/
theorem inside2 (n : ℕ) (h : n < 32) : ∀ a : Fin 4, ((![0, n, 0, 0] : Fin 4 → ℕ) a + 1) * S1x1x1x2048.size a ≤ S4x32x1x2048.size a := by
  intro a
  match a with
  | ⟨0, _⟩ => exact (by decide : (0 + 1) * 1 ≤ 4)
  | ⟨1, _⟩ => show (n + 1) * 1 ≤ 32; omega
  | ⟨2, _⟩ => exact (by decide : (0 + 1) * 1 ≤ 1)
  | ⟨3, _⟩ => exact (by decide : (0 + 1) * 2048 ≤ 2048)

/-- one of the second matrices -/
theorem inside3 (n : ℕ) (h : n < 32) : ∀ a : Fin 4, ((![0, n, 0, 0] : Fin 4 → ℕ) a + 1) * S1x1x1024x1024.size a ≤ S4x32x1024x1024.size a := by
  intro a
  match a with
  | ⟨0, _⟩ => exact (by decide : (0 + 1) * 1 ≤ 4)
  | ⟨1, _⟩ => show (n + 1) * 1 ≤ 32; omega
  | ⟨2, _⟩ => exact (by decide : (0 + 1) * 1024 ≤ 1024)
  | ⟨3, _⟩ => exact (by decide : (0 + 1) * 1024 ≤ 1024)

/-- and one of their biases, -/
theorem inside4 (n : ℕ) (h : n < 32) : ∀ a : Fin 4, ((![0, n, 0, 0] : Fin 4 → ℕ) a + 1) * S1x1x1x1024.size a ≤ S4x32x1x1024.size a := by
  intro a
  match a with
  | ⟨0, _⟩ => exact (by decide : (0 + 1) * 1 ≤ 4)
  | ⟨1, _⟩ => show (n + 1) * 1 ≤ 32; omega
  | ⟨2, _⟩ => exact (by decide : (0 + 1) * 1 ≤ 1)
  | ⟨3, _⟩ => exact (by decide : (0 + 1) * 1024 ≤ 1024)

/-- and a block of rows inside the rows. -/
theorem inside0 (n : ℕ) (h : n < 576) : ∀ a : Fin 2, ((![n, 0] : Fin 2 → ℕ) a + 1) * S256x1024.size a ≤ S147456x1024.size a := by
  intro a
  match a with
  | ⟨0, _⟩ => show (n + 1) * 256 ≤ 147456; omega
  | ⟨1, _⟩ => exact (by decide : (0 + 1) * 1024 ≤ 1024)

/-- So every block the tables point at lies inside its array. -/
theorem Good.ok (h : Good m) : Ok m := by
  have hr : ∀ i : grid0.Coords, (IntOp.minsi (BitVec.ofNat 32 (i 0).val) (IntOp.subi (nuAt m 0) 1#32)).toNat < 576 := by
    intro i
    have hi : (i 0).val < 576 := (i 0).isLt
    rw [rows_eq h 0 i]; omega
  exact ⟨fun i => ⟨inside0 _ (hr i), .inl rfl⟩, fun i => ⟨inside1 _ (teAt_lt h 0 i), .inl rfl⟩,
    fun i => ⟨inside2 _ (teAt_lt h 0 i), .inl rfl⟩, fun i => ⟨inside3 _ (teAt_lt h 0 i), .inl rfl⟩,
    fun i => ⟨inside4 _ (teAt_lt h 0 i), .inl rfl⟩⟩

/-- A used tile's expert is the one the launch is given for it. -/
theorem teAt_used (h : Good m) (c : Dev nD) (t : Fin grid0.N) (hu : Used m c t) :
    teAt m c (grid0.coords t) = m ((0 : Dev nD), main_arg0) (ix1 (⟨t.val, t.isLt⟩ : Fin 576)) := by
  rw [used_iff, nuAt_eq] at hu
  rw [teAt_eq, tbl0_at m _ h.1]
  refine congrArg _ (congrArg ix1 (Fin.ext ?_))
  show min t.val (BitVec.toInt (m ((0 : Dev nD), main_arg1) (ix1 (0 : Fin 1)))).toNat.pred = t.val
  generalize BitVec.toInt (m ((0 : Dev nD), main_arg1) (ix1 (0 : Fin 1))) = n at hu
  rw [Nat.pred_eq_sub_one]
  omega

end Cert.Kernel3Ideal.Gen

end
-- ==== Proof.ExValue.lean ====
/-
  The experts: what one grid point leaves in the result's block.
-/
module

public import proofs.«01_k».proof.Proof.Gen.Kernel3Ideal.Skeleton
public import Idealize.ShloMosaic.Lib.Pointwise
public import Idealize.ShloMosaic.Lib.Pipeline.ValueKit

@[expose] public section

set_option maxRecDepth 16384

noncomputable section

namespace Cert.Experts

open Cert.Kernel3Ideal Cert.Kernel3Ideal.Gen Idealize.ShloMosaic

/-- The gated unit: the first half, held below a limit, through its swish, times one more than the second half, held between
    the limits. -/
def gated (g u : EReal) : EReal :=
  min g (Ideal.ofBits FTy.f32 0x40E00000#32)
      * Ideal.div (Ideal.ofBits FTy.f32 0x3F800000#32)
          (Ideal.ofBits FTy.f32 0x3F800000#32
            + Ideal.exp (-(Ideal.ofBits FTy.f32 0x3FD9DB23#32 * min g (Ideal.ofBits FTy.f32 0x40E00000#32))))
    * (min (Ideal.ofBits FTy.f32 0x40E00000#32) (max (Ideal.ofBits FTy.f32 0xC0E00000#32) u)
        + Ideal.ofBits FTy.f32 0x3F800000#32)

/-- Column `j` of a row against the first matrix, with its bias. -/
def lifted (x : Fin 1024 → EReal) (A : Fin 1024 → Fin 2048 → EReal) (a : Fin 2048 → EReal) (j : Fin 2048) : EReal :=
  ∑ e : Fin 1024, x e * A e j + a j

/-- Entry `d` of a row through an expert. -/
def through (x : Fin 1024 → EReal) (A : Fin 1024 → Fin 2048 → EReal) (a : Fin 2048 → EReal)
    (B : Fin 1024 → Fin 1024 → EReal) (b : Fin 1024 → EReal) (d : Fin 1024) : EReal :=
  ∑ f : Fin 1024, gated (lifted x A a ⟨f.val, by omega⟩) (lifted x A a ⟨1024 + f.val, by omega⟩) * B f d + b d

/-- What a used tile's point leaves: its rows through its expert. -/
theorem used_at (x0 : Vec Ideal S256x1024 .f32) (x1 : Vec Ideal S1x1x1024x2048 .f32) (x2 : Vec Ideal S1x1x1x2048 .f32)
    (x3 : Vec Ideal S1x1x1024x1024 .f32) (x4 : Vec Ideal S1x1x1x1024 .f32) (r : Fin 256) (d : Fin 1024) :
    k0_pay4 x0 (k0_pay2 x1) x2 (k0_pay3 x3) x4 (ix2 r d)
      = through (fun e => x0 (ix2 r e)) (fun e j => x1 (ix4 0 0 e j)) (fun j => x2 (ix4 0 0 0 j))
          (fun f d => x3 (ix4 0 0 f d)) (fun d => x4 (ix4 0 0 0 d)) d := by
  unfold through gated lifted
  pointwise [k0_pay4, k0_pay2, k0_pay3]
  simp only [sub_eq_add_neg, zero_add]

/-- What an unused tile's point leaves. -/
theorem unused_at (r : Fin 256) (d : Fin 1024) : @Eq EReal (k0_pay1 (F := Ideal) (ix2 r d)) 0 := by
  pointwise [k0_pay1]

end Cert.Experts

end
-- ==== Proof.ExArray.lean ====
/-
  The experts' result array after the run, from the arrays the launch reads: the result's blocks tile it.
-/
module

public import Idealize.ShloMosaic.Lib.Pipeline.ValueKit
public import proofs.«01_k».proof.Proof.ExTables
public import proofs.«01_k».proof.Proof.ExValue

@[expose] public section

set_option maxRecDepth 16384

noncomputable section

namespace Cert.Experts

open Cert.Kernel3Ideal Cert.Kernel3Ideal.Gen Idealize.ShloMosaic Idealize.ShloMosaic.TcCoe
open Idealize.ShloMosaic.Pipeline (Dat)

variable (m : (ℓ : Loc nD τ sig) → Buf (Elt Ideal) ℓ) (hO : Ok m)

/-- The result's block of a tile is the tile's. -/
theorem out_index (t : Fin (cfgM m hO).N) : ((cfgM m hO).win 5).index t = ![t.val, 0] := by
  show cc0_transform_5 (grid0.coords t) = ![t.val, 0]
  have h : ∀ t : Fin grid0.N, cc0_transform_5 (grid0.coords t) = ![t.val, 0] := by decide +kernel
  exact h t

/-- Every tile's block is written back. -/
theorem out_flush (t : Fin (cfgM m hO).N) : ((cfgM m hO).win 5).flush t = true := by
  unfold Pipeline.Window.flush
  have ho : ((cfgM m hO).win 5).isOut = true := rfl
  rw [ho, Bool.true_and]
  by_cases h : t.val + 1 = (cfgM m hO).grid.N
  · simp [h]
  · have hl : t.val + 1 < (cfgM m hO).grid.N := by have : t.val < (cfgM m hO).grid.N := t.isLt; omega
    refine Bool.or_eq_true_iff.2 (.inr (decide_eq_true ⟨hl, fun e => ?_⟩))
    rw [out_index, out_index] at e
    have := congrFun e 0
    exact absurd this (Nat.succ_ne_self t.val)

/-- The blocks cover the result array. -/
theorem out_covers : ((cfgM m hO).win 5).Covers := by
  refine ⟨fun a => ?_, fun β => ?_⟩
  · match a with
    | ⟨0, _⟩ => exact (by decide : 0 < 256)
    | ⟨1, _⟩ => exact (by decide : 0 < 1024)
  · have h0 : (β (0 : Fin 2)).val < 576 := Nat.lt_of_lt_of_eq (β (0 : Fin 2)).isLt (show (147456 + 256 - 1) / 256 = 576 by norm_num)
    have h1 : (β (1 : Fin 2)).val < 1 := Nat.lt_of_lt_of_eq (β (1 : Fin 2)).isLt (show (1024 + 1024 - 1) / 1024 = 1 by norm_num)
    refine ⟨⟨(β (0 : Fin 2)).val, h0⟩, out_flush m hO _, fun a => ⟨?_, .inl rfl⟩⟩
    rw [out_index]
    match a with
    | ⟨0, _⟩ => rfl
    | ⟨1, _⟩ => show 0 = (β (1 : Fin 2)).val; omega

/-- Where an element of a result's block lies in the result array. -/
theorem out_place (t : Fin (cfgM m hO).N) (r : Fin 256) (d : Fin 1024) :
    (((cfgM m hO).win 5).blk t).view.emb (ix2 r d)
      = (ix2 ⟨256 * t.val + r.val, by have : t.val < 576 := t.isLt; omega⟩ d : S147456x1024.Idx) := by
  have h := out_index m hO t
  blk_ext [h]

/-- A tile's rows, read off any array: the tile's own, or the last used tile's. -/
theorem x_read (hG : Good m) (c : Dev nD) (X : S147456x1024.Idx → EReal) (t : Fin (cfgM m hO).N) (r : Fin 256) (e : Fin 1024) :
    (((cfgM m hO).win 0).blk t).view.read (Elt Ideal) X (ix2 r e)
      = X (ix2 ⟨256 * min t.val ((nuAt m c).toInt.toNat - 1) + r.val, by have : t.val < 576 := t.isLt; omega⟩ e) := by
  have h : ((cfgM m hO).win 0).index t = ![min t.val ((nuAt m c).toInt.toNat - 1), 0] := by
    have e := rows_eq hG c (grid0.coords t)
    rw [coord_val] at e
    show ![(IntOp.minsi (BitVec.ofNat 32 (grid0.coords t 0).val) (IntOp.subi (nuAt m c) 1#32)).toNat, 0] = _
    rw [coord_val, e]
  blk_ext [h]

/-- The expert a tile is handed. -/
def handed (hG : Good m) (c : Dev nD) (t : Fin (cfgM m hO).N) : Fin 32 := ⟨(teAt m c (grid0.coords t)).toNat, teAt_lt hG c _⟩

/-- The first matrix of the expert a tile is handed. -/
theorem lift_read (hG : Good m) (c : Dev nD) (A : S4x32x1024x2048.Idx → EReal) (t : Fin (cfgM m hO).N) (e : Fin 1024) (j : Fin 2048) :
    (((cfgM m hO).win 1).blk t).view.read (Elt Ideal) A (ix4 0 0 e j) = A (ix4 0 (handed m hO hG c t) e j) := by
  have h : ((cfgM m hO).win 1).index t = ![0, (handed m hO hG c t).val, 0, 0] := rfl
  blk_ext [h]

/-- Its bias. -/
theorem lift_bias_read (hG : Good m) (c : Dev nD) (a : S4x32x1x2048.Idx → EReal) (t : Fin (cfgM m hO).N) (j : Fin 2048) :
    (((cfgM m hO).win 2).blk t).view.read (Elt Ideal) a (ix4 0 0 0 j) = a (ix4 0 (handed m hO hG c t) 0 j) := by
  have h : ((cfgM m hO).win 2).index t = ![0, (handed m hO hG c t).val, 0, 0] := rfl
  blk_ext [h]

/-- The second matrix. -/
theorem drop_read (hG : Good m) (c : Dev nD) (B : S4x32x1024x1024.Idx → EReal) (t : Fin (cfgM m hO).N) (f : Fin 1024) (d : Fin 1024) :
    (((cfgM m hO).win 3).blk t).view.read (Elt Ideal) B (ix4 0 0 f d) = B (ix4 0 (handed m hO hG c t) f d) := by
  have h : ((cfgM m hO).win 3).index t = ![0, (handed m hO hG c t).val, 0, 0] := rfl
  blk_ext [h]

/-- Its bias. -/
theorem drop_bias_read (hG : Good m) (c : Dev nD) (b : S4x32x1x1024.Idx → EReal) (t : Fin (cfgM m hO).N) (d : Fin 1024) :
    (((cfgM m hO).win 4).blk t).view.read (Elt Ideal) b (ix4 0 0 0 d) = b (ix4 0 (handed m hO hG c t) 0 d) := by
  have h : ((cfgM m hO).win 4).index t = ![0, (handed m hO hG c t).val, 0, 0] := rfl
  blk_ext [h]

/-- The result array as a function of the number of used tiles, of each tile's expert and of the arrays the launch reads. -/
def routed (n : ℤ) (E : Fin 576 → Fin 32) (X : S147456x1024.Idx → EReal) (A : S4x32x1024x2048.Idx → EReal)
    (a : S4x32x1x2048.Idx → EReal) (B : S4x32x1024x1024.Idx → EReal) (b : S4x32x1x1024.Idx → EReal) (R : Fin 147456) (d : Fin 1024) : EReal :=
  if ((R.val / 256 : ℕ) : ℤ) < n then
    through (fun e => X (ix2 R e)) (fun e j => A (ix4 0 (E ⟨R.val / 256, by omega⟩) e j))
      (fun j => a (ix4 0 (E ⟨R.val / 256, by omega⟩) 0 j)) (fun f d => B (ix4 0 (E ⟨R.val / 256, by omega⟩) f d))
      (fun d => b (ix4 0 (E ⟨R.val / 256, by omega⟩) 0 d)) d
  else 0

/-- A used tile's element is the array's element at its place. -/
theorem used_routed (n : ℤ) (T : Fin 576) (hT : (T.val : ℤ) < n) (x0 : Vec Ideal S256x1024 .f32) (x1 : Vec Ideal S1x1x1024x2048 .f32)
    (x2 : Vec Ideal S1x1x1x2048 .f32) (x3 : Vec Ideal S1x1x1024x1024 .f32) (x4 : Vec Ideal S1x1x1x1024 .f32) (E : Fin 576 → Fin 32)
    (X : S147456x1024.Idx → EReal) (A : S4x32x1024x2048.Idx → EReal) (a : S4x32x1x2048.Idx → EReal)
    (B : S4x32x1024x1024.Idx → EReal) (b : S4x32x1x1024.Idx → EReal)
    (e0 : ∀ (r : Fin 256) (e : Fin 1024), x0 (ix2 r e) = X (ix2 ⟨256 * T.val + r.val, by omega⟩ e))
    (e1 : ∀ (e : Fin 1024) (j : Fin 2048), x1 (ix4 0 0 e j) = A (ix4 0 (E T) e j))
    (e2 : ∀ j : Fin 2048, x2 (ix4 0 0 0 j) = a (ix4 0 (E T) 0 j))
    (e3 : ∀ (f : Fin 1024) (d : Fin 1024), x3 (ix4 0 0 f d) = B (ix4 0 (E T) f d))
    (e4 : ∀ d : Fin 1024, x4 (ix4 0 0 0 d) = b (ix4 0 (E T) 0 d)) (r : Fin 256) (d : Fin 1024) :
    k0_pay4 x0 (k0_pay2 x1) x2 (k0_pay3 x3) x4 (ix2 r d) = routed n E X A a B b ⟨256 * T.val + r.val, by omega⟩ d := by
  have hd : (256 * T.val + r.val) / 256 = T.val := by omega
  have hf : (⟨(256 * T.val + r.val) / 256, by omega⟩ : Fin 576) = T := Fin.ext hd
  rw [used_at]
  simp only [e0, e1, e2, e3, e4]
  unfold routed
  simp only [hf]
  exact (if_pos (by show (((256 * T.val + r.val) / 256 : ℕ) : ℤ) < n; rw [hd]; exact hT)).symm

/-- So is an unused tile's. -/
theorem unused_routed (n : ℤ) (T : Fin 576) (hT : ¬ (T.val : ℤ) < n) (E : Fin 576 → Fin 32)
    (X : S147456x1024.Idx → EReal) (A : S4x32x1024x2048.Idx → EReal) (a : S4x32x1x2048.Idx → EReal)
    (B : S4x32x1024x1024.Idx → EReal) (b : S4x32x1x1024.Idx → EReal) (r : Fin 256) (d : Fin 1024) :
    k0_pay1 (F := Ideal) (ix2 r d) = routed n E X A a B b ⟨256 * T.val + r.val, by omega⟩ d := by
  have hd : (256 * T.val + r.val) / 256 = T.val := by omega
  unfold routed
  exact (unused_at r d).trans (if_neg (by show ¬ (((256 * T.val + r.val) / 256 : ℕ) : ℤ) < n; rw [hd]; exact hT)).symm

/-- The result array after the run, from the arrays as the region finds them. -/
def resultOf (hG : Good m) (c : Dev nD) (i : S147456x1024.Idx) : EReal :=
  routed (nuAt m c).toInt (handed m hO hG c) (V m c main_arg2) (V m c main_arg3) (V m c main_v0) (V m c main_arg5) (V m c main_v1) (i 0) (i 1)

/-- A tile's element is the array's element at its place. -/
theorem tile_routed (hG : Good m) (c : Dev nD) (t : Fin (cfgM m hO).N) (r : Fin 256) (d : Fin 1024) :
    outAt m hO c t (ix2 r d)
      = resultOf m hO hG c (ix2 ⟨256 * t.val + r.val, by have : t.val < 576 := t.isLt; omega⟩ d) := by
  unfold outAt resultOf
  by_cases hu : Used m c t
  · rw [if_pos hu]
    have hn := (used_iff m c t).1 hu
    refine used_routed (nuAt m c).toInt t hn _ _ _ _ _ (handed m hO hG c) _ _ _ _ _ (fun r e => ?_) (lift_read m hO hG c (V m c main_arg3) t)
      (lift_bias_read m hO hG c (V m c main_v0) t) (drop_read m hO hG c (V m c main_arg5) t) (drop_bias_read m hO hG c (V m c main_v1) t) r d
    refine (x_read m hO hG c (V m c main_arg2) t r e).trans (congrArg _ (congrArg (fun R => ix2 R e) (Fin.ext ?_)))
    show 256 * min t.val ((nuAt m c).toInt.toNat - 1) + r.val = 256 * t.val + r.val
    generalize (nuAt m c).toInt = n at hn
    omega
  · rw [if_neg hu]
    exact unused_routed (nuAt m c).toInt t (fun h => hu ((used_iff m c t).2 h)) _ _ _ _ _ _ r d

/-- The result's blocks tile the result array. -/
theorem arr_eq (hG : Good m) (c : Dev nD) : (dats m hO 0 c).arrAt 5 (cfgM m hO).N = resultOf m hO hG c := by
  refine (dats m hO 0 c).arrAt_eq_of_covers 5 _ (out_covers m hO) fun t hf y => ?_
  obtain ⟨r, d, rfl⟩ : ∃ (r : Fin 256) (d : Fin 1024), y = (ix2 r d : S256x1024.Idx) :=
    ⟨y (0 : Fin 2), y (1 : Fin 2), eq_ix2 (y : S256x1024.Idx)⟩
  rw [out_place m hO t r d, ← tile_routed m hO hG c t r d, ← after0_5]
  rfl

end Cert.Experts

end
-- ==== Proof.ExPick.lean ====
/-
  The experts' reference: which weights a tile takes.
-/
module

public import proofs.«01_k».proof.Proof.Gen.Reference3Ideal.Read
public import Idealize.ShloMosaic.Lib.Pointwise
public import Idealize.ShloMosaic.Lib.StableHlo.Predicate

@[expose] public section

set_option maxRecDepth 16384

noncomputable section

namespace Cert.Experts.Ref

open Cert.Reference3Ideal Cert.Reference3Ideal.Read Idealize.ShloMosaic

/-- The expert a word names: itself, held between the first and the last. -/
def expert (w : BitVec 32) : Fin 32 := ⟨min w.toInt.toNat 31, by omega⟩

/-- The gather of first matrices reads, at a tile, the matrix of the tile's expert. -/
theorem gather_lift (x : S32x1024x2048.Idx → EReal) (ix : IVec S576x1 32) (t : Fin 576) (e : Fin 1024) (j : Fin 2048) :
    Host.gather gather_S32x1024x2048_S576x1_S576x1024x2048_12_0_n_n_0_1_110242048 x ix (ix3 t e j) = x (ix3 (expert (ix (ix2 t 0))) e j) := by
  unfold Host.gather
  refine congrArg x (funext fun a => Fin.ext ?_)
  show GatherDims.start _ (ix3 t e j) ix a + GatherDims.batchCoord _ (ix3 t e j) a + GatherDims.offCoord _ (ix3 t e j) a = _
  rw [GatherDims.batchCoord_eq_zero _ _ _ List.not_mem_nil, Nat.add_zero]
  match a with
  | ⟨0, _⟩ =>
    rw [GatherDims.offCoord_eq_zero _ _ _ (by rw [GatherDims.mem_sKept]; decide +revert), Nat.add_zero]
    unfold GatherDims.start
    rw [dif_pos (by decide +revert)]
    have h : GatherDims.siIdx gather_S32x1024x2048_S576x1_S576x1024x2048_12_0_n_n_0_1_110242048 (ix3 t e j) ⟨0, by decide⟩ = (ix2 t 0 : S576x1.Idx) := by
      funext b
      match b with
      | ⟨0, _⟩ => rfl
      | ⟨1, _⟩ => rfl
    show min (ix (GatherDims.siIdx gather_S32x1024x2048_S576x1_S576x1024x2048_12_0_n_n_0_1_110242048 (ix3 t e j) ⟨0, _⟩)).toInt.toNat 31 = min (ix (ix2 t 0)).toInt.toNat 31
    rw [h]
  | ⟨1, _⟩ =>
    unfold GatherDims.start
    rw [dif_neg (by decide +revert), Nat.zero_add]
    unfold GatherDims.offCoord
    rw [dif_pos (by decide +revert)]
    rfl
  | ⟨2, _⟩ =>
    unfold GatherDims.start
    rw [dif_neg (by decide +revert), Nat.zero_add]
    unfold GatherDims.offCoord
    rw [dif_pos (by decide +revert)]
    rfl

/-- The gather of their biases reads the bias of the tile's expert. -/
theorem gather_lift_bias (x : S32x2048.Idx → EReal) (ix : IVec S576x1 32) (t : Fin 576) (j : Fin 2048) :
    Host.gather gather_S32x2048_S576x1_S576x2048_1_0_n_n_0_1_12048 x ix (ix2 t j) = x (ix2 (expert (ix (ix2 t 0))) j) := by
  unfold Host.gather
  refine congrArg x (funext fun a => Fin.ext ?_)
  show GatherDims.start _ (ix2 t j) ix a + GatherDims.batchCoord _ (ix2 t j) a + GatherDims.offCoord _ (ix2 t j) a = _
  rw [GatherDims.batchCoord_eq_zero _ _ _ List.not_mem_nil, Nat.add_zero]
  match a with
  | ⟨0, _⟩ =>
    rw [GatherDims.offCoord_eq_zero _ _ _ (by rw [GatherDims.mem_sKept]; decide +revert), Nat.add_zero]
    unfold GatherDims.start
    rw [dif_pos (by decide +revert)]
    have h : GatherDims.siIdx gather_S32x2048_S576x1_S576x2048_1_0_n_n_0_1_12048 (ix2 t j) ⟨0, by decide⟩ = (ix2 t 0 : S576x1.Idx) := by
      funext b
      match b with
      | ⟨0, _⟩ => rfl
      | ⟨1, _⟩ => rfl
    show min (ix (GatherDims.siIdx gather_S32x2048_S576x1_S576x2048_1_0_n_n_0_1_12048 (ix2 t j) ⟨0, _⟩)).toInt.toNat 31 = min (ix (ix2 t 0)).toInt.toNat 31
    rw [h]
  | ⟨1, _⟩ =>
    unfold GatherDims.start
    rw [dif_neg (by decide +revert), Nat.zero_add]
    unfold GatherDims.offCoord
    rw [dif_pos (by decide +revert)]
    rfl

/-- The gather of second matrices reads the matrix of the tile's expert. -/
theorem gather_drop (x : S32x1024x1024.Idx → EReal) (ix : IVec S576x1 32) (t : Fin 576) (e : Fin 1024) (j : Fin 1024) :
    Host.gather gather_S32x1024x1024_S576x1_S576x1024x1024_12_0_n_n_0_1_110241024 x ix (ix3 t e j) = x (ix3 (expert (ix (ix2 t 0))) e j) := by
  unfold Host.gather
  refine congrArg x (funext fun a => Fin.ext ?_)
  show GatherDims.start _ (ix3 t e j) ix a + GatherDims.batchCoord _ (ix3 t e j) a + GatherDims.offCoord _ (ix3 t e j) a = _
  rw [GatherDims.batchCoord_eq_zero _ _ _ List.not_mem_nil, Nat.add_zero]
  match a with
  | ⟨0, _⟩ =>
    rw [GatherDims.offCoord_eq_zero _ _ _ (by rw [GatherDims.mem_sKept]; decide +revert), Nat.add_zero]
    unfold GatherDims.start
    rw [dif_pos (by decide +revert)]
    have h : GatherDims.siIdx gather_S32x1024x1024_S576x1_S576x1024x1024_12_0_n_n_0_1_110241024 (ix3 t e j) ⟨0, by decide⟩ = (ix2 t 0 : S576x1.Idx) := by
      funext b
      match b with
      | ⟨0, _⟩ => rfl
      | ⟨1, _⟩ => rfl
    show min (ix (GatherDims.siIdx gather_S32x1024x1024_S576x1_S576x1024x1024_12_0_n_n_0_1_110241024 (ix3 t e j) ⟨0, _⟩)).toInt.toNat 31 = min (ix (ix2 t 0)).toInt.toNat 31
    rw [h]
  | ⟨1, _⟩ =>
    unfold GatherDims.start
    rw [dif_neg (by decide +revert), Nat.zero_add]
    unfold GatherDims.offCoord
    rw [dif_pos (by decide +revert)]
    rfl
  | ⟨2, _⟩ =>
    unfold GatherDims.start
    rw [dif_neg (by decide +revert), Nat.zero_add]
    unfold GatherDims.offCoord
    rw [dif_pos (by decide +revert)]
    rfl

/-- The gather of their biases reads the bias of the tile's expert. -/
theorem gather_drop_bias (x : S32x1024.Idx → EReal) (ix : IVec S576x1 32) (t : Fin 576) (j : Fin 1024) :
    Host.gather gather_S32x1024_S576x1_S576x1024_1_0_n_n_0_1_11024 x ix (ix2 t j) = x (ix2 (expert (ix (ix2 t 0))) j) := by
  unfold Host.gather
  refine congrArg x (funext fun a => Fin.ext ?_)
  show GatherDims.start _ (ix2 t j) ix a + GatherDims.batchCoord _ (ix2 t j) a + GatherDims.offCoord _ (ix2 t j) a = _
  rw [GatherDims.batchCoord_eq_zero _ _ _ List.not_mem_nil, Nat.add_zero]
  match a with
  | ⟨0, _⟩ =>
    rw [GatherDims.offCoord_eq_zero _ _ _ (by rw [GatherDims.mem_sKept]; decide +revert), Nat.add_zero]
    unfold GatherDims.start
    rw [dif_pos (by decide +revert)]
    have h : GatherDims.siIdx gather_S32x1024_S576x1_S576x1024_1_0_n_n_0_1_11024 (ix2 t j) ⟨0, by decide⟩ = (ix2 t 0 : S576x1.Idx) := by
      funext b
      match b with
      | ⟨0, _⟩ => rfl
      | ⟨1, _⟩ => rfl
    show min (ix (GatherDims.siIdx gather_S32x1024_S576x1_S576x1024_1_0_n_n_0_1_11024 (ix2 t j) ⟨0, _⟩)).toInt.toNat 31 = min (ix (ix2 t 0)).toInt.toNat 31
    rw [h]
  | ⟨1, _⟩ =>
    unfold GatherDims.start
    rw [dif_neg (by decide +revert), Nat.zero_add]
    unfold GatherDims.offCoord
    rw [dif_pos (by decide +revert)]
    rfl

/-- The first matrix of a tile's expert, in the first layer. -/
theorem lift_at (te : S576.Idx → BitVec 32) (A : S4x32x1024x2048.Idx → EReal) (t : Fin 576) (e : Fin 1024) (j : Fin 2048) :
    val_main_v3 (F := Ideal) te A (ix3 t e j) = A (ix4 0 (expert (te (ix1 t))) e j) := by
  unfold val_main_v3
  rw [gather_lift]
  pointwise [val_main_v2, val_main_v1, val_main_call0_v0]

/-- Its bias. -/
theorem lift_bias_at (te : S576.Idx → BitVec 32) (a : S4x32x2048.Idx → EReal) (t : Fin 576) (j : Fin 2048) :
    val_main_v7 (F := Ideal) te a (ix2 t j) = a (ix3 0 (expert (te (ix1 t))) j) := by
  unfold val_main_v7
  rw [gather_lift_bias]
  pointwise [val_main_v6, val_main_v5, val_main_call1_v0]

/-- The second matrix of a tile's expert. -/
theorem drop_at (te : S576.Idx → BitVec 32) (B : S4x32x1024x1024.Idx → EReal) (t : Fin 576) (f : Fin 1024) (d : Fin 1024) :
    val_main_v30 (F := Ideal) te B (ix3 t f d) = B (ix4 0 (expert (te (ix1 t))) f d) := by
  unfold val_main_v30
  rw [gather_drop]
  pointwise [val_main_v29, val_main_v28, val_main_call3_v0]

/-- Its bias. -/
theorem drop_bias_at (te : S576.Idx → BitVec 32) (b : S4x32x1024.Idx → EReal) (t : Fin 576) (d : Fin 1024) :
    val_main_v34 (F := Ideal) te b (ix2 t d) = b (ix3 0 (expert (te (ix1 t))) d) := by
  unfold val_main_v34
  rw [gather_drop_bias]
  pointwise [val_main_v33, val_main_v32, val_main_call4_v0]

end Cert.Experts.Ref

end
-- ==== Proof.ExReference.lean ====
/-
  The experts' reference, entry by entry.
-/
module

public import proofs.«01_k».proof.Proof.ExValue
public import proofs.«01_k».proof.Proof.ExPick

@[expose] public section

set_option maxRecDepth 16384

noncomputable section

namespace Cert.Experts.Ref

open Cert.Reference3Ideal Cert.Reference3Ideal.Read Idealize.ShloMosaic

variable (te : S576.Idx → BitVec 32) (nu : S1.Idx → BitVec 32) (xs : S147456x1024.Idx → EReal) (A : S4x32x1024x2048.Idx → EReal)
  (a : S4x32x2048.Idx → EReal) (B : S4x32x1024x1024.Idx → EReal) (b : S4x32x1024.Idx → EReal)

/-- Row `n` of tile `t` against the first matrix of the tile's expert. -/
theorem lifted_at (t : Fin 576) (n : Fin 256) (j : Fin 2048) :
    val_main_v10 (F := Ideal) te xs A a (ix3 t n j)
      = lifted (fun e => xs (ix2 ⟨t.val * 256 + n.val, by omega⟩ e)) (fun e j => A (ix4 0 (expert (te (ix1 t))) e j))
          (fun j => a (ix3 0 (expert (te (ix1 t))) j)) j := by
  unfold lifted
  simp only [← lift_at, ← lift_bias_at]
  generalize hA : val_main_v3 (F := Ideal) te A = A'
  generalize ha : val_main_v7 (F := Ideal) te a = a'
  unfold val_main_v10 val_main_v9 val_main_v8 val_main_v4
  rw [hA, ha]
  pointwise [val_main_v0]

/-- The gated unit of row `n` of tile `t`. -/
theorem gated_at (t : Fin 576) (n : Fin 256) (f : Fin 1024) :
    val_main_v27 (F := Ideal) te xs A a (ix3 t n f)
      = gated (val_main_v10 (F := Ideal) te xs A a (ix3 t n ⟨f.val, by omega⟩))
          (val_main_v10 (F := Ideal) te xs A a (ix3 t n ⟨1024 + f.val, by omega⟩)) := by
  unfold gated
  unfold val_main_v27 val_main_v24 val_main_v26 val_main_v23 val_main_v21 val_main_v19 val_main_v18 val_main_v17 val_main_v15
    val_main_call2_v2 val_main_v14 val_main_v11 val_main_v12
  generalize val_main_v10 (F := Ideal) te xs A a = G
  pointwise [val_main_v13, val_main_cst, val_main_v16, val_main_cst_2, val_main_v20, val_main_cst_3, val_main_v22,
    val_main_cst_4, val_main_v25, val_main_cst_5, val_main_call2_v4, val_main_call2_v3, val_main_cst_1, val_main_call2_v1,
    val_main_call2_v0, val_main_cst_0]
  rfl

/-- Row `n` of tile `t` through its expert. -/
theorem through_at (t : Fin 576) (n : Fin 256) (d : Fin 1024) :
    val_main_v37 (F := Ideal) te xs A a B b (ix3 t n d)
      = through (fun e => xs (ix2 ⟨t.val * 256 + n.val, by omega⟩ e)) (fun e j => A (ix4 0 (expert (te (ix1 t))) e j))
          (fun j => a (ix3 0 (expert (te (ix1 t))) j)) (fun f d => B (ix4 0 (expert (te (ix1 t))) f d))
          (fun d => b (ix3 0 (expert (te (ix1 t))) d)) d := by
  unfold through
  simp only [← lifted_at, ← gated_at, ← drop_at, ← drop_bias_at]
  generalize hB : val_main_v30 (F := Ideal) te B = B'
  generalize hb : val_main_v34 (F := Ideal) te b = b'
  unfold val_main_v37 val_main_v36 val_main_v35 val_main_v31
  rw [hB, hb]
  generalize val_main_v27 (F := Ideal) te xs A a = G
  pointwise

/-- Entry `(R, d)` of the result: the row through its tile's expert if the tile is used, else zero. -/
theorem out_at (R : Fin 147456) (d : Fin 1024) :
    val_main_v44 (F := Ideal) te nu xs A a B b (ix2 R d)
      = if ((R.val / 256 : ℕ) : ℤ) < BitVec.toInt (nu (ix1 0)) then
          through (fun e => xs (ix2 R e)) (fun e j => A (ix4 0 (expert (te (ix1 ⟨R.val / 256, by omega⟩))) e j))
            (fun j => a (ix3 0 (expert (te (ix1 ⟨R.val / 256, by omega⟩))) j))
            (fun f d => B (ix4 0 (expert (te (ix1 ⟨R.val / 256, by omega⟩))) f d))
            (fun d => b (ix3 0 (expert (te (ix1 ⟨R.val / 256, by omega⟩))) d)) d
        else 0 := by
  have hR : (⟨R.val / 256 * 256 + R.val % 256, by omega⟩ : Fin 147456) = R := Fin.ext (by show R.val / 256 * 256 + R.val % 256 = R.val; omega)
  have h := through_at te xs A a B b ⟨R.val / 256, by omega⟩ ⟨R.val % 256, by omega⟩ d
  simp only [hR] at h
  rw [← h]
  unfold val_main_v44 val_main_v43
  generalize val_main_v37 (F := Ideal) te xs A a B b = G
  pointwise [val_main_call5_v1, val_main_v42, val_main_v41, val_main_v38, val_main_v40, val_main_v39, val_main_call5_v2, val_main_call5_v0, val_main_cst_6]
  have hz : @Eq EReal (id (constant (F := Ideal) S_ FTy.f32 0#32) ix0) 0 := by
    show constant (F := Ideal) S_ FTy.f32 0#32 ix0 = (0 : EReal)
    pointwise
  have hw : (BitVec.ofNat 32 (R.val / 256)).toInt = ((R.val / 256 : ℕ) : ℤ) := by
    rw [BitVec.toInt_eq_toNat_of_lt (by rw [BitVec.toNat_ofNat]; omega), BitVec.toNat_ofNat]
    omega
  by_cases hc : ((R.val / 256 : ℕ) : ℤ) < BitVec.toInt (nu (ix1 0))
  · rw [if_pos hc]
    exact if_pos (IntOp.cmpi_slt.2 (by rw [hw]; exact hc))
  · rw [if_neg hc]
    exact (if_neg fun h => hc (by rw [← hw]; exact IntOp.cmpi_slt.1 h)).trans hz

end Cert.Experts.Ref

end
-- ==== Proof.ExEquation.lean ====
/-
  The experts' launch computes its reference: the biases as the launch reads them, the experts, and the two results.
-/
module

public import proofs.«01_k».proof.Proof.ExArray
public import proofs.«01_k».proof.Proof.ExReference
public import proofs.«01_k».proof.Proof.ExPre
public import Idealize.ShloMosaic.Lib.StableHlo.ReadAt

@[expose] public section

set_option maxRecDepth 16384

noncomputable section

namespace Cert.Experts

open Cert.Kernel3Ideal Cert.Kernel3Ideal.Gen Idealize.ShloMosaic Idealize.ShloMosaic.TcCoe

variable (m : (ℓ : Loc nD τ sig) → Buf (Elt Ideal) ℓ) (hO : Ok m)

/-- The launch's first biases are the argument's. -/
theorem lift_bias_flat (c : Dev nD) (l : Fin 4) (x : Fin 32) (j : Fin 2048) :
    (V m c main_v0 : S4x32x1x2048.Idx → EReal) (ix4 l x 0 j) = (m (c, Proc.tc.devRef main_arg4) : S4x32x2048.Idx → EReal) (ix3 l x j) := by
  unfold V
  after_reads_at

/-- So are its second ones. -/
theorem drop_bias_flat (c : Dev nD) (l : Fin 4) (x : Fin 32) (d : Fin 1024) :
    (V m c main_v1 : S4x32x1x1024.Idx → EReal) (ix4 l x 0 d) = (m (c, Proc.tc.devRef main_arg6) : S4x32x1024.Idx → EReal) (ix3 l x d) := by
  unfold V
  after_reads_at

/-- A word in range is its number held at 31. -/
theorem word_eq (w : BitVec 32) (h0 : 0 ≤ w.toInt) (h1 : w.toInt < 32) : w.toNat = min w.toInt.toNat 31 := by
  have e := toNat_of_toInt w h0
  omega

/-- A used tile's expert is the one its word names. -/
theorem handed_eq (hG : Good m) (c : Dev nD) (t : Fin 576) (ht : (t.val : ℤ) < (nuAt m c).toInt) :
    handed m hO hG c t = Ref.expert (m ((0 : Dev nD), main_arg0) (ix1 t)) := by
  have h := teAt_used hG c t ((used_iff m c t).2 ht)
  obtain ⟨h0, h1⟩ := hG.2 t
  apply Fin.ext
  show (teAt m c (grid0.coords t)).toNat = min (BitVec.toInt (m ((0 : Dev nD), main_arg0) (ix1 t))).toNat 31
  rw [h]
  exact word_eq _ h0 h1

/-- The launch's result array is the reference's function of the arguments. -/
theorem result_eq (hG : Good m) (c : Dev nD) :
    (dats m hO 0 c).arrAt 5 (cfgM m hO).N
      = Cert.Reference3Ideal.Read.val_main_v44 (F := Ideal) (m (c, Proc.tc.devRef main_arg0)) (m (c, Proc.tc.devRef main_arg1))
          (m (c, Proc.tc.devRef main_arg2)) (m (c, Proc.tc.devRef main_arg3)) (m (c, Proc.tc.devRef main_arg4))
          (m (c, Proc.tc.devRef main_arg5)) (m (c, Proc.tc.devRef main_arg6)) := by
  obtain rfl : c = 0 := Subsingleton.elim _ _
  rw [arr_eq m hO hG]
  funext i
  obtain ⟨R, d, rfl⟩ : ∃ (R : Fin 147456) (d : Fin 1024), i = ix2 R d := ⟨i 0, i 1, eq_ix2 i⟩
  refine Eq.trans ?_ (Ref.out_at _ _ _ _ _ _ _ R d).symm
  show routed _ _ _ _ _ _ _ R d = _
  unfold routed
  rw [V_main_arg2, V_main_arg3, V_main_arg5]
  have hn : (nuAt m 0).toInt = BitVec.toInt (m ((0 : Dev nD), Proc.tc.devRef main_arg1) (ix1 (0 : Fin 1))) := congrArg _ (nuAt_eq m 0)
  by_cases hu : ((R.val / 256 : ℕ) : ℤ) < (nuAt m 0).toInt
  · rw [if_pos hu, handed_eq m hO hG 0 ⟨R.val / 256, by omega⟩ hu]
    rw [hn] at hu
    exact (congrArg₂ (fun a b => through _ _ a _ b d) (funext fun j => lift_bias_flat m 0 0 _ j)
      (funext fun d => drop_bias_flat m 0 0 _ d)).trans (if_pos hu).symm
  · rw [if_neg hu]
    rw [hn] at hu
    exact (if_neg hu).symm

end Cert.Experts

end
-- ==== Proof.MgSteady.lean ====
/-
  The merge's precondition read back: what the recurrence's two directions hand over are reals.
-/
module

public import proofs.«01_k».proof.Proof.Finite
public import proofs.«01_k».proof.Proof.Gen.Pre_steady

@[expose] public section

noncomputable section

namespace Cert.Merge

open Idealize.ShloMosaic Cert.Pre_steady Cert.Pre_steady.Gen

/-- Under the precondition both directions' entries are reals. -/
theorem reals (x : FVec Ideal S8x4352x1024 .f32) (w : FVec Ideal S16x6x1024 .f32) (p : FVec Ideal S8x4352x7680 .f32)
    (rf rb : FVec Ideal S8x4352x512 .f32) (ml : FVec Ideal S8x4352x512 .bf16) (yf yb bo gg : FVec Ideal S8x4352x512 .f32)
    (lg lb : FVec Ideal S512 .f32) (A M R : FVec Ideal S512x1024 .f32) (O : FVec Ideal S1024x1024 .f32)
    (h : fn x w p rf rb ml yf yb bo gg lg lb A M R O ix0 = 1#1) :
    (∀ i, ∃ r : ℝ, yf i = r) ∧ ∀ i, ∃ r : ℝ, yb i = r := by
  dsimp only [fn] at h
  have h' := h
  simp only [andi] at h'
  obtain ⟨h1, h2⟩ := IntOp.andi_eq_one.1 h'
  have hf := Host.reduce_andi_all _ _ _ _ _ h1
  have hb := Host.reduce_andi_all _ _ _ _ _ h2
  exact ⟨fun i => Cert.Attn.real_of_abs _ (hf i), fun i => Cert.Attn.real_of_abs _ (hb i)⟩

end Cert.Merge

end
-- ==== Proof.MgRows.lean ====
/-
  The merge, row by row: the recurrence's heads normalized as the kernel and as the reference do it, and the gated mixture.
-/
module

public import Idealize.ShloMosaic.Lib.Pointwise
public import Idealize.ShloMosaic.Lib.Pipeline.ValueKit

@[expose] public section

noncomputable section

namespace Cert.Merge

open Idealize.ShloMosaic

/-- The logistic function as both programs spell it. -/
def logistic (x : EReal) : EReal :=
  Ideal.div (Ideal.ofBits FTy.f32 0x3F800000#32) (Ideal.ofBits FTy.f32 0x3F800000#32 + Ideal.exp (-x))

/-- One entry of the gated mixture: each branch's row against its weights, under its own gate. -/
def mixed (ga gm gr : Fin 1024 → EReal) (a m r : Fin 512 → EReal) (A M R : Fin 512 → Fin 1024 → EReal) (e : Fin 1024) : EReal :=
  logistic (ga e) * (∑ k : Fin 512, a k * A k e) + logistic (gm e) * (∑ k : Fin 512, m k * M k e) + logistic (gr e) * (∑ k : Fin 512, r k * R k e)

/-- One entry of the merged row: the row, plus its scale times the mixture against the output weights. -/
def merged (x s : Fin 1024 → EReal) (mix : Fin 1024 → EReal) (O : Fin 1024 → Fin 1024 → EReal) (d : Fin 1024) : EReal :=
  x d + s d * ∑ e : Fin 1024, mix e * O e d

/-- A head's mean as the kernel takes it: the row, and then what its rounding lost, against the blocks of ones. -/
def meanK (y : Fin 512 → EReal) (B : Fin 512 → Fin 512 → EReal) (k : Fin 512) : EReal :=
  ((∑ j : Fin 512, y j * B j k) + ∑ j : Fin 512, (y j - y j) * B j k) * Ideal.ofBits FTy.f32 0x3C800000#32

/-- A row less its heads' means. -/
def centK (y : Fin 512 → EReal) (B : Fin 512 → Fin 512 → EReal) (k : Fin 512) : EReal := y k - meanK y B k

/-- The recurrence's row as the kernel has it. -/
def normK (y : Fin 512 → EReal) (B : Fin 512 → Fin 512 → EReal) (g b u z : Fin 512 → EReal) (k : Fin 512) : EReal :=
  (centK y B k * Ideal.rsqrt (meanK (fun j => centK y B j * centK y B j) B k + Ideal.ofBits FTy.f32 0x3A27C5AC#32) * g k + b k + u k) * z k

/-- A head's mean: the sum of its sixty-four entries over their number. -/
def meanR (y : Fin 512 → EReal) (k : Fin 512) : EReal :=
  Ideal.div (∑ n : Fin 64, y ⟨k.val / 64 * 64 + n.val, by omega⟩) (Ideal.ofBits FTy.f32 0x42800000#32)

/-- A row less its heads' means. -/
def centR (y : Fin 512 → EReal) (k : Fin 512) : EReal := y k - meanR y k

/-- The recurrence's row as the reference has it. -/
def normR (y : Fin 512 → EReal) (g b u z : Fin 512 → EReal) (k : Fin 512) : EReal :=
  (centR y k * Ideal.rsqrt (meanR (fun j => centR y j * centR y j) k + Ideal.ofBits FTy.f32 0x3A27C5AC#32) * g k + b k + u k) * z k

/-- Whether two entries of a row are of one head, as a number. -/
def sameHead (j k : Fin 512) : EReal := if j.val / 64 = k.val / 64 then 1 else 0

end Cert.Merge

end
-- ==== Proof.MgBlock.lean ====
/-
  The merge: what one grid point leaves in the output block.
-/
module

public import proofs.«01_k».proof.Proof.MgRows
public import proofs.«01_k».proof.Proof.Gen.Kernel4Ideal.Value

@[expose] public section

set_option maxRecDepth 16384

noncomputable section

namespace Cert.Merge

open Cert.Kernel4Ideal Cert.Kernel4Ideal.Gen Idealize.ShloMosaic

/-- A row of the two directions, normalized head by head and times the gain. -/
theorem gain_at (x6 x7 : Vec Ideal S256x512 .f32) (x10 : Vec Ideal S1x512 .f32) (x12 : Vec Ideal S512x512 .bf16) (r : Fin 256) (k : Fin 512) :
    k0_pay3 (F := Ideal) x12 x6 x7 x10 (ix2 r k)
      = centK (fun k => x6 (ix2 r k) + x7 (ix2 r k)) (fun j k => x12 (ix2 j k)) k
        * Ideal.rsqrt (meanK (fun j => centK (fun k => x6 (ix2 r k) + x7 (ix2 r k)) (fun j k => x12 (ix2 j k)) j
            * centK (fun k => x6 (ix2 r k) + x7 (ix2 r k)) (fun j k => x12 (ix2 j k)) j) (fun j k => x12 (ix2 j k)) k
          + Ideal.ofBits FTy.f32 0x3A27C5AC#32) * x10 (ix2 0 k) := by
  unfold centK meanK
  pointwise [k0_pay3]

/-- The recurrence's row as it meets its weights. -/
theorem norm_at (x6 x7 x8 x9 : Vec Ideal S256x512 .f32) (x10 x11 : Vec Ideal S1x512 .f32) (x12 : Vec Ideal S512x512 .bf16) (r : Fin 256) (k : Fin 512) :
    k0_pay4 (F := Ideal) (k0_pay3 x12 x6 x7 x10) x11 x8 x9 (ix2 r k)
      = normK (fun k => x6 (ix2 r k) + x7 (ix2 r k)) (fun j k => x12 (ix2 j k)) (fun k => x10 (ix2 0 k)) (fun k => x11 (ix2 0 k))
          (fun k => x8 (ix2 r k)) (fun k => x9 (ix2 r k)) k := by
  unfold normK
  rw [← gain_at x6 x7 x10 x12 r k]
  generalize k0_pay3 (F := Ideal) x12 x6 x7 x10 = Y
  pointwise [k0_pay4]

/-- The gated mixture of a block, against the output weights. -/
theorem merge_at (N : FVec Ideal S256x512 .f32) (x0 : Vec Ideal S256x1024 .f32) (s : Vec Ideal S1x1x1024 .f32) (x2 : Vec Ideal S256x3072 .f32)
    (x3 x4 : Vec Ideal S256x512 .f32) (x5 : Vec Ideal S256x512 .bf16) (x13 x14 x15 : Vec Ideal S512x1024 .bf16) (x16 : Vec Ideal S1024x1024 .bf16)
    (r : Fin 256) (d : Fin 1024) :
    k0_pay1 (F := Ideal) N (k0_pay5 x2) (k0_pay6 (k0_pay2 x3 x4) x2 x13) (k0_pay7 x2) (k0_pay8 x5 x14) x15 x0 s x16 (ix2 r d)
      = merged (fun d => x0 (ix2 r d)) (fun d => s (ix3 0 0 d))
          (mixed (fun e => x2 (ix2 r ⟨e.val, by omega⟩)) (fun e => x2 (ix2 r ⟨1024 + e.val, by omega⟩)) (fun e => x2 (ix2 r ⟨2048 + e.val, by omega⟩))
            (fun k => x3 (ix2 r k) + x4 (ix2 r k)) (fun k => x5 (ix2 r k)) (fun k => N (ix2 r k))
            (fun k e => x13 (ix2 k e)) (fun k e => x14 (ix2 k e)) (fun k e => x15 (ix2 k e)))
          (fun e d => x16 (ix2 e d)) d := by
  unfold merged mixed logistic
  pointwise [k0_pay1, k0_pay2, k0_pay5, k0_pay6, k0_pay7, k0_pay8]
  simp only [zero_sub]

/-- Entry `(r, d)` of an output block. -/
theorem block_at (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S256x3072 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .bf16) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S1024x1024 .bf16) (harg17 : arg17.IsWhole) (arg18 : Memref sig .tc .vmem S256x1024 .f32) (harg18 : arg18.IsWhole)
    (x0 : Vec Ideal S256x1024 .f32) (x1 : Vec Ideal S1x6x1024 .f32) (x2 : Vec Ideal S256x3072 .f32) (x3 : Vec Ideal S256x512 .f32) (x4 : Vec Ideal S256x512 .f32) (x5 : Vec Ideal S256x512 .bf16) (x6 : Vec Ideal S256x512 .f32) (x7 : Vec Ideal S256x512 .f32) (x8 : Vec Ideal S256x512 .f32) (x9 : Vec Ideal S256x512 .f32) (x10 : Vec Ideal S1x512 .f32) (x11 : Vec Ideal S1x512 .f32) (x12 : Vec Ideal S512x512 .bf16) (x13 : Vec Ideal S512x1024 .bf16) (x14 : Vec Ideal S512x1024 .bf16) (x15 : Vec Ideal S512x1024 .bf16) (x16 : Vec Ideal S1024x1024 .bf16) (r : Fin 256) (d : Fin 1024) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 (ix2 r d)
      = merged (fun d => x0 (ix2 r d)) (fun d => x1 (ix3 0 2 d))
          (mixed (fun e => x2 (ix2 r ⟨e.val, by omega⟩)) (fun e => x2 (ix2 r ⟨1024 + e.val, by omega⟩)) (fun e => x2 (ix2 r ⟨2048 + e.val, by omega⟩))
            (fun k => x3 (ix2 r k) + x4 (ix2 r k)) (fun k => x5 (ix2 r k))
            (normK (fun k => x6 (ix2 r k) + x7 (ix2 r k)) (fun j k => x12 (ix2 j k)) (fun k => x10 (ix2 0 k)) (fun k => x11 (ix2 0 k))
              (fun k => x8 (ix2 r k)) (fun k => x9 (ix2 r k)))
            (fun k e => x13 (ix2 k e)) (fun k e => x14 (ix2 k e)) (fun k e => x15 (ix2 k e)))
          (fun e d => x16 (ix2 e d)) d := by
  frame_out
  refine (merge_at _ x0 _ x2 x3 x4 x5 x13 x14 x15 x16 r d).trans ?_
  have hN := funext (norm_at x6 x7 x8 x9 x10 x11 x12 r)
  rw [hN]
  refine congrArg (fun s => merged _ s _ _ d) (funext fun d => ?_)
  pointwise

end Cert.Merge

end
-- ==== Proof.MgArray.lean ====
/-
  The merge's result array after the run, from the arrays the launch reads: the output blocks tile it.
-/
module

public import proofs.«01_k».proof.Proof.MgBlock
public import proofs.«01_k».proof.Proof.InArray

@[expose] public section

set_option maxRecDepth 16384

noncomputable section

namespace Cert.Merge

open Cert.Kernel4Ideal Cert.Kernel4Ideal.Gen Idealize.ShloMosaic Idealize.ShloMosaic.TcCoe
open Idealize.ShloMosaic.Pipeline (Dat)
open Cert.InProj (modRow modRow_lt)

/-- Where each window's block lies at a grid point. -/
theorem idx_facts : ∀ t : Fin cfg0.N, win0_0.index t = ![t.val, 0]
    ∧ win0_1.index t = ![modRow t.val, 0, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![t.val, 0] :=
  (by decide +kernel : ∀ t : Fin grid0.N, win0_0.index t = ![t.val, 0]
    ∧ win0_1.index t = ![modRow t.val, 0, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![t.val, 0])

/-- The result array as a function of the arrays the launch reads. -/
def mergedAt (X : S34816x1024.Idx → EReal) (W : S16x6x1024.Idx → EReal) (P : S34816x7680.Idx → EReal)
    (F B L Yf Yb U Z : S34816x512.Idx → EReal) (g b : S1x512.Idx → EReal) (H : S512x512.Idx → EReal)
    (A M R : S512x1024.Idx → EReal) (O : S1024x1024.Idx → EReal) (i : S34816x1024.Idx) : EReal :=
  merged (fun d => X (ix2 (i 0) d))
    (fun d => W (ix3 ⟨modRow ((i 0).val / 256), modRow_lt _ (by have : (i 0).val < 34816 := (i 0).isLt; omega)⟩ 2 d))
    (mixed (fun e => P (ix2 (i 0) ⟨e.val, by omega⟩)) (fun e => P (ix2 (i 0) ⟨1024 + e.val, by omega⟩)) (fun e => P (ix2 (i 0) ⟨2048 + e.val, by omega⟩))
      (fun k => F (ix2 (i 0) k) + B (ix2 (i 0) k)) (fun k => L (ix2 (i 0) k))
      (normK (fun k => Yf (ix2 (i 0) k) + Yb (ix2 (i 0) k)) (fun j k => H (ix2 j k)) (fun k => g (ix2 0 k)) (fun k => b (ix2 0 k))
        (fun k => U (ix2 (i 0) k)) (fun k => Z (ix2 (i 0) k)))
      (fun k e => A (ix2 k e)) (fun k e => M (ix2 k e)) (fun k e => R (ix2 k e)))
    (fun e d => O (ix2 e d)) (i 1)

/-- A row tile of any array, read at the array. -/
theorem x_read (c : Dev nD) (A : Buf (Elt Ideal) ((c : Thread nD τ).loc (Pipeline.arrRef spec0 0))) (t : Fin cfg0.N) (r : Fin 256) (d : Fin 1024) :
    ((cfg0.win 0).blk t).view.read (Elt Ideal) A (ix2 r d) = (A : S34816x1024.Idx → EReal) (ix2 ⟨256 * t.val + r.val, by have : t.val < 136 := t.isLt; omega⟩ d) := by
  obtain ⟨h0, h1, h2, h3, h4, h5, h6, h7, h8, h9, h10, h11, h12, h13, h14, h15, h16, h17⟩ := idx_facts t
  blk_ext [h0]

/-- A tile of the retention's forward rows of any array, read at the array. -/
theorem rf_read (c : Dev nD) (A : Buf (Elt Ideal) ((c : Thread nD τ).loc (Pipeline.arrRef spec0 3))) (t : Fin cfg0.N) (r : Fin 256) (d : Fin 512) :
    ((cfg0.win 3).blk t).view.read (Elt Ideal) A (ix2 r d) = (A : S34816x512.Idx → EReal) (ix2 ⟨256 * t.val + r.val, by have : t.val < 136 := t.isLt; omega⟩ d) := by
  obtain ⟨h0, h1, h2, h3, h4, h5, h6, h7, h8, h9, h10, h11, h12, h13, h14, h15, h16, h17⟩ := idx_facts t
  blk_ext [h3]

/-- A tile of the retention's backward rows of any array, read at the array. -/
theorem rb_read (c : Dev nD) (A : Buf (Elt Ideal) ((c : Thread nD τ).loc (Pipeline.arrRef spec0 4))) (t : Fin cfg0.N) (r : Fin 256) (d : Fin 512) :
    ((cfg0.win 4).blk t).view.read (Elt Ideal) A (ix2 r d) = (A : S34816x512.Idx → EReal) (ix2 ⟨256 * t.val + r.val, by have : t.val < 136 := t.isLt; omega⟩ d) := by
  obtain ⟨h0, h1, h2, h3, h4, h5, h6, h7, h8, h9, h10, h11, h12, h13, h14, h15, h16, h17⟩ := idx_facts t
  blk_ext [h4]

/-- A tile of the latent attention's rows of any array, read at the array. -/
theorem ml_read (c : Dev nD) (A : Buf (Elt Ideal) ((c : Thread nD τ).loc (Pipeline.arrRef spec0 5))) (t : Fin cfg0.N) (r : Fin 256) (d : Fin 512) :
    ((cfg0.win 5).blk t).view.read (Elt Ideal) A (ix2 r d) = (A : S34816x512.Idx → EReal) (ix2 ⟨256 * t.val + r.val, by have : t.val < 136 := t.isLt; omega⟩ d) := by
  obtain ⟨h0, h1, h2, h3, h4, h5, h6, h7, h8, h9, h10, h11, h12, h13, h14, h15, h16, h17⟩ := idx_facts t
  blk_ext [h5]

/-- A tile of the recurrence's forward rows of any array, read at the array. -/
theorem yf_read (c : Dev nD) (A : Buf (Elt Ideal) ((c : Thread nD τ).loc (Pipeline.arrRef spec0 6))) (t : Fin cfg0.N) (r : Fin 256) (d : Fin 512) :
    ((cfg0.win 6).blk t).view.read (Elt Ideal) A (ix2 r d) = (A : S34816x512.Idx → EReal) (ix2 ⟨256 * t.val + r.val, by have : t.val < 136 := t.isLt; omega⟩ d) := by
  obtain ⟨h0, h1, h2, h3, h4, h5, h6, h7, h8, h9, h10, h11, h12, h13, h14, h15, h16, h17⟩ := idx_facts t
  blk_ext [h6]

/-- A tile of the recurrence's backward rows of any array, read at the array. -/
theorem yb_read (c : Dev nD) (A : Buf (Elt Ideal) ((c : Thread nD τ).loc (Pipeline.arrRef spec0 7))) (t : Fin cfg0.N) (r : Fin 256) (d : Fin 512) :
    ((cfg0.win 7).blk t).view.read (Elt Ideal) A (ix2 r d) = (A : S34816x512.Idx → EReal) (ix2 ⟨256 * t.val + r.val, by have : t.val < 136 := t.isLt; omega⟩ d) := by
  obtain ⟨h0, h1, h2, h3, h4, h5, h6, h7, h8, h9, h10, h11, h12, h13, h14, h15, h16, h17⟩ := idx_facts t
  blk_ext [h7]

/-- A tile of the bonus of any array, read at the array. -/
theorem bo_read (c : Dev nD) (A : Buf (Elt Ideal) ((c : Thread nD τ).loc (Pipeline.arrRef spec0 8))) (t : Fin cfg0.N) (r : Fin 256) (d : Fin 512) :
    ((cfg0.win 8).blk t).view.read (Elt Ideal) A (ix2 r d) = (A : S34816x512.Idx → EReal) (ix2 ⟨256 * t.val + r.val, by have : t.val < 136 := t.isLt; omega⟩ d) := by
  obtain ⟨h0, h1, h2, h3, h4, h5, h6, h7, h8, h9, h10, h11, h12, h13, h14, h15, h16, h17⟩ := idx_facts t
  blk_ext [h8]

/-- A tile of the recurrence's gate of any array, read at the array. -/
theorem gg_read (c : Dev nD) (A : Buf (Elt Ideal) ((c : Thread nD τ).loc (Pipeline.arrRef spec0 9))) (t : Fin cfg0.N) (r : Fin 256) (d : Fin 512) :
    ((cfg0.win 9).blk t).view.read (Elt Ideal) A (ix2 r d) = (A : S34816x512.Idx → EReal) (ix2 ⟨256 * t.val + r.val, by have : t.val < 136 := t.isLt; omega⟩ d) := by
  obtain ⟨h0, h1, h2, h3, h4, h5, h6, h7, h8, h9, h10, h11, h12, h13, h14, h15, h16, h17⟩ := idx_facts t
  blk_ext [h9]

/-- A modulation block of any array, read at the array. -/
theorem w_read (c : Dev nD) (A : Buf (Elt Ideal) ((c : Thread nD τ).loc (Pipeline.arrRef spec0 1))) (t : Fin cfg0.N) (e : Fin 6) (d : Fin 1024) :
    ((cfg0.win 1).blk t).view.read (Elt Ideal) A (ix3 0 e d) = (A : S16x6x1024.Idx → EReal) (ix3 ⟨modRow t.val, modRow_lt _ t.isLt⟩ e d) := by
  obtain ⟨h0, h1, h2, h3, h4, h5, h6, h7, h8, h9, h10, h11, h12, h13, h14, h15, h16, h17⟩ := idx_facts t
  blk_ext [h1]

/-- The gain's block is the gain. -/
theorem lg_read (c : Dev nD) (A : Buf (Elt Ideal) ((c : Thread nD τ).loc (Pipeline.arrRef spec0 10))) (t : Fin cfg0.N) (k : Fin 512) :
    ((cfg0.win 10).blk t).view.read (Elt Ideal) A (ix2 0 k) = (A : S1x512.Idx → EReal) (ix2 0 k) := by
  obtain ⟨h0, h1, h2, h3, h4, h5, h6, h7, h8, h9, h10, h11, h12, h13, h14, h15, h16, h17⟩ := idx_facts t
  blk_ext [h10]

/-- The offset's block is the offset. -/
theorem lb_read (c : Dev nD) (A : Buf (Elt Ideal) ((c : Thread nD τ).loc (Pipeline.arrRef spec0 11))) (t : Fin cfg0.N) (k : Fin 512) :
    ((cfg0.win 11).blk t).view.read (Elt Ideal) A (ix2 0 k) = (A : S1x512.Idx → EReal) (ix2 0 k) := by
  obtain ⟨h0, h1, h2, h3, h4, h5, h6, h7, h8, h9, h10, h11, h12, h13, h14, h15, h16, h17⟩ := idx_facts t
  blk_ext [h11]

/-- The block of ones' window is the whole of it. -/
theorem bl_read (c : Dev nD) (A : Buf (Elt Ideal) ((c : Thread nD τ).loc (Pipeline.arrRef spec0 12))) (t : Fin cfg0.N) (j : Fin 512) (k : Fin 512) :
    ((cfg0.win 12).blk t).view.read (Elt Ideal) A (ix2 j k) = (A : S512x512.Idx → EReal) (ix2 j k) := by
  obtain ⟨h0, h1, h2, h3, h4, h5, h6, h7, h8, h9, h10, h11, h12, h13, h14, h15, h16, h17⟩ := idx_facts t
  blk_ext [h12]

/-- The retention's weights are the block. -/
theorem wa_read (c : Dev nD) (A : Buf (Elt Ideal) ((c : Thread nD τ).loc (Pipeline.arrRef spec0 13))) (t : Fin cfg0.N) (j : Fin 512) (k : Fin 1024) :
    ((cfg0.win 13).blk t).view.read (Elt Ideal) A (ix2 j k) = (A : S512x1024.Idx → EReal) (ix2 j k) := by
  obtain ⟨h0, h1, h2, h3, h4, h5, h6, h7, h8, h9, h10, h11, h12, h13, h14, h15, h16, h17⟩ := idx_facts t
  blk_ext [h13]

/-- The latent attention's weights are the block. -/
theorem wm_read (c : Dev nD) (A : Buf (Elt Ideal) ((c : Thread nD τ).loc (Pipeline.arrRef spec0 14))) (t : Fin cfg0.N) (j : Fin 512) (k : Fin 1024) :
    ((cfg0.win 14).blk t).view.read (Elt Ideal) A (ix2 j k) = (A : S512x1024.Idx → EReal) (ix2 j k) := by
  obtain ⟨h0, h1, h2, h3, h4, h5, h6, h7, h8, h9, h10, h11, h12, h13, h14, h15, h16, h17⟩ := idx_facts t
  blk_ext [h14]

/-- The recurrence's weights are the block. -/
theorem wr_read (c : Dev nD) (A : Buf (Elt Ideal) ((c : Thread nD τ).loc (Pipeline.arrRef spec0 15))) (t : Fin cfg0.N) (j : Fin 512) (k : Fin 1024) :
    ((cfg0.win 15).blk t).view.read (Elt Ideal) A (ix2 j k) = (A : S512x1024.Idx → EReal) (ix2 j k) := by
  obtain ⟨h0, h1, h2, h3, h4, h5, h6, h7, h8, h9, h10, h11, h12, h13, h14, h15, h16, h17⟩ := idx_facts t
  blk_ext [h15]

/-- The output weights are the block. -/
theorem wo_read (c : Dev nD) (A : Buf (Elt Ideal) ((c : Thread nD τ).loc (Pipeline.arrRef spec0 16))) (t : Fin cfg0.N) (j : Fin 1024) (k : Fin 1024) :
    ((cfg0.win 16).blk t).view.read (Elt Ideal) A (ix2 j k) = (A : S1024x1024.Idx → EReal) (ix2 j k) := by
  obtain ⟨h0, h1, h2, h3, h4, h5, h6, h7, h8, h9, h10, h11, h12, h13, h14, h15, h16, h17⟩ := idx_facts t
  blk_ext [h16]

/-- Where an element of an output block lies in the result array. -/
theorem out_place (t : Fin cfg0.N) (r : Fin 256) (d : Fin 1024) :
    (win0_17.blk t).view.emb (ix2 r d) = (ix2 ⟨256 * t.val + r.val, by have : t.val < 136 := t.isLt; omega⟩ d : S34816x1024.Idx) := by
  obtain ⟨h0, h1, h2, h3, h4, h5, h6, h7, h8, h9, h10, h11, h12, h13, h14, h15, h16, h17⟩ := idx_facts t
  blk_ext [h17]

variable (m : (ℓ : Loc nD τ sig) → Buf (Elt Ideal) ℓ)

/-- The gate's tile: the first columns of the projection's. -/
theorem p_read (c : Dev nD) (t : Fin cfg0.N) (r : Fin 256) (d : Fin 3072) :
    X0_2 m c t (ix2 r d) = (V m c main_v16 : S34816x7680.Idx → EReal) (ix2 ⟨256 * t.val + r.val, by have : t.val < 136 := t.isLt; omega⟩ ⟨d.val, by omega⟩) := by
  obtain ⟨h0, h1, h2, h3, h4, h5, h6, h7, h8, h9, h10, h11, h12, h13, h14, h15, h16, h17⟩ := idx_facts t
  unfold X0_2 Pipeline.Window.fill
  rw [dif_pos (moved0_2 t _)]
  unfold iblk
  blk_ext [h2]

end Cert.Merge

end
-- ==== Proof.MgTile.lean ====
/-
  The merge's result array: every output block is its tile of one function of the arrays the launch reads.
-/
module

public import proofs.«01_k».proof.Proof.MgArray

@[expose] public section

set_option maxRecDepth 16384

noncomputable section

namespace Cert.Merge

open Cert.Kernel4Ideal Cert.Kernel4Ideal.Gen Idealize.ShloMosaic Idealize.ShloMosaic.TcCoe
open Idealize.ShloMosaic.Pipeline (Dat)
open Cert.InProj (modRow modRow_lt)

/-- A block's element is the array's element at its place. -/
theorem block_merged (c : Dev nD) (i : grid0.Coords) (arg1 : Memref sig .tc .vmem S256x1024 .f32) (harg1 : arg1.IsWhole) (arg2 : Memref sig .tc .vmem S1x6x1024 .f32) (harg2 : arg2.IsWhole) (arg3 : Memref sig .tc .vmem S256x3072 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .bf16) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S1024x1024 .bf16) (harg17 : arg17.IsWhole) (arg18 : Memref sig .tc .vmem S256x1024 .f32) (harg18 : arg18.IsWhole)
    (T : ℕ) (hT : T < 136)
    (x0 : Vec Ideal S256x1024 .f32) (x1 : Vec Ideal S1x6x1024 .f32) (x2 : Vec Ideal S256x3072 .f32) (x3 : Vec Ideal S256x512 .f32) (x4 : Vec Ideal S256x512 .f32) (x5 : Vec Ideal S256x512 .bf16) (x6 : Vec Ideal S256x512 .f32) (x7 : Vec Ideal S256x512 .f32) (x8 : Vec Ideal S256x512 .f32) (x9 : Vec Ideal S256x512 .f32) (x10 : Vec Ideal S1x512 .f32) (x11 : Vec Ideal S1x512 .f32) (x12 : Vec Ideal S512x512 .bf16) (x13 : Vec Ideal S512x1024 .bf16) (x14 : Vec Ideal S512x1024 .bf16) (x15 : Vec Ideal S512x1024 .bf16) (x16 : Vec Ideal S1024x1024 .bf16)
    (X0 : S34816x1024.Idx → EReal) (X1 : S16x6x1024.Idx → EReal) (X2 : S34816x7680.Idx → EReal) (X3 : S34816x512.Idx → EReal) (X4 : S34816x512.Idx → EReal) (X5 : S34816x512.Idx → EReal) (X6 : S34816x512.Idx → EReal) (X7 : S34816x512.Idx → EReal) (X8 : S34816x512.Idx → EReal) (X9 : S34816x512.Idx → EReal) (X10 : S1x512.Idx → EReal) (X11 : S1x512.Idx → EReal) (X12 : S512x512.Idx → EReal) (X13 : S512x1024.Idx → EReal) (X14 : S512x1024.Idx → EReal) (X15 : S512x1024.Idx → EReal) (X16 : S1024x1024.Idx → EReal)
    (e0 : ∀ (r : Fin 256) (d : Fin 1024), x0 (ix2 r d) = X0 (ix2 ⟨256 * T + r.val, by omega⟩ d))
    (e1 : ∀ (e : Fin 6) (d : Fin 1024), x1 (ix3 0 e d) = X1 (ix3 ⟨modRow T, modRow_lt T hT⟩ e d))
    (e2 : ∀ (r : Fin 256) (d : Fin 3072), x2 (ix2 r d) = X2 (ix2 ⟨256 * T + r.val, by omega⟩ ⟨d.val, by omega⟩))
    (e3 : ∀ (r : Fin 256) (d : Fin 512), x3 (ix2 r d) = X3 (ix2 ⟨256 * T + r.val, by omega⟩ d))
    (e4 : ∀ (r : Fin 256) (d : Fin 512), x4 (ix2 r d) = X4 (ix2 ⟨256 * T + r.val, by omega⟩ d))
    (e5 : ∀ (r : Fin 256) (d : Fin 512), x5 (ix2 r d) = X5 (ix2 ⟨256 * T + r.val, by omega⟩ d))
    (e6 : ∀ (r : Fin 256) (d : Fin 512), x6 (ix2 r d) = X6 (ix2 ⟨256 * T + r.val, by omega⟩ d))
    (e7 : ∀ (r : Fin 256) (d : Fin 512), x7 (ix2 r d) = X7 (ix2 ⟨256 * T + r.val, by omega⟩ d))
    (e8 : ∀ (r : Fin 256) (d : Fin 512), x8 (ix2 r d) = X8 (ix2 ⟨256 * T + r.val, by omega⟩ d))
    (e9 : ∀ (r : Fin 256) (d : Fin 512), x9 (ix2 r d) = X9 (ix2 ⟨256 * T + r.val, by omega⟩ d))
    (e10 : ∀ k : Fin 512, x10 (ix2 0 k) = X10 (ix2 0 k))
    (e11 : ∀ k : Fin 512, x11 (ix2 0 k) = X11 (ix2 0 k))
    (e12 : ∀ (j : Fin 512) (k : Fin 512), x12 (ix2 j k) = X12 (ix2 j k))
    (e13 : ∀ (j : Fin 512) (k : Fin 1024), x13 (ix2 j k) = X13 (ix2 j k))
    (e14 : ∀ (j : Fin 512) (k : Fin 1024), x14 (ix2 j k) = X14 (ix2 j k))
    (e15 : ∀ (j : Fin 512) (k : Fin 1024), x15 (ix2 j k) = X15 (ix2 j k))
    (e16 : ∀ (j : Fin 1024) (k : Fin 1024), x16 (ix2 j k) = X16 (ix2 j k))
    (r : Fin 256) (d : Fin 1024) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 (ix2 r d)
      = mergedAt X0 X1 X2 X3 X4 X5 X6 X7 X8 X9 X10 X11 X12 X13 X14 X15 X16 (ix2 ⟨256 * T + r.val, by omega⟩ d) := by
  have hr : (256 * T + r.val) / 256 = T := by omega
  have f : (⟨modRow T, modRow_lt T hT⟩ : Fin 16) = ⟨modRow ((256 * T + r.val) / 256), modRow_lt _ (by omega)⟩ :=
    Fin.ext (by show _ = modRow _; rw [hr])
  rw [block_at]
  simp only [e0, e1, e2, e3, e4, e5, e6, e7, e8, e9, e10, e11, e12, e13, e14, e15, e16]
  rw [f]
  rfl

variable (m : (ℓ : Loc nD τ sig) → Buf (Elt Ideal) ℓ)

/-- The output blocks tile the result array. -/
theorem arr_eq (c : Dev nD) :
    (dats m 0 c).arrAt 17 cfg0.N
      = mergedAt (V m c main_v15) (V m c main_arg1) (V m c main_v16) (V m c main_v17) (V m c main_v18) (V m c main_v19) (V m c main_v20) (V m c main_v21) (V m c main_v22) (V m c main_v23) (V m c main_v9) (V m c main_v10) (V m c main_v8) (V m c main_v11) (V m c main_v12) (V m c main_v13) (V m c main_v14) := by
  refine (dats m 0 c).arrAt_eq_of_covers 17 _ (by decide +kernel) fun t hf y => ?_
  obtain ⟨r, d, rfl⟩ : ∃ (r : Fin 256) (d : Fin 1024), y = ix2 r d := ⟨y 0, y 1, eq_ix2 y⟩
  blk_simp
  rw [out_place, after0_17]
  unfold outsAt0
  exact block_merged c _ _ _ _ _ _ _ _ _ _ _ _ _ _ _ _ _ _ _ _ _ _ _ _ _ _ _ _ _ _ _ _ _ _ _ _ _ t.val t.isLt
    _ _ _ _ _ _ _ _ _ _ _ _ _ _ _ _ _ _ _ _ _ _ _ _ _ _ _ _ _ _ _ _ _ _
    (x_read c (V m c main_v15) t) (w_read c (V m c main_arg1) t) (p_read m c t) (rf_read c (V m c main_v17) t) (rb_read c (V m c main_v18) t) (ml_read c (V m c main_v19) t) (yf_read c (V m c main_v20) t) (yb_read c (V m c main_v21) t) (bo_read c (V m c main_v22) t) (gg_read c (V m c main_v23) t) (lg_read c (V m c main_v9) t) (lb_read c (V m c main_v10) t) (bl_read c (V m c main_v8) t) (wa_read c (V m c main_v11) t) (wm_read c (V m c main_v12) t) (wr_read c (V m c main_v13) t) (wo_read c (V m c main_v14) t) r d

end Cert.Merge

end
-- ==== Proof.MgReference.lean ====
/-
  The merge's reference, entry by entry.
-/
module

public import proofs.«01_k».proof.Proof.MgRows
public import proofs.«01_k».proof.Proof.InReference
public import proofs.«01_k».proof.Proof.Gen.Reference4Ideal.Read

@[expose] public section

set_option maxRecDepth 16384

noncomputable section

namespace Cert.Merge.Ref

open Cert.Reference4Ideal Cert.Reference4Ideal.Read Idealize.ShloMosaic
open Cert.InProj.Ref (row)

variable (x : S8x4352x1024.Idx → EReal) (w : S16x6x1024.Idx → EReal) (p : S8x4352x7680.Idx → EReal)
  (rf rb ml yf yb bo gg : S8x4352x512.Idx → EReal) (lg lb : S512.Idx → EReal)
  (A M R : S512x1024.Idx → EReal) (O : S1024x1024.Idx → EReal)

/-- The recurrence's row of batch `b`, both directions added. -/
def both (b : Fin 8) (l : Fin 4352) (k : Fin 512) : EReal := yf (ix3 b l k) + yb (ix3 b l k)

/-- A head's mean. -/
theorem mean_at (b : Fin 8) (l : Fin 4352) (h : Fin 8) (n : Fin 64) :
    val_main_v5 (F := Ideal) yf yb (ix4 b l h 0) = meanR (both yf yb b l) ⟨h.val * 64 + n.val, by omega⟩ := by
  have e : (h.val * 64 + n.val) / 64 = h.val := by omega
  unfold meanR both
  simp only [e]
  pointwise [val_main_v5, val_main_v4, val_main_v3, val_main_v2, val_main_v1, val_main_v0,  val_main_cst, val_main_cst_0, val_main_cst_1, val_main_cst_2, val_main_cst_3, val_main_cst_4, val_main_cst_5]

/-- An entry less its head's mean. -/
theorem cent_at (b : Fin 8) (l : Fin 4352) (h : Fin 8) (n : Fin 64) :
    val_main_v7 (F := Ideal) yf yb (ix4 b l h n) = centR (both yf yb b l) ⟨h.val * 64 + n.val, by omega⟩ := by
  unfold centR
  rw [← mean_at yf yb b l h n]
  generalize hm : val_main_v5 (F := Ideal) yf yb = mm
  unfold val_main_v7 val_main_v6 both
  rw [hm]
  pointwise [val_main_v1, val_main_v0]

/-- A head's variance. -/
theorem var_at (b : Fin 8) (l : Fin 4352) (h : Fin 8) (n : Fin 64) :
    val_main_v12 (F := Ideal) yf yb (ix4 b l h 0)
      = meanR (fun j => centR (both yf yb b l) j * centR (both yf yb b l) j) ⟨h.val * 64 + n.val, by omega⟩ := by
  have e : (h.val * 64 + n.val) / 64 = h.val := by omega
  unfold meanR
  simp only [e]
  simp only [← cent_at]
  generalize hm : val_main_v7 (F := Ideal) yf yb = mm
  unfold val_main_v12 val_main_v10 val_main_v9 val_main_v8
  rw [hm]
  pointwise [val_main_v11, val_main_cst, val_main_cst_0, val_main_cst_1, val_main_cst_2, val_main_cst_3, val_main_cst_4, val_main_cst_5]

/-- The centered entry by its place in the row. -/
theorem cent_row (b : Fin 8) (l : Fin 4352) (k : Fin 512) :
    val_main_v7 (F := Ideal) yf yb (ix4 b l ⟨k.val / 64, by omega⟩ ⟨k.val % 64, by omega⟩) = centR (both yf yb b l) k := by
  rw [cent_at yf yb b l ⟨k.val / 64, by omega⟩ ⟨k.val % 64, by omega⟩]
  exact congrArg _ (Fin.ext (by show k.val / 64 * 64 + k.val % 64 = k.val; omega))

/-- The variance by an entry's place in the row. -/
theorem var_row (b : Fin 8) (l : Fin 4352) (k : Fin 512) :
    val_main_v12 (F := Ideal) yf yb (ix4 b l ⟨k.val / 64, by omega⟩ 0)
      = meanR (fun j => centR (both yf yb b l) j * centR (both yf yb b l) j) k := by
  rw [var_at yf yb b l ⟨k.val / 64, by omega⟩ ⟨k.val % 64, by omega⟩]
  exact congrArg _ (Fin.ext (by show k.val / 64 * 64 + k.val % 64 = k.val; omega))

/-- The recurrence's row as it meets its weights. -/
theorem norm_at (b : Fin 8) (l : Fin 4352) (k : Fin 512) :
    val_main_v29 (F := Ideal) yf yb bo gg lg lb (ix3 b l k)
      = normR (both yf yb b l) (fun k => lg (ix1 k)) (fun k => lb (ix1 k)) (fun k => bo (ix3 b l k)) (fun k => gg (ix3 b l k)) k := by
  unfold normR
  rw [← var_row, ← cent_row]
  have hk : k.val / 64 * 64 + k.val % 64 = k.val := by omega
  generalize hm : val_main_v7 (F := Ideal) yf yb = mm
  generalize hv : val_main_v12 (F := Ideal) yf yb = vv
  unfold val_main_v29 val_main_v28 val_main_v27 val_main_v25 val_main_v21 val_main_v17 val_main_v16 val_main_v15 val_main_v14
  rw [hm, hv]
  pointwise [val_main_v26, val_main_v24, val_main_v23, val_main_v22, val_main_v20, val_main_v19, val_main_v18, val_main_v13, val_main_cst, val_main_cst_0, val_main_cst_1, val_main_cst_2, val_main_cst_3, val_main_cst_4, val_main_cst_5]

/-- The gated mixture's row. -/
def mixRow (b : Fin 8) (l : Fin 4352) : Fin 1024 → EReal :=
  mixed (fun e => p (ix3 b l ⟨e.val, by omega⟩)) (fun e => p (ix3 b l ⟨1024 + e.val, by omega⟩)) (fun e => p (ix3 b l ⟨2048 + e.val, by omega⟩))
    (fun k => rf (ix3 b l k) + rb (ix3 b l k)) (fun k => ml (ix3 b l k))
    (normR (both yf yb b l) (fun k => lg (ix1 k)) (fun k => lb (ix1 k)) (fun k => bo (ix3 b l k)) (fun k => gg (ix3 b l k)))
    (fun k e => A (ix2 k e)) (fun k e => M (ix2 k e)) (fun k e => R (ix2 k e))

/-- An entry of the gated mixture. -/
theorem mix_at (b : Fin 8) (l : Fin 4352) (e : Fin 1024) :
    val_main_v49 (F := Ideal) p rf rb ml yf yb bo gg lg lb A M R (ix3 b l e) = mixRow p rf rb ml yf yb bo gg lg lb A M R b l e := by
  unfold mixRow mixed logistic
  simp only [← norm_at]
  generalize hN : val_main_v29 (F := Ideal) yf yb bo gg lg lb = N
  unfold val_main_v49 val_main_v48 val_main_v47
  rw [hN]
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_cst, val_main_cst_0, val_main_cst_1, val_main_cst_2, val_main_cst_3, val_main_cst_4, val_main_cst_5]

/-- The mixture against the output weights. -/
theorem out_mix (b : Fin 8) (l : Fin 4352) (d : Fin 1024) :
    val_main_v50 (F := Ideal) p rf rb ml yf yb bo gg lg lb A M R O (ix3 b l d)
      = ∑ e : Fin 1024, mixRow p rf rb ml yf yb bo gg lg lb A M R b l e * O (ix2 e d) := by
  simp only [← mix_at]
  generalize hN : val_main_v49 (F := Ideal) p rf rb ml yf yb bo gg lg lb A M R = N
  unfold val_main_v50
  rw [hN]
  pointwise

/-- Entry `(R, d)` of the result. -/
theorem out_at (T : Fin 34816) (d : Fin 1024) :
    val_main_v66 (F := Ideal) x w p rf rb ml yf yb bo gg lg lb A M R O (ix2 T d)
      = merged (fun d => x (ix3 ⟨T.val / 4352, by omega⟩ ⟨T.val % 4352, by omega⟩ d))
          (fun d => w (ix3 (row ⟨T.val / 4352, by omega⟩ ⟨T.val % 4352, by omega⟩) 2 d))
          (mixRow p rf rb ml yf yb bo gg lg lb A M R ⟨T.val / 4352, by omega⟩ ⟨T.val % 4352, by omega⟩)
          (fun e d => O (ix2 e d)) d := by
  unfold merged row
  rw [← out_mix]
  generalize hN : val_main_v50 (F := Ideal) p rf rb ml yf yb bo gg lg lb A M R O = N
  unfold val_main_v66 val_main_v65 val_main_v64 val_main_v63 val_main_v61 val_main_v58 val_main_v57 val_main_v54
  rw [hN]
  by_cases h : T.val % 4352 < 256
  · simp only [if_pos h]
    pointwise [val_main_v51, val_main_v52, val_main_v53, val_main_v55, val_main_v56, val_main_v59, val_main_v60, val_main_v62]
    exact dif_pos h
  · simp only [if_neg h]
    have hl : (⟨256 + (T.val % 4352 - 256), by omega⟩ : Fin 4352) = ⟨T.val % 4352, by omega⟩ := Fin.ext (by show 256 + (T.val % 4352 - 256) = T.val % 4352; omega)
    pointwise [val_main_v51, val_main_v52, val_main_v53, val_main_v55, val_main_v56, val_main_v59, val_main_v60, val_main_v62]
    rw [dif_neg h]
    simp only [hl]

end Cert.Merge.Ref

end
-- ==== Proof.MgRowMath.lean ====
/-
  The merge's row equation: on reals, the blocks of ones sum a head's entries and the rounding's loss is nothing.
-/
module

public import proofs.«01_k».proof.Proof.MgRows
public import proofs.«01_k».proof.Proof.RowMath

@[expose] public section

noncomputable section

namespace Cert.Merge

open Idealize.ShloMosaic

/-- The word of a sixty-fourth. -/
theorem word_part : Ideal.ofBits FTy.f32 0x3C800000#32 = ((1 / 64 : ℝ) : EReal) := by
  simp [Ideal.ofBits, Ideal.ieee]
  rw [← EReal.coe_mul]
  norm_num

/-- The word of sixty-four. -/
theorem word_whole : Ideal.ofBits FTy.f32 0x42800000#32 = ((64 : ℝ) : EReal) := by
  simp [Ideal.ofBits, Ideal.ieee]
  rw [← EReal.coe_mul]
  norm_num

/-- Against the blocks of ones only a head's own entries remain. -/
theorem sum_head (y : Fin 512 → EReal) (k : Fin 512) :
    ∑ j : Fin 512, y j * sameHead j k = ∑ n : Fin 64, y ⟨k.val / 64 * 64 + n.val, by omega⟩ := by
  unfold sameHead
  simp only [mul_ite, mul_one, mul_zero]
  rw [← Finset.sum_filter]
  refine (Finset.sum_bij (fun (n : Fin 64) _ => (⟨k.val / 64 * 64 + n.val, by omega⟩ : Fin 512)) ?_ ?_ ?_ ?_).symm
  · intro n _
    rw [Finset.mem_filter]
    exact ⟨Finset.mem_univ _, by show (k.val / 64 * 64 + n.val) / 64 = k.val / 64; omega⟩
  · intro n _ n' _ h
    have h' : k.val / 64 * 64 + n.val = k.val / 64 * 64 + n'.val := congrArg Fin.val h
    exact Fin.ext (by omega)
  · intro j hj
    have h' : j.val / 64 = k.val / 64 := (Finset.mem_filter.1 hj).2
    exact ⟨⟨j.val % 64, by omega⟩, Finset.mem_univ _, Fin.ext (by show k.val / 64 * 64 + j.val % 64 = j.val; omega)⟩
  · intro n _
    rfl

/-- The two means of a row of reals agree. -/
theorem mean_eq (y : Fin 512 → EReal) (hy : ∀ j, ∃ r : ℝ, y j = r) (k : Fin 512) : meanK y sameHead k = meanR y k := by
  have h0 : ∀ j, y j - y j = 0 := by
    intro j
    obtain ⟨r, hr⟩ := hy j
    rw [hr, ← EReal.coe_sub, sub_self, EReal.coe_zero]
  unfold meanK meanR
  simp only [h0, zero_mul, Finset.sum_const_zero, add_zero]
  rw [sum_head, word_part, word_whole, Ideal.div_coe (by norm_num)]

/-- The mean of a row of reals is a real. -/
theorem mean_real (y : Fin 512 → EReal) (hy : ∀ j, ∃ r : ℝ, y j = r) (k : Fin 512) : ∃ r : ℝ, meanR y k = r := by
  choose f hf using hy
  unfold meanR
  simp only [hf]
  rw [Cert.Attn.sum_real, word_whole, Ideal.div_coe (by norm_num), ← EReal.coe_mul]
  exact ⟨_, rfl⟩

/-- The two normalizations of a row of reals agree. -/
theorem norm_eq (y : Fin 512 → EReal) (hy : ∀ j, ∃ r : ℝ, y j = r) (g b u z : Fin 512 → EReal) (k : Fin 512) :
    normK y sameHead g b u z k = normR y g b u z k := by
  have hc : centK y sameHead = centR y := funext fun j => congrArg (y j - ·) (mean_eq y hy j)
  have hr : ∀ j, ∃ r : ℝ, centR y j * centR y j = r := by
    intro j
    obtain ⟨a, ha⟩ := hy j
    obtain ⟨c, hc⟩ := mean_real y hy j
    unfold centR
    rw [ha, hc, ← EReal.coe_sub, ← EReal.coe_mul]
    exact ⟨_, rfl⟩
  unfold normK normR
  rw [hc, mean_eq _ hr k]

end Cert.Merge

end
-- ==== Proof.MgEquation.lean ====
/-
  The merge computes its reference: the blocks of ones entry by entry, the rows the launch reads, and the two results.
-/
module

public import proofs.«01_k».proof.Proof.MgTile
public import proofs.«01_k».proof.Proof.MgReference
public import proofs.«01_k».proof.Proof.MgRowMath
public import proofs.«01_k».proof.Proof.InEquation
public import Idealize.ShloMosaic.Lib.StableHlo.ReadAt
public import Idealize.ShloMosaic.Lib.Claim

@[expose] public section

set_option maxRecDepth 16384

noncomputable section

namespace Cert.Merge

open Cert.Kernel4Ideal Cert.Kernel4Ideal.Gen Idealize.ShloMosaic Idealize.ShloMosaic.TcCoe
open Cert.InProj (modRow modRow_lt)

variable (m : (ℓ : Loc nD τ sig) → Buf (Elt Ideal) ℓ)

/-- The launch's rows are the batches', one batch after another. -/
theorem x_flat (c : Dev nD) (R : Fin 34816) (d : Fin 1024) :
    (V m c main_v15 : S34816x1024.Idx → EReal) (ix2 R d)
      = (m (c, Proc.tc.devRef main_arg0) : S8x4352x1024.Idx → EReal) (ix3 ⟨R.val / 4352, by omega⟩ ⟨R.val % 4352, by omega⟩ d) := by
  unfold V
  after_reads_at

/-- The launch's projected rows are the batches', one batch after another. -/
theorem p_flat (c : Dev nD) (R : Fin 34816) (d : Fin 7680) :
    (V m c main_v16 : S34816x7680.Idx → EReal) (ix2 R d)
      = (m (c, Proc.tc.devRef main_arg2) : S8x4352x7680.Idx → EReal) (ix3 ⟨R.val / 4352, by omega⟩ ⟨R.val % 4352, by omega⟩ d) := by
  unfold V
  after_reads_at

/-- The launch's retention's forward rows are the batches', one batch after another. -/
theorem rf_flat (c : Dev nD) (R : Fin 34816) (d : Fin 512) :
    (V m c main_v17 : S34816x512.Idx → EReal) (ix2 R d)
      = (m (c, Proc.tc.devRef main_arg3) : S8x4352x512.Idx → EReal) (ix3 ⟨R.val / 4352, by omega⟩ ⟨R.val % 4352, by omega⟩ d) := by
  unfold V
  after_reads_at

/-- The launch's retention's backward rows are the batches', one batch after another. -/
theorem rb_flat (c : Dev nD) (R : Fin 34816) (d : Fin 512) :
    (V m c main_v18 : S34816x512.Idx → EReal) (ix2 R d)
      = (m (c, Proc.tc.devRef main_arg4) : S8x4352x512.Idx → EReal) (ix3 ⟨R.val / 4352, by omega⟩ ⟨R.val % 4352, by omega⟩ d) := by
  unfold V
  after_reads_at

/-- The launch's latent attention's rows are the batches', one batch after another. -/
theorem ml_flat (c : Dev nD) (R : Fin 34816) (d : Fin 512) :
    (V m c main_v19 : S34816x512.Idx → EReal) (ix2 R d)
      = (m (c, Proc.tc.devRef main_arg5) : S8x4352x512.Idx → EReal) (ix3 ⟨R.val / 4352, by omega⟩ ⟨R.val % 4352, by omega⟩ d) := by
  unfold V
  after_reads_at

/-- The launch's recurrence's forward rows are the batches', one batch after another. -/
theorem yf_flat (c : Dev nD) (R : Fin 34816) (d : Fin 512) :
    (V m c main_v20 : S34816x512.Idx → EReal) (ix2 R d)
      = (m (c, Proc.tc.devRef main_arg6) : S8x4352x512.Idx → EReal) (ix3 ⟨R.val / 4352, by omega⟩ ⟨R.val % 4352, by omega⟩ d) := by
  unfold V
  after_reads_at

/-- The launch's recurrence's backward rows are the batches', one batch after another. -/
theorem yb_flat (c : Dev nD) (R : Fin 34816) (d : Fin 512) :
    (V m c main_v21 : S34816x512.Idx → EReal) (ix2 R d)
      = (m (c, Proc.tc.devRef main_arg7) : S8x4352x512.Idx → EReal) (ix3 ⟨R.val / 4352, by omega⟩ ⟨R.val % 4352, by omega⟩ d) := by
  unfold V
  after_reads_at

/-- The launch's bonus rows are the batches', one batch after another. -/
theorem bo_flat (c : Dev nD) (R : Fin 34816) (d : Fin 512) :
    (V m c main_v22 : S34816x512.Idx → EReal) (ix2 R d)
      = (m (c, Proc.tc.devRef main_arg8) : S8x4352x512.Idx → EReal) (ix3 ⟨R.val / 4352, by omega⟩ ⟨R.val % 4352, by omega⟩ d) := by
  unfold V
  after_reads_at

/-- The launch's recurrence's gate rows are the batches', one batch after another. -/
theorem gg_flat (c : Dev nD) (R : Fin 34816) (d : Fin 512) :
    (V m c main_v23 : S34816x512.Idx → EReal) (ix2 R d)
      = (m (c, Proc.tc.devRef main_arg9) : S8x4352x512.Idx → EReal) (ix3 ⟨R.val / 4352, by omega⟩ ⟨R.val % 4352, by omega⟩ d) := by
  unfold V
  after_reads_at

/-- The launch's gain is the argument's. -/
theorem lg_flat (c : Dev nD) (k : Fin 512) :
    (V m c main_v9 : S1x512.Idx → EReal) (ix2 0 k) = (m (c, Proc.tc.devRef main_arg10) : S512.Idx → EReal) (ix1 k) := by
  unfold V
  after_reads_at

/-- The launch's offset is the argument's. -/
theorem lb_flat (c : Dev nD) (k : Fin 512) :
    (V m c main_v10 : S1x512.Idx → EReal) (ix2 0 k) = (m (c, Proc.tc.devRef main_arg11) : S512.Idx → EReal) (ix1 k) := by
  unfold V
  after_reads_at

/-- The launch's retention's weights are the argument's. -/
theorem wa_flat (c : Dev nD) (j : Fin 512) (k : Fin 1024) :
    (V m c main_v11 : S512x1024.Idx → EReal) (ix2 j k) = (m (c, Proc.tc.devRef main_arg12) : S512x1024.Idx → EReal) (ix2 j k) := by
  unfold V
  after_reads_at

/-- The launch's latent attention's weights are the argument's. -/
theorem wm_flat (c : Dev nD) (j : Fin 512) (k : Fin 1024) :
    (V m c main_v12 : S512x1024.Idx → EReal) (ix2 j k) = (m (c, Proc.tc.devRef main_arg13) : S512x1024.Idx → EReal) (ix2 j k) := by
  unfold V
  after_reads_at

/-- The launch's recurrence's weights are the argument's. -/
theorem wr_flat (c : Dev nD) (j : Fin 512) (k : Fin 1024) :
    (V m c main_v13 : S512x1024.Idx → EReal) (ix2 j k) = (m (c, Proc.tc.devRef main_arg14) : S512x1024.Idx → EReal) (ix2 j k) := by
  unfold V
  after_reads_at

/-- The launch's output weights are the argument's. -/
theorem wo_flat (c : Dev nD) (j : Fin 1024) (k : Fin 1024) :
    (V m c main_v14 : S1024x1024.Idx → EReal) (ix2 j k) = (m (c, Proc.tc.devRef main_arg15) : S1024x1024.Idx → EReal) (ix2 j k) := by
  unfold V
  after_reads_at

/-- Two heads' numbers compared, as a bit. -/
theorem head_bit (a b : Fin 8) :
    IntOp.cmpi CmpIPredicate.eq (IntOp.addi (BitVec.ofNat 32 a.val) 0#32) (BitVec.ofNat 32 b.val) = if a.val = b.val then 1#1 else 0#1 := by
  decide +revert

/-- The bit as a number. -/
theorem head_word (a b : Fin 8) :
    FloatOps.uitofp (F := Ideal) FTy.f32 (IntOp.cmpi CmpIPredicate.eq (IntOp.addi (BitVec.ofNat 32 a.val) 0#32) (BitVec.ofNat 32 b.val))
      = if a.val = b.val then (1 : EReal) else 0 := by
  rw [head_bit]
  split <;> simp [FloatOps.uitofp]

/-- An entry of the blocks of ones. -/
theorem bl_flat (c : Dev nD) (j k : Fin 512) :
    (V m c main_v8 : S512x512.Idx → EReal) (ix2 j k) = sameHead j k := by
  unfold V
  after_reads_at
  exact head_word ⟨j.val / 64, by omega⟩ ⟨k.val / 64, by omega⟩

/-- One function of the flattened rows is the same function of the batches' rows. -/
theorem merged_flat (X : S34816x1024.Idx → EReal) (W : S16x6x1024.Idx → EReal) (P : S34816x7680.Idx → EReal)
    (F B L Yf Yb U Z : S34816x512.Idx → EReal) (g b : S1x512.Idx → EReal) (H : S512x512.Idx → EReal)
    (A M Q : S512x1024.Idx → EReal) (O : S1024x1024.Idx → EReal)
    (x : S8x4352x1024.Idx → EReal) (w : S16x6x1024.Idx → EReal) (p : S8x4352x7680.Idx → EReal)
    (rf rb ml yf yb bo gg : S8x4352x512.Idx → EReal) (lg lb : S512.Idx → EReal) (a n q : S512x1024.Idx → EReal) (o : S1024x1024.Idx → EReal)
    (hf : ∀ i, ∃ r : ℝ, yf i = r) (hb : ∀ i, ∃ r : ℝ, yb i = r)
    (hx : ∀ (R : Fin 34816) (d : Fin 1024), X (ix2 R d) = x (ix3 ⟨R.val / 4352, by omega⟩ ⟨R.val % 4352, by omega⟩ d))
    (hp : ∀ (R : Fin 34816) (d : Fin 7680), P (ix2 R d) = p (ix3 ⟨R.val / 4352, by omega⟩ ⟨R.val % 4352, by omega⟩ d))
    (hrf : ∀ (R : Fin 34816) (d : Fin 512), F (ix2 R d) = rf (ix3 ⟨R.val / 4352, by omega⟩ ⟨R.val % 4352, by omega⟩ d))
    (hrb : ∀ (R : Fin 34816) (d : Fin 512), B (ix2 R d) = rb (ix3 ⟨R.val / 4352, by omega⟩ ⟨R.val % 4352, by omega⟩ d))
    (hml : ∀ (R : Fin 34816) (d : Fin 512), L (ix2 R d) = ml (ix3 ⟨R.val / 4352, by omega⟩ ⟨R.val % 4352, by omega⟩ d))
    (hyf : ∀ (R : Fin 34816) (d : Fin 512), Yf (ix2 R d) = yf (ix3 ⟨R.val / 4352, by omega⟩ ⟨R.val % 4352, by omega⟩ d))
    (hyb : ∀ (R : Fin 34816) (d : Fin 512), Yb (ix2 R d) = yb (ix3 ⟨R.val / 4352, by omega⟩ ⟨R.val % 4352, by omega⟩ d))
    (hbo : ∀ (R : Fin 34816) (d : Fin 512), U (ix2 R d) = bo (ix3 ⟨R.val / 4352, by omega⟩ ⟨R.val % 4352, by omega⟩ d))
    (hgg : ∀ (R : Fin 34816) (d : Fin 512), Z (ix2 R d) = gg (ix3 ⟨R.val / 4352, by omega⟩ ⟨R.val % 4352, by omega⟩ d))
    (hw : W = w) (hlg : ∀ k : Fin 512, g (ix2 0 k) = lg (ix1 k)) (hlb : ∀ k : Fin 512, b (ix2 0 k) = lb (ix1 k))
    (hH : ∀ j k : Fin 512, H (ix2 j k) = sameHead j k)
    (ha : ∀ (j : Fin 512) (k : Fin 1024), A (ix2 j k) = a (ix2 j k))
    (hn : ∀ (j : Fin 512) (k : Fin 1024), M (ix2 j k) = n (ix2 j k))
    (hq : ∀ (j : Fin 512) (k : Fin 1024), Q (ix2 j k) = q (ix2 j k))
    (ho : ∀ (j : Fin 1024) (k : Fin 1024), O (ix2 j k) = o (ix2 j k))
    (T : Fin 34816) (d : Fin 1024) :
    mergedAt X W P F B L Yf Yb U Z g b H A M Q O (ix2 T d)
      = merged (fun d => x (ix3 ⟨T.val / 4352, by omega⟩ ⟨T.val % 4352, by omega⟩ d)) (fun d => w (ix3 (Cert.InProj.Ref.row ⟨T.val / 4352, by omega⟩ ⟨T.val % 4352, by omega⟩) 2 d))
          (Ref.mixRow p rf rb ml yf yb bo gg lg lb a n q ⟨T.val / 4352, by omega⟩ ⟨T.val % 4352, by omega⟩) (fun e d => o (ix2 e d)) d := by
  have hy : ∀ j, ∃ r : ℝ, Ref.both yf yb ⟨T.val / 4352, by omega⟩ ⟨T.val % 4352, by omega⟩ j = r := by
    intro j
    obtain ⟨r, hr⟩ := hf (ix3 ⟨T.val / 4352, by omega⟩ ⟨T.val % 4352, by omega⟩ j)
    obtain ⟨s, hs⟩ := hb (ix3 ⟨T.val / 4352, by omega⟩ ⟨T.val % 4352, by omega⟩ j)
    unfold Ref.both
    rw [hr, hs, ← EReal.coe_add]
    exact ⟨_, rfl⟩
  have hN := funext (norm_eq (Ref.both yf yb ⟨T.val / 4352, by omega⟩ ⟨T.val % 4352, by omega⟩) hy (fun k => lg (ix1 k)) (fun k => lb (ix1 k)) (fun k => bo (ix3 ⟨T.val / 4352, by omega⟩ ⟨T.val % 4352, by omega⟩ k)) (fun k => gg (ix3 ⟨T.val / 4352, by omega⟩ ⟨T.val % 4352, by omega⟩ k)))
  unfold Ref.mixRow
  rw [← hN, ← Cert.InProj.row_eq T (modRow_lt _ (by omega))]
  show merged (fun d => X (ix2 T d)) (fun d => W (ix3 ⟨modRow (T.val / 256), _⟩ 2 d))
    (mixed (fun e => P (ix2 T ⟨e.val, _⟩)) (fun e => P (ix2 T ⟨1024 + e.val, _⟩)) (fun e => P (ix2 T ⟨2048 + e.val, _⟩))
      (fun k => F (ix2 T k) + B (ix2 T k)) (fun k => L (ix2 T k))
      (normK (fun k => Yf (ix2 T k) + Yb (ix2 T k)) (fun j k => H (ix2 j k)) (fun k => g (ix2 0 k)) (fun k => b (ix2 0 k))
        (fun k => U (ix2 T k)) (fun k => Z (ix2 T k)))
      (fun k e => A (ix2 k e)) (fun k e => M (ix2 k e)) (fun k e => Q (ix2 k e)))
    (fun e d => O (ix2 e d)) d = _
  simp only [hx, hp, hrf, hrb, hml, hyf, hyb, hbo, hgg, hw, hlg, hlb, hH, ha, hn, hq, ho]
  rfl

/-- The launch's result array is the reference's function of the arguments, both directions of the recurrence being reals. -/
theorem result_eq (c : Dev nD)
    (hf : ∀ i : S8x4352x512.Idx, ∃ r : ℝ, @Eq EReal ((m (c, Proc.tc.devRef main_arg6) : S8x4352x512.Idx → EReal) i) r)
    (hb : ∀ i : S8x4352x512.Idx, ∃ r : ℝ, @Eq EReal ((m (c, Proc.tc.devRef main_arg7) : S8x4352x512.Idx → EReal) i) r) :
    (dats m 0 c).arrAt 17 cfg0.N
      = Cert.Reference4Ideal.Read.val_main_v66 (F := Ideal) (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) (m (c, Proc.tc.devRef main_arg14)) (m (c, Proc.tc.devRef main_arg15)) := by
  rw [arr_eq]
  funext i
  obtain ⟨T, d, rfl⟩ : ∃ (T : Fin 34816) (d : Fin 1024), i = ix2 T d := ⟨i 0, i 1, eq_ix2 i⟩
  refine Eq.trans ?_ (Ref.out_at _ _ _ _ _ _ _ _ _ _ _ _ _ _ _ _ T d).symm
  exact merged_flat _ _ _ _ _ _ _ _ _ _ _ _ _ _ _ _ _ _ _ _ _ _ _ _ _ _ _ _ _ _ _ _ _ hf hb (x_flat m c) (p_flat m c) (rf_flat m c)
    (rb_flat m c) (ml_flat m c) (yf_flat m c) (yb_flat m c) (bo_flat m c) (gg_flat m c) (V_main_arg1 m c) (lg_flat m c) (lb_flat m c)
    (bl_flat m c) (wa_flat m c) (wm_flat m c) (wr_flat m c) (wo_flat m c) T d

end Cert.Merge

end
-- ==== Proof.MlRows.lean ====
/-
  The heads' preparation, row by row: the normalizations as the kernel and as the reference take them, and the rotation
  of a head over its 128 lanes.
-/
module

public import Idealize.ShloMosaic.Lib.Pointwise
public import Idealize.ShloMosaic.Lib.Pipeline.ValueKit

@[expose] public section

noncomputable section

namespace Cert.Mla

open Idealize.ShloMosaic

/-- A row over the root of its mean square, times the gain; the mean by a factor, as the kernel has it. -/
def rmsK {n : ℕ} (x g : Fin n → EReal) (c : EReal) (k : Fin n) : EReal :=
  x k * Ideal.rsqrt ((∑ j, x j * x j) * c + Ideal.ofBits FTy.f32 0x358637BD#32) * g k

/-- The same with the mean by a division, as the reference has it. -/
def rmsR {n : ℕ} (x g : Fin n → EReal) (N : EReal) (k : Fin n) : EReal :=
  x k * Ideal.rsqrt (Ideal.div (∑ j, x j * x j) N + Ideal.ofBits FTy.f32 0x358637BD#32) * g k

/-- The lane a lane is turned with: the other eight of its sixteen. -/
def other (n : Fin 128) : Fin 128 :=
  if n.val % 16 < 8 then ⟨(n.val + 8) % 128, by omega⟩ else ⟨(n.val + 120) % 128, by omega⟩

/-- A head's lanes turned by a row of cosines and a row of signed sines. -/
def turned (x C S : Fin 128 → EReal) (n : Fin 128) : EReal := x n * C n + x (other n) * S n

/-- Ninety-six columns on 128 lanes. -/
def lanes (x : Fin 96 → EReal) (n : Fin 128) : EReal := if h : n.val < 96 then x ⟨n.val, h⟩ else 0

/-- A row's columns in their places among the block's 512. -/
def place (x : Fin 416 → EReal) (k : Fin 512) : EReal :=
  if h : k.val < 384 then x ⟨k.val, by omega⟩
  else if k.val < 448 then 0
  else if h : k.val < 480 then x ⟨k.val - 64, by omega⟩
  else 0

/-- A latent row's cosines over the lanes. -/
def cosRow (a b : Fin 8 → EReal) (n : Fin 128) : EReal :=
  if n.val < 64 then 1
  else if h : n.val < 72 then Ideal.cos (a ⟨n.val - 64, by omega⟩)
  else if h : n.val < 80 then Ideal.cos (a ⟨n.val - 72, by omega⟩)
  else if h : n.val < 88 then Ideal.cos (b ⟨n.val - 80, by omega⟩)
  else if h : n.val < 96 then Ideal.cos (b ⟨n.val - 88, by omega⟩)
  else 1

/-- A latent row's signed sines over the lanes. -/
def sinRow (a b : Fin 8 → EReal) (n : Fin 128) : EReal :=
  if n.val < 64 then 0
  else if h : n.val < 72 then -Ideal.sin (a ⟨n.val - 64, by omega⟩)
  else if h : n.val < 80 then Ideal.sin (a ⟨n.val - 72, by omega⟩)
  else if h : n.val < 88 then -Ideal.sin (b ⟨n.val - 80, by omega⟩)
  else if h : n.val < 96 then Ideal.sin (b ⟨n.val - 88, by omega⟩)
  else 0

/-- The table of cosines: none for the context rows. -/
def cosT (a b : Fin 4096 → Fin 8 → EReal) (l : Fin 4352) (n : Fin 128) : EReal :=
  if h : l.val < 256 then 1 else cosRow (a ⟨l.val - 256, by omega⟩) (b ⟨l.val - 256, by omega⟩) n

/-- The table of signed sines. -/
def sinT (a b : Fin 4096 → Fin 8 → EReal) (l : Fin 4352) (n : Fin 128) : EReal :=
  if h : l.val < 256 then 0 else sinRow (a ⟨l.val - 256, by omega⟩) (b ⟨l.val - 256, by omega⟩) n

/-- A head turned as the reference turns it: its last columns by the two angles, half against half. -/
def turned96 (x : Fin 96 → EReal) (a b : Fin 8 → EReal) (n : Fin 96) : EReal :=
  if n.val < 64 then x n
  else if h : n.val < 72 then
    x n * Ideal.cos (a ⟨n.val - 64, by omega⟩) - x ⟨n.val + 8, by omega⟩ * Ideal.sin (a ⟨n.val - 64, by omega⟩)
  else if h : n.val < 80 then
    x ⟨n.val - 8, by omega⟩ * Ideal.sin (a ⟨n.val - 72, by omega⟩) + x n * Ideal.cos (a ⟨n.val - 72, by omega⟩)
  else if h : n.val < 88 then
    x n * Ideal.cos (b ⟨n.val - 80, by omega⟩) - x ⟨n.val + 8, by omega⟩ * Ideal.sin (b ⟨n.val - 80, by omega⟩)
  else
    x ⟨n.val - 8, by omega⟩ * Ideal.sin (b ⟨n.val - 88, by omega⟩) + x n * Ideal.cos (b ⟨n.val - 88, by omega⟩)

/-- A row's head: turned if the row is a latent one. -/
def rotated (x : Fin 96 → EReal) (a b : Fin 4096 → Fin 8 → EReal) (l : Fin 4352) (n : Fin 96) : EReal :=
  if h : l.val < 256 then x n else turned96 x (a ⟨l.val - 256, by omega⟩) (b ⟨l.val - 256, by omega⟩) n

end Cert.Mla

end
-- ==== Proof.MlHeads.lean ====
/-
  The heads' preparation: what each stored head is, lane by lane, of the projected rows.
-/
module

public import proofs.«01_k».proof.Proof.MlRows
public import proofs.«01_k».proof.Proof.Gen.Kernel5Ideal.Value

@[expose] public section

set_option maxRecDepth 16384

noncomputable section

namespace Cert.Mla

open Cert.Kernel5Ideal Cert.Kernel5Ideal.Gen Idealize.ShloMosaic

/-- The factor of a head's mean square. -/
abbrev part : EReal := Named.named (F := Ideal) κ "part" (φ := .f32) 0x3C2AAAAB#32

/-- The factor of the queries. -/
abbrev scale : EReal := Named.named (F := Ideal) κ "scale" (φ := .f32) 0x3E16C740#32

/-- The lanes of the first eight of every sixteen, as a bit. -/
theorem first_at (r : Fin 256) (n : Fin 128) : k0_pay9 (ix2 r n) = if n.val % 16 < 8 then 1#1 else 0#1 := by
  have h : ∀ n : Fin 128, IntOp.cmpi CmpIPredicate.slt (IntOp.andi (BitVec.ofNat 32 n.val) 15#32) 8#32 = if n.val % 16 < 8 then 1#1 else 0#1 := by
    decide +kernel
  rw [← h n]
  pointwise [k0_pay9]

/-- Choosing between the two moved rows is taking the other eight of the sixteen. -/
theorem choose_other (x : Fin 128 → EReal) (n : Fin 128) :
    Scalar.select (if n.val % 16 < 8 then 1#1 else 0#1) (x ⟨(n.val + 128 - 120) % 128, by omega⟩)
      (x ⟨(n.val + 128 - 8) % 128, by omega⟩) = x (other n) := by
  unfold other
  have hu : (n.val + 128 - 120) % 128 = (n.val + 8) % 128 := by omega
  have hd : (n.val + 128 - 8) % 128 = (n.val + 120) % 128 := by omega
  by_cases h : n.val % 16 < 8
  · simp only [h, if_true, hu]; rfl
  · simp only [h, if_false, hd]; rfl

/-- Query head 0 turned and scaled. -/
theorem turn_q0 (C S x : FVec Ideal S256x128 .f32) (r : Fin 256) (n : Fin 128) :
    k0_pay34 (F := Ideal) C S k0_pay9 x (ix2 r n)
      = turned (fun n => x (ix2 r n)) (fun n => C (ix2 r n)) (fun n => S (ix2 r n)) n * scale := by
  have hf := first_at r n
  have hc := choose_other (fun n => x (ix2 r n)) n
  unfold turned
  beta_reduce at hc ⊢
  rw [← hc, ← hf]
  pointwise [k0_pay34]

/-- Query head 1 turned and scaled. -/
theorem turn_q1 (C S x : FVec Ideal S256x128 .f32) (r : Fin 256) (n : Fin 128) :
    k0_pay36 (F := Ideal) C S k0_pay9 x (ix2 r n)
      = turned (fun n => x (ix2 r n)) (fun n => C (ix2 r n)) (fun n => S (ix2 r n)) n * scale := by
  have hf := first_at r n
  have hc := choose_other (fun n => x (ix2 r n)) n
  unfold turned
  beta_reduce at hc ⊢
  rw [← hc, ← hf]
  pointwise [k0_pay36]

/-- Query head 2 turned and scaled. -/
theorem turn_q2 (C S x : FVec Ideal S256x128 .f32) (r : Fin 256) (n : Fin 128) :
    k0_pay40 (F := Ideal) C S k0_pay9 x (ix2 r n)
      = turned (fun n => x (ix2 r n)) (fun n => C (ix2 r n)) (fun n => S (ix2 r n)) n * scale := by
  have hf := first_at r n
  have hc := choose_other (fun n => x (ix2 r n)) n
  unfold turned
  beta_reduce at hc ⊢
  rw [← hc, ← hf]
  pointwise [k0_pay40]

/-- Query head 3 turned and scaled. -/
theorem turn_q3 (C S x : FVec Ideal S256x128 .f32) (r : Fin 256) (n : Fin 128) :
    k0_pay42 (F := Ideal) C S k0_pay9 x (ix2 r n)
      = turned (fun n => x (ix2 r n)) (fun n => C (ix2 r n)) (fun n => S (ix2 r n)) n * scale := by
  have hf := first_at r n
  have hc := choose_other (fun n => x (ix2 r n)) n
  unfold turned
  beta_reduce at hc ⊢
  rw [← hc, ← hf]
  pointwise [k0_pay42]

/-- Query head 4 turned and scaled. -/
theorem turn_q4 (C S x : FVec Ideal S256x128 .f32) (r : Fin 256) (n : Fin 128) :
    k0_pay44 (F := Ideal) C S k0_pay9 x (ix2 r n)
      = turned (fun n => x (ix2 r n)) (fun n => C (ix2 r n)) (fun n => S (ix2 r n)) n * scale := by
  have hf := first_at r n
  have hc := choose_other (fun n => x (ix2 r n)) n
  unfold turned
  beta_reduce at hc ⊢
  rw [← hc, ← hf]
  pointwise [k0_pay44]

/-- Query head 5 turned and scaled. -/
theorem turn_q5 (C S x : FVec Ideal S256x128 .f32) (r : Fin 256) (n : Fin 128) :
    k0_pay46 (F := Ideal) C S k0_pay9 x (ix2 r n)
      = turned (fun n => x (ix2 r n)) (fun n => C (ix2 r n)) (fun n => S (ix2 r n)) n * scale := by
  have hf := first_at r n
  have hc := choose_other (fun n => x (ix2 r n)) n
  unfold turned
  beta_reduce at hc ⊢
  rw [← hc, ← hf]
  pointwise [k0_pay46]

/-- Query head 6 turned and scaled. -/
theorem turn_q6 (C S x : FVec Ideal S256x128 .f32) (r : Fin 256) (n : Fin 128) :
    k0_pay48 (F := Ideal) C S k0_pay9 x (ix2 r n)
      = turned (fun n => x (ix2 r n)) (fun n => C (ix2 r n)) (fun n => S (ix2 r n)) n * scale := by
  have hf := first_at r n
  have hc := choose_other (fun n => x (ix2 r n)) n
  unfold turned
  beta_reduce at hc ⊢
  rw [← hc, ← hf]
  pointwise [k0_pay48]

/-- Query head 7 turned and scaled. -/
theorem turn_q7 (C S x : FVec Ideal S256x128 .f32) (r : Fin 256) (n : Fin 128) :
    k0_pay50 (F := Ideal) C S k0_pay9 x (ix2 r n)
      = turned (fun n => x (ix2 r n)) (fun n => C (ix2 r n)) (fun n => S (ix2 r n)) n * scale := by
  have hf := first_at r n
  have hc := choose_other (fun n => x (ix2 r n)) n
  unfold turned
  beta_reduce at hc ⊢
  rw [← hc, ← hf]
  pointwise [k0_pay50]

/-- Key head 0 turned. -/
theorem turn_k0 (C S x : FVec Ideal S256x128 .f32) (r : Fin 256) (n : Fin 128) :
    k0_pay35 (F := Ideal) C S k0_pay9 x (ix2 r n)
      = turned (fun n => x (ix2 r n)) (fun n => C (ix2 r n)) (fun n => S (ix2 r n)) n := by
  have hf := first_at r n
  have hc := choose_other (fun n => x (ix2 r n)) n
  unfold turned
  beta_reduce at hc ⊢
  rw [← hc, ← hf]
  pointwise [k0_pay35]

/-- Key head 1 turned. -/
theorem turn_k1 (C S x : FVec Ideal S256x128 .f32) (r : Fin 256) (n : Fin 128) :
    k0_pay39 (F := Ideal) (k0_pay37 C x) (k0_pay38 S k0_pay9 x) (ix2 r n)
      = turned (fun n => x (ix2 r n)) (fun n => C (ix2 r n)) (fun n => S (ix2 r n)) n := by
  have hf := first_at r n
  have hc := choose_other (fun n => x (ix2 r n)) n
  unfold turned
  beta_reduce at hc ⊢
  rw [← hc, ← hf]
  pointwise [k0_pay37, k0_pay38, k0_pay39]

/-- Key head 2 turned. -/
theorem turn_k2 (C S x : FVec Ideal S256x128 .f32) (r : Fin 256) (n : Fin 128) :
    k0_pay41 (F := Ideal) C S k0_pay9 x (ix2 r n)
      = turned (fun n => x (ix2 r n)) (fun n => C (ix2 r n)) (fun n => S (ix2 r n)) n := by
  have hf := first_at r n
  have hc := choose_other (fun n => x (ix2 r n)) n
  unfold turned
  beta_reduce at hc ⊢
  rw [← hc, ← hf]
  pointwise [k0_pay41]

/-- Key head 3 turned. -/
theorem turn_k3 (C S x : FVec Ideal S256x128 .f32) (r : Fin 256) (n : Fin 128) :
    k0_pay43 (F := Ideal) C S k0_pay9 x (ix2 r n)
      = turned (fun n => x (ix2 r n)) (fun n => C (ix2 r n)) (fun n => S (ix2 r n)) n := by
  have hf := first_at r n
  have hc := choose_other (fun n => x (ix2 r n)) n
  unfold turned
  beta_reduce at hc ⊢
  rw [← hc, ← hf]
  pointwise [k0_pay43]

/-- Key head 4 turned. -/
theorem turn_k4 (C S x : FVec Ideal S256x128 .f32) (r : Fin 256) (n : Fin 128) :
    k0_pay45 (F := Ideal) C S k0_pay9 x (ix2 r n)
      = turned (fun n => x (ix2 r n)) (fun n => C (ix2 r n)) (fun n => S (ix2 r n)) n := by
  have hf := first_at r n
  have hc := choose_other (fun n => x (ix2 r n)) n
  unfold turned
  beta_reduce at hc ⊢
  rw [← hc, ← hf]
  pointwise [k0_pay45]

/-- Key head 5 turned. -/
theorem turn_k5 (C S x : FVec Ideal S256x128 .f32) (r : Fin 256) (n : Fin 128) :
    k0_pay47 (F := Ideal) C S k0_pay9 x (ix2 r n)
      = turned (fun n => x (ix2 r n)) (fun n => C (ix2 r n)) (fun n => S (ix2 r n)) n := by
  have hf := first_at r n
  have hc := choose_other (fun n => x (ix2 r n)) n
  unfold turned
  beta_reduce at hc ⊢
  rw [← hc, ← hf]
  pointwise [k0_pay47]

/-- Key head 6 turned. -/
theorem turn_k6 (C S x : FVec Ideal S256x128 .f32) (r : Fin 256) (n : Fin 128) :
    k0_pay49 (F := Ideal) C S k0_pay9 x (ix2 r n)
      = turned (fun n => x (ix2 r n)) (fun n => C (ix2 r n)) (fun n => S (ix2 r n)) n := by
  have hf := first_at r n
  have hc := choose_other (fun n => x (ix2 r n)) n
  unfold turned
  beta_reduce at hc ⊢
  rw [← hc, ← hf]
  pointwise [k0_pay49]

/-- Key head 7 turned. -/
theorem turn_k7 (C S x : FVec Ideal S256x128 .f32) (r : Fin 256) (n : Fin 128) :
    k0_pay51 (F := Ideal) C S k0_pay9 x (ix2 r n)
      = turned (fun n => x (ix2 r n)) (fun n => C (ix2 r n)) (fun n => S (ix2 r n)) n := by
  have hf := first_at r n
  have hc := choose_other (fun n => x (ix2 r n)) n
  unfold turned
  beta_reduce at hc ⊢
  rw [← hc, ← hf]
  pointwise [k0_pay51]

/-- Head 0 of the queries, normalized. -/
theorem norm_q0 (v : FVec Ideal S256x1024 .f32) (g : Vec Ideal S1x128 .f32) (r : Fin 256) (n : Fin 128) :
    k0_pay10 (F := Ideal) v g (ix2 r n) = rmsK (fun n : Fin 128 => v (ix2 r ⟨0 + n.val, by omega⟩)) (fun n => g (ix2 0 n)) part n := by
  unfold rmsK
  pointwise [k0_pay10]

/-- Head 1 of the queries, normalized. -/
theorem norm_q1 (v : FVec Ideal S256x1024 .f32) (g : Vec Ideal S1x128 .f32) (r : Fin 256) (n : Fin 128) :
    k0_pay11 (F := Ideal) v g (ix2 r n) = rmsK (fun n : Fin 128 => v (ix2 r ⟨128 + n.val, by omega⟩)) (fun n => g (ix2 0 n)) part n := by
  unfold rmsK
  pointwise [k0_pay11]

/-- Head 2 of the queries, normalized. -/
theorem norm_q2 (v : FVec Ideal S256x1024 .f32) (g : Vec Ideal S1x128 .f32) (r : Fin 256) (n : Fin 128) :
    k0_pay12 (F := Ideal) v g (ix2 r n) = rmsK (fun n : Fin 128 => v (ix2 r ⟨256 + n.val, by omega⟩)) (fun n => g (ix2 0 n)) part n := by
  unfold rmsK
  pointwise [k0_pay12]

/-- Head 3 of the queries, normalized. -/
theorem norm_q3 (v : FVec Ideal S256x1024 .f32) (g : Vec Ideal S1x128 .f32) (r : Fin 256) (n : Fin 128) :
    k0_pay13 (F := Ideal) v g (ix2 r n) = rmsK (fun n : Fin 128 => v (ix2 r ⟨384 + n.val, by omega⟩)) (fun n => g (ix2 0 n)) part n := by
  unfold rmsK
  pointwise [k0_pay13]

/-- Head 4 of the queries, normalized. -/
theorem norm_q4 (v : FVec Ideal S256x1024 .f32) (g : Vec Ideal S1x128 .f32) (r : Fin 256) (n : Fin 128) :
    k0_pay14 (F := Ideal) v g (ix2 r n) = rmsK (fun n : Fin 128 => v (ix2 r ⟨512 + n.val, by omega⟩)) (fun n => g (ix2 0 n)) part n := by
  unfold rmsK
  pointwise [k0_pay14]

/-- Head 5 of the queries, normalized. -/
theorem norm_q5 (v : FVec Ideal S256x1024 .f32) (g : Vec Ideal S1x128 .f32) (r : Fin 256) (n : Fin 128) :
    k0_pay15 (F := Ideal) v g (ix2 r n) = rmsK (fun n : Fin 128 => v (ix2 r ⟨640 + n.val, by omega⟩)) (fun n => g (ix2 0 n)) part n := by
  unfold rmsK
  pointwise [k0_pay15]

/-- Head 6 of the queries, normalized. -/
theorem norm_q6 (v : FVec Ideal S256x1024 .f32) (g : Vec Ideal S1x128 .f32) (r : Fin 256) (n : Fin 128) :
    k0_pay16 (F := Ideal) v g (ix2 r n) = rmsK (fun n : Fin 128 => v (ix2 r ⟨768 + n.val, by omega⟩)) (fun n => g (ix2 0 n)) part n := by
  unfold rmsK
  pointwise [k0_pay16]

/-- Head 7 of the queries, normalized. -/
theorem norm_q7 (v : FVec Ideal S256x1024 .f32) (g : Vec Ideal S1x128 .f32) (r : Fin 256) (n : Fin 128) :
    k0_pay17 (F := Ideal) v g (ix2 r n) = rmsK (fun n : Fin 128 => v (ix2 r ⟨896 + n.val, by omega⟩)) (fun n => g (ix2 0 n)) part n := by
  unfold rmsK
  pointwise [k0_pay17]

/-- Head 0 of the keys, normalized. -/
theorem norm_k0 (K : FVec Ideal S256x128 .f32) (T : FVec Ideal S256x1024 .f32) (g : Vec Ideal S1x128 .f32) (r : Fin 256) (n : Fin 128) :
    k0_pay18 (F := Ideal) K T g (ix2 r n) = rmsK (fun n : Fin 128 => T (ix2 r ⟨0 + n.val, by omega⟩) + K (ix2 r n)) (fun n => g (ix2 0 n)) part n := by
  unfold rmsK
  pointwise [k0_pay18]

/-- Head 1 of the keys, normalized. -/
theorem norm_k1 (K : FVec Ideal S256x128 .f32) (T : FVec Ideal S256x1024 .f32) (g : Vec Ideal S1x128 .f32) (r : Fin 256) (n : Fin 128) :
    k0_pay21 (F := Ideal) (k0_pay19 g) (k0_pay20 K T) (ix2 r n) = rmsK (fun n : Fin 128 => T (ix2 r ⟨128 + n.val, by omega⟩) + K (ix2 r n)) (fun n => g (ix2 0 n)) part n := by
  unfold rmsK
  pointwise [k0_pay21, k0_pay19, k0_pay20]

/-- Head 2 of the keys, normalized. -/
theorem norm_k2 (K : FVec Ideal S256x128 .f32) (T : FVec Ideal S256x1024 .f32) (g : Vec Ideal S1x128 .f32) (r : Fin 256) (n : Fin 128) :
    k0_pay22 (F := Ideal) K T g (ix2 r n) = rmsK (fun n : Fin 128 => T (ix2 r ⟨256 + n.val, by omega⟩) + K (ix2 r n)) (fun n => g (ix2 0 n)) part n := by
  unfold rmsK
  pointwise [k0_pay22]

/-- Head 3 of the keys, normalized. -/
theorem norm_k3 (K : FVec Ideal S256x128 .f32) (T : FVec Ideal S256x1024 .f32) (g : Vec Ideal S1x128 .f32) (r : Fin 256) (n : Fin 128) :
    k0_pay23 (F := Ideal) K T g (ix2 r n) = rmsK (fun n : Fin 128 => T (ix2 r ⟨384 + n.val, by omega⟩) + K (ix2 r n)) (fun n => g (ix2 0 n)) part n := by
  unfold rmsK
  pointwise [k0_pay23]

/-- Head 4 of the keys, normalized. -/
theorem norm_k4 (K : FVec Ideal S256x128 .f32) (T : FVec Ideal S256x1024 .f32) (g : Vec Ideal S1x128 .f32) (r : Fin 256) (n : Fin 128) :
    k0_pay27 (F := Ideal) (k0_pay24 K T) (k0_pay25 g) (k0_pay26 K T) (ix2 r n) = rmsK (fun n : Fin 128 => T (ix2 r ⟨512 + n.val, by omega⟩) + K (ix2 r n)) (fun n => g (ix2 0 n)) part n := by
  unfold rmsK
  pointwise [k0_pay27, k0_pay24, k0_pay25, k0_pay26]

/-- Head 5 of the keys, normalized. -/
theorem norm_k5 (K : FVec Ideal S256x128 .f32) (T : FVec Ideal S256x1024 .f32) (g : Vec Ideal S1x128 .f32) (r : Fin 256) (n : Fin 128) :
    k0_pay28 (F := Ideal) K T g (ix2 r n) = rmsK (fun n : Fin 128 => T (ix2 r ⟨640 + n.val, by omega⟩) + K (ix2 r n)) (fun n => g (ix2 0 n)) part n := by
  unfold rmsK
  pointwise [k0_pay28]

/-- Head 6 of the keys, normalized. -/
theorem norm_k6 (K : FVec Ideal S256x128 .f32) (T : FVec Ideal S256x1024 .f32) (g : Vec Ideal S1x128 .f32) (r : Fin 256) (n : Fin 128) :
    k0_pay29 (F := Ideal) K T g (ix2 r n) = rmsK (fun n : Fin 128 => T (ix2 r ⟨768 + n.val, by omega⟩) + K (ix2 r n)) (fun n => g (ix2 0 n)) part n := by
  unfold rmsK
  pointwise [k0_pay29]

/-- Head 7 of the keys, normalized. -/
theorem norm_k7 (K : FVec Ideal S256x128 .f32) (T : FVec Ideal S256x1024 .f32) (g : Vec Ideal S1x128 .f32) (r : Fin 256) (n : Fin 128) :
    k0_pay33 (F := Ideal) (k0_pay30 K T) (k0_pay31 g) (k0_pay32 K T) (ix2 r n) = rmsK (fun n : Fin 128 => T (ix2 r ⟨896 + n.val, by omega⟩) + K (ix2 r n)) (fun n => g (ix2 0 n)) part n := by
  unfold rmsK
  pointwise [k0_pay33, k0_pay30, k0_pay31, k0_pay32]

end Cert.Mla

end
-- ==== Proof.MlRowMath.lean ====
/-
  The heads' preparation: the two ways of normalizing a row agree, and so do the two ways of turning a head.
-/
module

public import proofs.«01_k».proof.Proof.MlHeads

@[expose] public section

noncomputable section

namespace Cert.Mla

open Idealize.ShloMosaic

/-- A mean by a factor is the mean by a division, the one the other's inverse. -/
theorem rms_eq {n : ℕ} (x g : Fin n → EReal) (c N : EReal) (r : ℝ) (hr : r ≠ 0) (hN : N = (r : EReal)) (hc : c = ((r⁻¹ : ℝ) : EReal)) (k : Fin n) :
    rmsK x g c k = rmsR x g N k := by
  unfold rmsK rmsR
  rw [hN, hc, Ideal.div_coe hr, one_div]

/-- The word for 256. -/
theorem w256 : Ideal.ofBits FTy.f32 0x43800000#32 = ((256 : ℝ) : EReal) := by
  simp [Ideal.ofBits, Ideal.ieee, -EReal.coe_mul]; norm_num

/-- The word for its inverse. -/
theorem i256 : Ideal.ofBits FTy.f32 0x3B800000#32 = (((256 : ℝ)⁻¹ : ℝ) : EReal) := by
  simp [Ideal.ofBits, Ideal.ieee, -EReal.coe_mul]; norm_num

/-- The word for 128. -/
theorem w128 : Ideal.ofBits FTy.f32 0x43000000#32 = ((128 : ℝ) : EReal) := by
  simp [Ideal.ofBits, Ideal.ieee, -EReal.coe_mul]; norm_num

/-- The word for its inverse. -/
theorem i128 : Ideal.ofBits FTy.f32 0x3C000000#32 = (((128 : ℝ)⁻¹ : ℝ) : EReal) := by
  simp [Ideal.ofBits, Ideal.ieee, -EReal.coe_mul]; norm_num

/-- The word for 96. -/
theorem w96 : Ideal.ofBits FTy.f32 0x42C00000#32 = ((96 : ℝ) : EReal) := by
  simp [Ideal.ofBits, Ideal.ieee, -EReal.coe_mul]; norm_num

/-- The word for 2. -/
theorem w2 : Ideal.ofBits FTy.f32 0x40000000#32 = ((2 : ℝ) : EReal) := by
  simp [Ideal.ofBits, Ideal.ieee, -EReal.coe_mul]; norm_num

/-- The named part is a ninety-sixth. -/
theorem part_eq : part = (((96 : ℝ)⁻¹ : ℝ) : EReal) := IdealRules.named_const.ideal_named_scalar _ _ _ _ rfl

/-- The named scale is the inverse of the root of 96 times the logarithm of 2. -/
theorem scale_eq : scale = (((Real.sqrt 96)⁻¹ * (Real.log 2)⁻¹ : ℝ) : EReal) := IdealRules.named_const.ideal_named_scalar _ _ _ _ rfl

/-- The queries' columns. -/
theorem rms_q (x g : Fin 256 → EReal) (k : Fin 256) :
    rmsK x g (Ideal.ofBits FTy.f32 0x3B800000#32) k = rmsR x g (Ideal.ofBits FTy.f32 0x43800000#32) k :=
  rms_eq x g _ _ 256 (by norm_num) w256 i256 k

/-- The keys' and values' columns. -/
theorem rms_kv (x g : Fin 128 → EReal) (k : Fin 128) :
    rmsK x g (Ideal.ofBits FTy.f32 0x3C000000#32) k = rmsR x g (Ideal.ofBits FTy.f32 0x43000000#32) k :=
  rms_eq x g _ _ 128 (by norm_num) w128 i128 k

/-- A sum over the lanes is the sum over the columns on them. -/
theorem sum_lanes (x : Fin 96 → EReal) : ∑ n : Fin 128, lanes x n * lanes x n = ∑ n : Fin 96, x n * x n := by
  rw [Fin.sum_univ_add (a := 96) (b := 32) (fun n : Fin (96 + 32) => lanes x n * lanes x n)]
  have h1 : ∀ i : Fin 96, lanes x (Fin.castAdd 32 i) = x i := fun i => dif_pos (show (Fin.castAdd 32 i).val < 96 from i.isLt)
  have h2 : ∀ i : Fin 32, lanes x (Fin.natAdd 96 i) = 0 := fun i => dif_neg (by show ¬ 96 + i.val < 96; omega)
  simp only [h1, h2, mul_zero, Finset.sum_const_zero, add_zero]

/-- A head normalized on its lanes is the head normalized, on its lanes. -/
theorem rms_lanes (x g : Fin 96 → EReal) (n : Fin 128) :
    rmsK (lanes x) (lanes g) part n = lanes (rmsR x g (Ideal.ofBits FTy.f32 0x42C00000#32)) n := by
  unfold rmsK
  rw [sum_lanes]
  by_cases h : n.val < 96
  · have e : ∀ y : Fin 96 → EReal, lanes y n = y ⟨n.val, h⟩ := fun y => dif_pos h
    rw [e, e, e, ← rms_eq x g part _ 96 (by norm_num) w96 part_eq]
    rfl
  · have e : ∀ y : Fin 96 → EReal, lanes y n = 0 := fun y => dif_neg h
    rw [e, e, e, mul_zero]

/-- A head's lanes unturned. -/
theorem turned_none (x : Fin 128 → EReal) (n : Fin 128) : turned x (fun _ => 1) (fun _ => 0) n = x n := by
  unfold turned
  rw [mul_one, mul_zero, add_zero]

/-- A head's lanes turned by a row of the tables are the head turned, on its lanes. -/
theorem turned_lanes (x : Fin 96 → EReal) (a b : Fin 8 → EReal) (n : Fin 128) :
    turned (lanes x) (cosRow a b) (sinRow a b) n = lanes (turned96 x a b) n := by
  unfold turned
  by_cases h64 : n.val < 64
  · have hl : ∀ y : Fin 96 → EReal, lanes y n = y ⟨n.val, by omega⟩ := fun y => dif_pos (by omega)
    rw [hl, hl]
    unfold cosRow sinRow turned96
    rw [if_pos h64, if_pos h64, if_pos (show n.val < 64 from h64), mul_one, mul_zero, add_zero]
  by_cases h72 : n.val < 72
  · have hl : ∀ y : Fin 96 → EReal, lanes y n = y ⟨n.val, by omega⟩ := fun y => dif_pos (by omega)
    have ho : (other n).val = n.val + 8 := by
      unfold other; rw [if_pos (by omega)]; show (n.val + 8) % 128 = n.val + 8; omega
    have hp : lanes x (other n) = x ⟨n.val + 8, by omega⟩ := (dif_pos (by omega)).trans (congrArg x (Fin.ext ho))
    rw [hl, hl, hp]
    unfold cosRow sinRow turned96
    rw [if_neg h64, if_neg h64, dif_pos h72, dif_pos h72, if_neg (show ¬ n.val < 64 from h64), dif_pos (show n.val < 72 from h72), mul_neg, sub_eq_add_neg]
  by_cases h80 : n.val < 80
  · have hl : ∀ y : Fin 96 → EReal, lanes y n = y ⟨n.val, by omega⟩ := fun y => dif_pos (by omega)
    have ho : (other n).val = n.val - 8 := by
      unfold other; rw [if_neg (by omega)]; show (n.val + 120) % 128 = n.val - 8; omega
    have hp : lanes x (other n) = x ⟨n.val - 8, by omega⟩ := (dif_pos (by omega)).trans (congrArg x (Fin.ext ho))
    rw [hl, hl, hp]
    unfold cosRow sinRow turned96
    rw [if_neg h64, if_neg h64, dif_neg h72, dif_neg h72, dif_pos h80, dif_pos h80, if_neg (show ¬ n.val < 64 from h64),
      dif_neg (show ¬ n.val < 72 from h72), dif_pos (show n.val < 80 from h80), add_comm]
  by_cases h88 : n.val < 88
  · have hl : ∀ y : Fin 96 → EReal, lanes y n = y ⟨n.val, by omega⟩ := fun y => dif_pos (by omega)
    have ho : (other n).val = n.val + 8 := by
      unfold other; rw [if_pos (by omega)]; show (n.val + 8) % 128 = n.val + 8; omega
    have hp : lanes x (other n) = x ⟨n.val + 8, by omega⟩ := (dif_pos (by omega)).trans (congrArg x (Fin.ext ho))
    rw [hl, hl, hp]
    unfold cosRow sinRow turned96
    rw [if_neg h64, if_neg h64, dif_neg h72, dif_neg h72, dif_neg h80, dif_neg h80, dif_pos h88, dif_pos h88, if_neg (show ¬ n.val < 64 from h64),
      dif_neg (show ¬ n.val < 72 from h72), dif_neg (show ¬ n.val < 80 from h80), dif_pos (show n.val < 88 from h88), mul_neg, sub_eq_add_neg]
  by_cases h96 : n.val < 96
  · have hl : ∀ y : Fin 96 → EReal, lanes y n = y ⟨n.val, by omega⟩ := fun y => dif_pos (by omega)
    have ho : (other n).val = n.val - 8 := by
      unfold other; rw [if_neg (by omega)]; show (n.val + 120) % 128 = n.val - 8; omega
    have hp : lanes x (other n) = x ⟨n.val - 8, by omega⟩ := (dif_pos (by omega)).trans (congrArg x (Fin.ext ho))
    rw [hl, hl, hp]
    unfold cosRow sinRow turned96
    rw [if_neg h64, if_neg h64, dif_neg h72, dif_neg h72, dif_neg h80, dif_neg h80, dif_neg h88, dif_neg h88, dif_pos h96, dif_pos h96,
      if_neg (show ¬ n.val < 64 from h64), dif_neg (show ¬ n.val < 72 from h72), dif_neg (show ¬ n.val < 80 from h80),
      dif_neg (show ¬ n.val < 88 from h88), add_comm]
  · have hl : ∀ y : Fin 96 → EReal, lanes y n = 0 := fun y => dif_neg h96
    rw [hl, hl]
    unfold sinRow
    rw [if_neg h64, dif_neg h72, dif_neg h80, dif_neg h88, dif_neg h96, mul_zero, zero_mul, add_zero]

/-- A row's head on its lanes, turned by the tables. -/
theorem turned_eq (x : Fin 96 → EReal) (a b : Fin 4096 → Fin 8 → EReal) (l : Fin 4352) (n : Fin 128) :
    turned (lanes x) (cosT a b l) (sinT a b l) n = lanes (rotated x a b l) n := by
  by_cases h : l.val < 256
  · have hc : cosT a b l = fun _ => 1 := funext fun n => dif_pos h
    have hs : sinT a b l = fun _ => 0 := funext fun n => dif_pos h
    have hr : rotated x a b l = x := funext fun n => dif_pos h
    rw [hc, hs, hr, turned_none]
  · have hc : cosT a b l = cosRow (a ⟨l.val - 256, by omega⟩) (b ⟨l.val - 256, by omega⟩) := funext fun n => dif_neg h
    have hs : sinT a b l = sinRow (a ⟨l.val - 256, by omega⟩) (b ⟨l.val - 256, by omega⟩) := funext fun n => dif_neg h
    have hr : rotated x a b l = turned96 x (a ⟨l.val - 256, by omega⟩) (b ⟨l.val - 256, by omega⟩) := funext fun n => dif_neg h
    rw [hc, hs, hr, turned_lanes]

/-- The queries' divisor. -/
def divisor : EReal := Ideal.sqrt (Ideal.ofBits FTy.f32 0x42C00000#32) * Ideal.log (Ideal.ofBits FTy.f32 0x40000000#32)

/-- The queries' factor is a division by it. -/
theorem scaled (x : EReal) : x * scale = Ideal.div x divisor := by
  have hs : Real.sqrt 96 ≠ 0 := by positivity
  have hl : Real.log 2 ≠ 0 := (Real.log_pos (by norm_num)).ne'
  have hd : divisor = ((Real.sqrt 96 * Real.log 2 : ℝ) : EReal) := by
    unfold divisor
    rw [w96, w2, Ideal.sqrt_coe, EReal.coe_mul]
    rw [if_neg (by norm_num)]
    congr 1
    show (if (2 : ℝ) ≤ 0 then (⊥ : EReal) else (Real.log 2 : ℝ)) = _
    rw [if_neg (by norm_num)]
  rw [hd, Ideal.div_coe (mul_ne_zero hs hl), scale_eq, one_div, mul_inv]

/-- So is it on the lanes. -/
theorem scaled_lanes (x : Fin 96 → EReal) (n : Fin 128) : lanes x n * scale = lanes (fun n => Ideal.div (x n) divisor) n := by
  by_cases h : n.val < 96
  · have e : ∀ y : Fin 96 → EReal, lanes y n = y ⟨n.val, h⟩ := fun y => dif_pos h
    rw [e, e, scaled]
  · have e : ∀ y : Fin 96 → EReal, lanes y n = 0 := fun y => dif_neg h
    rw [e, e, zero_mul]

end Cert.Mla

end
-- ==== Proof.MlBlock.lean ====
/-
  The heads' preparation: what one grid point leaves in its three output blocks.
-/
module

public import proofs.«01_k».proof.Proof.MlHeads

@[expose] public section

set_option maxRecDepth 16384

noncomputable section

namespace Cert.Mla

open Cert.Kernel5Ideal Cert.Kernel5Ideal.Gen Idealize.ShloMosaic

/-- A row's query columns, normalized, against the queries' weights. -/
def projQ (X : Fin 512 → EReal) (g : Fin 256 → EReal) (W : Fin 256 → Fin 1024 → EReal) (e : Fin 1024) : EReal :=
  ∑ k : Fin 256, rmsK (fun j : Fin 256 => X ⟨j.val, by omega⟩) g (Ideal.ofBits FTy.f32 0x3B800000#32) k * W k e

/-- A row's key and value columns, normalized, against weights of theirs. -/
def projKV (X : Fin 512 → EReal) (g : Fin 128 → EReal) (W : Fin 128 → Fin 1024 → EReal) (e : Fin 1024) : EReal :=
  ∑ k : Fin 128, rmsK (fun j : Fin 128 => X ⟨256 + j.val, by omega⟩) g (Ideal.ofBits FTy.f32 0x3C000000#32) k * W k e

/-- A row of query heads: each normalized, turned and scaled. -/
def headQ (P : Fin 1024 → EReal) (g C S : Fin 128 → EReal) (e : Fin 1024) : EReal :=
  turned (rmsK (fun n : Fin 128 => P ⟨e.val / 128 * 128 + n.val, by omega⟩) g part) C S ⟨e.val % 128, by omega⟩ * scale

/-- A row of key heads: each with the shared columns, normalized and turned. -/
def headK (P : Fin 1024 → EReal) (K g C S : Fin 128 → EReal) (e : Fin 1024) : EReal :=
  turned (rmsK (fun n : Fin 128 => P ⟨e.val / 128 * 128 + n.val, by omega⟩ + K n) g part) C S ⟨e.val % 128, by omega⟩

/-- A row of value heads, a column of ones beside each. -/
def headV (P : Fin 1024 → EReal) (e : Fin 1024) : EReal := P e + if e.val % 128 = 64 then 1 else 0

/-- The projected queries of a tile at an index. -/
theorem projQ_at (x0 : Vec Ideal S256x512 .f32) (x1 : Vec Ideal S1x256 .f32) (x2 : Vec Ideal S256x1024 .bf16) (r : Fin 256) (e : Fin 1024) :
    k0_pay4 (F := Ideal) x0 x1 x2 (ix2 r e) = projQ (fun j => x0 (ix2 r j)) (fun k => x1 (ix2 0 k)) (fun k e => x2 (ix2 k e)) e := by
  unfold projQ rmsK
  pointwise [k0_pay4, k0_pay1]

/-- The projected keys of a tile at an index. -/
theorem projK_at (x0 : Vec Ideal S256x512 .f32) (x1 : Vec Ideal S1x128 .f32) (x2 : Vec Ideal S128x1024 .bf16) (r : Fin 256) (e : Fin 1024) :
    k0_pay5 (F := Ideal) x0 x1 x2 (ix2 r e) = projKV (fun j => x0 (ix2 r j)) (fun k => x1 (ix2 0 k)) (fun k e => x2 (ix2 k e)) e := by
  unfold projKV rmsK
  pointwise [k0_pay5, k0_pay3, k0_pay1]

/-- The column of ones, by the lane's number. -/
theorem ones_at (e : Fin 1024) :
    Scalar.select (IntOp.cmpi CmpIPredicate.eq (IntOp.andi (BitVec.ofNat 32 e.val) 127#32) 64#32) (1 : EReal) 0
      = if e.val % 128 = 64 then 1 else 0 := by
  have h : ∀ e : Fin 1024, IntOp.cmpi CmpIPredicate.eq (IntOp.andi (BitVec.ofNat 32 e.val) 127#32) 64#32 = if e.val % 128 = 64 then 1#1 else 0#1 := by
    decide +kernel
  rw [h e]
  split <;> rfl

/-- The values of a tile at an index. -/
theorem headV_at (x0 : Vec Ideal S256x512 .f32) (x1 : Vec Ideal S1x128 .f32) (x2 : Vec Ideal S128x1024 .bf16) (r : Fin 256) (e : Fin 1024) :
    k0_pay6 (F := Ideal) (k0_pay3 x0 x1) x2 (ix2 r e) = headV (projKV (fun j => x0 (ix2 r j)) (fun k => x1 (ix2 0 k)) (fun k e => x2 (ix2 k e))) e := by
  unfold headV projKV rmsK
  rw [← ones_at e]
  pointwise [k0_pay6, k0_pay3, k0_pay1]

/-- The shared key columns of a tile at an index. -/
theorem shared_at (x0 : Vec Ideal S256x512 .f32) (r : Fin 256) (n : Fin 128) :
    k0_pay2 (F := Ideal) x0 (ix2 r n) = x0 (ix2 r ⟨384 + n.val, by omega⟩) := by
  pointwise [k0_pay2, k0_pay1]

/-- The tile of cosines is read as it is. -/
theorem cos_at (x : Vec Ideal S256x128 .f32) (r : Fin 256) (n : Fin 128) : k0_pay7 (F := Ideal) x (ix2 r n) = x (ix2 r n) := by
  pointwise [k0_pay7]

/-- The tile of signed sines is read as it is. -/
theorem sin_at (x : Vec Ideal S256x128 .f32) (r : Fin 256) (n : Fin 128) : k0_pay8 (F := Ideal) x (ix2 r n) = x (ix2 r n) := by
  pointwise [k0_pay8]

/-- Query head 0 of a tile, at an index. -/
theorem pieceQ0 (C S : Vec Ideal S256x128 .f32) (T : FVec Ideal S256x1024 .f32) (g : Vec Ideal S1x128 .f32) (r : Fin 256) (n : Fin 128) :
    k0_pay34 (F := Ideal) (k0_pay7 C) (k0_pay8 S) k0_pay9 (k0_pay10 T g) (ix2 r n)
      = headQ (fun e => T (ix2 r e)) (fun n => g (ix2 0 n)) (fun n => C (ix2 r n)) (fun n => S (ix2 r n)) ⟨0 + n.val, by omega⟩ := by
  have h1 : (0 + n.val) / 128 * 128 = 0 := by omega
  have h2 : (0 + n.val) % 128 = n.val := by omega
  rw [turn_q0]
  unfold headQ
  simp only [h1, h2, norm_q0, cos_at, sin_at]

/-- Query head 1 of a tile, at an index. -/
theorem pieceQ1 (C S : Vec Ideal S256x128 .f32) (T : FVec Ideal S256x1024 .f32) (g : Vec Ideal S1x128 .f32) (r : Fin 256) (n : Fin 128) :
    k0_pay36 (F := Ideal) (k0_pay7 C) (k0_pay8 S) k0_pay9 (k0_pay11 T g) (ix2 r n)
      = headQ (fun e => T (ix2 r e)) (fun n => g (ix2 0 n)) (fun n => C (ix2 r n)) (fun n => S (ix2 r n)) ⟨128 + n.val, by omega⟩ := by
  have h1 : (128 + n.val) / 128 * 128 = 128 := by omega
  have h2 : (128 + n.val) % 128 = n.val := by omega
  rw [turn_q1]
  unfold headQ
  simp only [h1, h2, norm_q1, cos_at, sin_at]

/-- Query head 2 of a tile, at an index. -/
theorem pieceQ2 (C S : Vec Ideal S256x128 .f32) (T : FVec Ideal S256x1024 .f32) (g : Vec Ideal S1x128 .f32) (r : Fin 256) (n : Fin 128) :
    k0_pay40 (F := Ideal) (k0_pay7 C) (k0_pay8 S) k0_pay9 (k0_pay12 T g) (ix2 r n)
      = headQ (fun e => T (ix2 r e)) (fun n => g (ix2 0 n)) (fun n => C (ix2 r n)) (fun n => S (ix2 r n)) ⟨256 + n.val, by omega⟩ := by
  have h1 : (256 + n.val) / 128 * 128 = 256 := by omega
  have h2 : (256 + n.val) % 128 = n.val := by omega
  rw [turn_q2]
  unfold headQ
  simp only [h1, h2, norm_q2, cos_at, sin_at]

/-- Query head 3 of a tile, at an index. -/
theorem pieceQ3 (C S : Vec Ideal S256x128 .f32) (T : FVec Ideal S256x1024 .f32) (g : Vec Ideal S1x128 .f32) (r : Fin 256) (n : Fin 128) :
    k0_pay42 (F := Ideal) (k0_pay7 C) (k0_pay8 S) k0_pay9 (k0_pay13 T g) (ix2 r n)
      = headQ (fun e => T (ix2 r e)) (fun n => g (ix2 0 n)) (fun n => C (ix2 r n)) (fun n => S (ix2 r n)) ⟨384 + n.val, by omega⟩ := by
  have h1 : (384 + n.val) / 128 * 128 = 384 := by omega
  have h2 : (384 + n.val) % 128 = n.val := by omega
  rw [turn_q3]
  unfold headQ
  simp only [h1, h2, norm_q3, cos_at, sin_at]

/-- Query head 4 of a tile, at an index. -/
theorem pieceQ4 (C S : Vec Ideal S256x128 .f32) (T : FVec Ideal S256x1024 .f32) (g : Vec Ideal S1x128 .f32) (r : Fin 256) (n : Fin 128) :
    k0_pay44 (F := Ideal) (k0_pay7 C) (k0_pay8 S) k0_pay9 (k0_pay14 T g) (ix2 r n)
      = headQ (fun e => T (ix2 r e)) (fun n => g (ix2 0 n)) (fun n => C (ix2 r n)) (fun n => S (ix2 r n)) ⟨512 + n.val, by omega⟩ := by
  have h1 : (512 + n.val) / 128 * 128 = 512 := by omega
  have h2 : (512 + n.val) % 128 = n.val := by omega
  rw [turn_q4]
  unfold headQ
  simp only [h1, h2, norm_q4, cos_at, sin_at]

/-- Query head 5 of a tile, at an index. -/
theorem pieceQ5 (C S : Vec Ideal S256x128 .f32) (T : FVec Ideal S256x1024 .f32) (g : Vec Ideal S1x128 .f32) (r : Fin 256) (n : Fin 128) :
    k0_pay46 (F := Ideal) (k0_pay7 C) (k0_pay8 S) k0_pay9 (k0_pay15 T g) (ix2 r n)
      = headQ (fun e => T (ix2 r e)) (fun n => g (ix2 0 n)) (fun n => C (ix2 r n)) (fun n => S (ix2 r n)) ⟨640 + n.val, by omega⟩ := by
  have h1 : (640 + n.val) / 128 * 128 = 640 := by omega
  have h2 : (640 + n.val) % 128 = n.val := by omega
  rw [turn_q5]
  unfold headQ
  simp only [h1, h2, norm_q5, cos_at, sin_at]

/-- Query head 6 of a tile, at an index. -/
theorem pieceQ6 (C S : Vec Ideal S256x128 .f32) (T : FVec Ideal S256x1024 .f32) (g : Vec Ideal S1x128 .f32) (r : Fin 256) (n : Fin 128) :
    k0_pay48 (F := Ideal) (k0_pay7 C) (k0_pay8 S) k0_pay9 (k0_pay16 T g) (ix2 r n)
      = headQ (fun e => T (ix2 r e)) (fun n => g (ix2 0 n)) (fun n => C (ix2 r n)) (fun n => S (ix2 r n)) ⟨768 + n.val, by omega⟩ := by
  have h1 : (768 + n.val) / 128 * 128 = 768 := by omega
  have h2 : (768 + n.val) % 128 = n.val := by omega
  rw [turn_q6]
  unfold headQ
  simp only [h1, h2, norm_q6, cos_at, sin_at]

/-- Query head 7 of a tile, at an index. -/
theorem pieceQ7 (C S : Vec Ideal S256x128 .f32) (T : FVec Ideal S256x1024 .f32) (g : Vec Ideal S1x128 .f32) (r : Fin 256) (n : Fin 128) :
    k0_pay50 (F := Ideal) (k0_pay7 C) (k0_pay8 S) k0_pay9 (k0_pay17 T g) (ix2 r n)
      = headQ (fun e => T (ix2 r e)) (fun n => g (ix2 0 n)) (fun n => C (ix2 r n)) (fun n => S (ix2 r n)) ⟨896 + n.val, by omega⟩ := by
  have h1 : (896 + n.val) / 128 * 128 = 896 := by omega
  have h2 : (896 + n.val) % 128 = n.val := by omega
  rw [turn_q7]
  unfold headQ
  simp only [h1, h2, norm_q7, cos_at, sin_at]

/-- Key head 0 of a tile, at an index. -/
theorem pieceK0 (C S K : Vec Ideal S256x128 .f32) (T : FVec Ideal S256x1024 .f32) (g : Vec Ideal S1x128 .f32) (r : Fin 256) (n : Fin 128) :
    k0_pay35 (F := Ideal) (k0_pay7 C) (k0_pay8 S) k0_pay9 (k0_pay18 K T g) (ix2 r n)
      = headK (fun e => T (ix2 r e)) (fun n => K (ix2 r n)) (fun n => g (ix2 0 n)) (fun n => C (ix2 r n)) (fun n => S (ix2 r n)) ⟨0 + n.val, by omega⟩ := by
  have h1 : (0 + n.val) / 128 * 128 = 0 := by omega
  have h2 : (0 + n.val) % 128 = n.val := by omega
  rw [turn_k0]
  unfold headK
  simp only [h1, h2, norm_k0, cos_at, sin_at]

/-- Key head 1 of a tile, at an index. -/
theorem pieceK1 (C S K : Vec Ideal S256x128 .f32) (T : FVec Ideal S256x1024 .f32) (g : Vec Ideal S1x128 .f32) (r : Fin 256) (n : Fin 128) :
    k0_pay39 (F := Ideal) (k0_pay37 (k0_pay7 C) (k0_pay21 (k0_pay19 g) (k0_pay20 K T))) (k0_pay38 (k0_pay8 S) k0_pay9 (k0_pay21 (k0_pay19 g) (k0_pay20 K T))) (ix2 r n)
      = headK (fun e => T (ix2 r e)) (fun n => K (ix2 r n)) (fun n => g (ix2 0 n)) (fun n => C (ix2 r n)) (fun n => S (ix2 r n)) ⟨128 + n.val, by omega⟩ := by
  have h1 : (128 + n.val) / 128 * 128 = 128 := by omega
  have h2 : (128 + n.val) % 128 = n.val := by omega
  rw [turn_k1]
  unfold headK
  simp only [h1, h2, norm_k1, cos_at, sin_at]

/-- Key head 2 of a tile, at an index. -/
theorem pieceK2 (C S K : Vec Ideal S256x128 .f32) (T : FVec Ideal S256x1024 .f32) (g : Vec Ideal S1x128 .f32) (r : Fin 256) (n : Fin 128) :
    k0_pay41 (F := Ideal) (k0_pay7 C) (k0_pay8 S) k0_pay9 (k0_pay22 K T g) (ix2 r n)
      = headK (fun e => T (ix2 r e)) (fun n => K (ix2 r n)) (fun n => g (ix2 0 n)) (fun n => C (ix2 r n)) (fun n => S (ix2 r n)) ⟨256 + n.val, by omega⟩ := by
  have h1 : (256 + n.val) / 128 * 128 = 256 := by omega
  have h2 : (256 + n.val) % 128 = n.val := by omega
  rw [turn_k2]
  unfold headK
  simp only [h1, h2, norm_k2, cos_at, sin_at]

/-- Key head 3 of a tile, at an index. -/
theorem pieceK3 (C S K : Vec Ideal S256x128 .f32) (T : FVec Ideal S256x1024 .f32) (g : Vec Ideal S1x128 .f32) (r : Fin 256) (n : Fin 128) :
    k0_pay43 (F := Ideal) (k0_pay7 C) (k0_pay8 S) k0_pay9 (k0_pay23 K T g) (ix2 r n)
      = headK (fun e => T (ix2 r e)) (fun n => K (ix2 r n)) (fun n => g (ix2 0 n)) (fun n => C (ix2 r n)) (fun n => S (ix2 r n)) ⟨384 + n.val, by omega⟩ := by
  have h1 : (384 + n.val) / 128 * 128 = 384 := by omega
  have h2 : (384 + n.val) % 128 = n.val := by omega
  rw [turn_k3]
  unfold headK
  simp only [h1, h2, norm_k3, cos_at, sin_at]

/-- Key head 4 of a tile, at an index. -/
theorem pieceK4 (C S K : Vec Ideal S256x128 .f32) (T : FVec Ideal S256x1024 .f32) (g : Vec Ideal S1x128 .f32) (r : Fin 256) (n : Fin 128) :
    k0_pay45 (F := Ideal) (k0_pay7 C) (k0_pay8 S) k0_pay9 (k0_pay27 (k0_pay24 K T) (k0_pay25 g) (k0_pay26 K T)) (ix2 r n)
      = headK (fun e => T (ix2 r e)) (fun n => K (ix2 r n)) (fun n => g (ix2 0 n)) (fun n => C (ix2 r n)) (fun n => S (ix2 r n)) ⟨512 + n.val, by omega⟩ := by
  have h1 : (512 + n.val) / 128 * 128 = 512 := by omega
  have h2 : (512 + n.val) % 128 = n.val := by omega
  rw [turn_k4]
  unfold headK
  simp only [h1, h2, norm_k4, cos_at, sin_at]

/-- Key head 5 of a tile, at an index. -/
theorem pieceK5 (C S K : Vec Ideal S256x128 .f32) (T : FVec Ideal S256x1024 .f32) (g : Vec Ideal S1x128 .f32) (r : Fin 256) (n : Fin 128) :
    k0_pay47 (F := Ideal) (k0_pay7 C) (k0_pay8 S) k0_pay9 (k0_pay28 K T g) (ix2 r n)
      = headK (fun e => T (ix2 r e)) (fun n => K (ix2 r n)) (fun n => g (ix2 0 n)) (fun n => C (ix2 r n)) (fun n => S (ix2 r n)) ⟨640 + n.val, by omega⟩ := by
  have h1 : (640 + n.val) / 128 * 128 = 640 := by omega
  have h2 : (640 + n.val) % 128 = n.val := by omega
  rw [turn_k5]
  unfold headK
  simp only [h1, h2, norm_k5, cos_at, sin_at]

/-- Key head 6 of a tile, at an index. -/
theorem pieceK6 (C S K : Vec Ideal S256x128 .f32) (T : FVec Ideal S256x1024 .f32) (g : Vec Ideal S1x128 .f32) (r : Fin 256) (n : Fin 128) :
    k0_pay49 (F := Ideal) (k0_pay7 C) (k0_pay8 S) k0_pay9 (k0_pay29 K T g) (ix2 r n)
      = headK (fun e => T (ix2 r e)) (fun n => K (ix2 r n)) (fun n => g (ix2 0 n)) (fun n => C (ix2 r n)) (fun n => S (ix2 r n)) ⟨768 + n.val, by omega⟩ := by
  have h1 : (768 + n.val) / 128 * 128 = 768 := by omega
  have h2 : (768 + n.val) % 128 = n.val := by omega
  rw [turn_k6]
  unfold headK
  simp only [h1, h2, norm_k6, cos_at, sin_at]

/-- Key head 7 of a tile, at an index. -/
theorem pieceK7 (C S K : Vec Ideal S256x128 .f32) (T : FVec Ideal S256x1024 .f32) (g : Vec Ideal S1x128 .f32) (r : Fin 256) (n : Fin 128) :
    k0_pay51 (F := Ideal) (k0_pay7 C) (k0_pay8 S) k0_pay9 (k0_pay33 (k0_pay30 K T) (k0_pay31 g) (k0_pay32 K T)) (ix2 r n)
      = headK (fun e => T (ix2 r e)) (fun n => K (ix2 r n)) (fun n => g (ix2 0 n)) (fun n => C (ix2 r n)) (fun n => S (ix2 r n)) ⟨896 + n.val, by omega⟩ := by
  have h1 : (896 + n.val) / 128 * 128 = 896 := by omega
  have h2 : (896 + n.val) % 128 = n.val := by omega
  rw [turn_k7]
  unfold headK
  simp only [h1, h2, norm_k7, cos_at, sin_at]

variable (x0 : Vec Ideal S256x512 .f32) (x1 : Vec Ideal S1x256 .f32) (x2 : Vec Ideal S256x1024 .bf16) (x3 : Vec Ideal S1x128 .f32)
  (x4 x5 : Vec Ideal S128x1024 .bf16) (x6 x7 : Vec Ideal S1x128 .f32) (x8 x9 : Vec Ideal S256x128 .f32)

/-- An entry of the queries' block. -/
theorem blockQ_at (r : Fin 256) (e : Fin 1024) :
    out0_10 (F := Ideal) x0 x1 x2 x3 x4 x5 x6 x7 x8 x9 (ix2 r e) = headQ (projQ (fun j => x0 (ix2 r j)) (fun k => x1 (ix2 0 k)) (fun k e => x2 (ix2 k e))) (fun n => x6 (ix2 0 n)) (fun n => x8 (ix2 r n)) (fun n => x9 (ix2 r n)) e := by
  have hL : out0_10 (F := Ideal) x0 x1 x2 x3 x4 x5 x6 x7 x8 x9 =
      View.canon [⟨r0_13, k0_pay50 (k0_pay7 x8) (k0_pay8 x9) k0_pay9 (k0_pay17 (k0_pay4 x0 x1 x2) x6)⟩,
        ⟨r0_12, k0_pay48 (k0_pay7 x8) (k0_pay8 x9) k0_pay9 (k0_pay16 (k0_pay4 x0 x1 x2) x6)⟩,
        ⟨r0_11, k0_pay46 (k0_pay7 x8) (k0_pay8 x9) k0_pay9 (k0_pay15 (k0_pay4 x0 x1 x2) x6)⟩,
        ⟨r0_10, k0_pay44 (k0_pay7 x8) (k0_pay8 x9) k0_pay9 (k0_pay14 (k0_pay4 x0 x1 x2) x6)⟩,
        ⟨r0_9, k0_pay42 (k0_pay7 x8) (k0_pay8 x9) k0_pay9 (k0_pay13 (k0_pay4 x0 x1 x2) x6)⟩,
        ⟨r0_8, k0_pay40 (k0_pay7 x8) (k0_pay8 x9) k0_pay9 (k0_pay12 (k0_pay4 x0 x1 x2) x6)⟩,
        ⟨r0_7, k0_pay36 (k0_pay7 x8) (k0_pay8 x9) k0_pay9 (k0_pay11 (k0_pay4 x0 x1 x2) x6)⟩,
        ⟨r0_6, k0_pay34 (k0_pay7 x8) (k0_pay8 x9) k0_pay9 (k0_pay10 (k0_pay4 x0 x1 x2) x6)⟩] := by
    unfold_out out0_10
    frame_out
  rw [hL]
  refine (View.canon_apply_of_pieces (fun y : S256x1024.Idx => (headQ (projQ (fun j => x0 (ix2 (y 0) j)) (fun k => x1 (ix2 0 k)) (fun k e => x2 (ix2 k e))) (fun n => x6 (ix2 0 n)) (fun n => x8 (ix2 (y 0) n)) (fun n => x9 (ix2 (y 0) n)) (y 1) : EReal)) _ ?_ _ (cover0_10 _ _ _ _ _ _ _ _ _)).trans rfl
  intro p hp x
  simp only [List.mem_cons, List.not_mem_nil, or_false] at hp
  rcases hp with rfl | rfl | rfl | rfl | rfl | rfl | rfl | rfl
  · obtain ⟨a, n, rfl⟩ : ∃ (a : Fin 256) (n : Fin 128), x = ix2 a n := ⟨x 0, x 1, eq_ix2 x⟩
    have h0 : (r0_13.emb (ix2 a n)) 0 = a := Fin.ext ((ValueKit.rect_emb_unit_val _ _ _ _ _).trans (Nat.zero_add _))
    have h1 : (r0_13.emb (ix2 a n)) 1 = (⟨896 + n.val, by omega⟩ : Fin 1024) := Fin.ext (ValueKit.rect_emb_unit_val _ _ _ _ _)
    refine (pieceQ7 x8 x9 _ _ _ _).trans ?_
    simp only [h0, h1, projQ_at]
  · obtain ⟨a, n, rfl⟩ : ∃ (a : Fin 256) (n : Fin 128), x = ix2 a n := ⟨x 0, x 1, eq_ix2 x⟩
    have h0 : (r0_12.emb (ix2 a n)) 0 = a := Fin.ext ((ValueKit.rect_emb_unit_val _ _ _ _ _).trans (Nat.zero_add _))
    have h1 : (r0_12.emb (ix2 a n)) 1 = (⟨768 + n.val, by omega⟩ : Fin 1024) := Fin.ext (ValueKit.rect_emb_unit_val _ _ _ _ _)
    refine (pieceQ6 x8 x9 _ _ _ _).trans ?_
    simp only [h0, h1, projQ_at]
  · obtain ⟨a, n, rfl⟩ : ∃ (a : Fin 256) (n : Fin 128), x = ix2 a n := ⟨x 0, x 1, eq_ix2 x⟩
    have h0 : (r0_11.emb (ix2 a n)) 0 = a := Fin.ext ((ValueKit.rect_emb_unit_val _ _ _ _ _).trans (Nat.zero_add _))
    have h1 : (r0_11.emb (ix2 a n)) 1 = (⟨640 + n.val, by omega⟩ : Fin 1024) := Fin.ext (ValueKit.rect_emb_unit_val _ _ _ _ _)
    refine (pieceQ5 x8 x9 _ _ _ _).trans ?_
    simp only [h0, h1, projQ_at]
  · obtain ⟨a, n, rfl⟩ : ∃ (a : Fin 256) (n : Fin 128), x = ix2 a n := ⟨x 0, x 1, eq_ix2 x⟩
    have h0 : (r0_10.emb (ix2 a n)) 0 = a := Fin.ext ((ValueKit.rect_emb_unit_val _ _ _ _ _).trans (Nat.zero_add _))
    have h1 : (r0_10.emb (ix2 a n)) 1 = (⟨512 + n.val, by omega⟩ : Fin 1024) := Fin.ext (ValueKit.rect_emb_unit_val _ _ _ _ _)
    refine (pieceQ4 x8 x9 _ _ _ _).trans ?_
    simp only [h0, h1, projQ_at]
  · obtain ⟨a, n, rfl⟩ : ∃ (a : Fin 256) (n : Fin 128), x = ix2 a n := ⟨x 0, x 1, eq_ix2 x⟩
    have h0 : (r0_9.emb (ix2 a n)) 0 = a := Fin.ext ((ValueKit.rect_emb_unit_val _ _ _ _ _).trans (Nat.zero_add _))
    have h1 : (r0_9.emb (ix2 a n)) 1 = (⟨384 + n.val, by omega⟩ : Fin 1024) := Fin.ext (ValueKit.rect_emb_unit_val _ _ _ _ _)
    refine (pieceQ3 x8 x9 _ _ _ _).trans ?_
    simp only [h0, h1, projQ_at]
  · obtain ⟨a, n, rfl⟩ : ∃ (a : Fin 256) (n : Fin 128), x = ix2 a n := ⟨x 0, x 1, eq_ix2 x⟩
    have h0 : (r0_8.emb (ix2 a n)) 0 = a := Fin.ext ((ValueKit.rect_emb_unit_val _ _ _ _ _).trans (Nat.zero_add _))
    have h1 : (r0_8.emb (ix2 a n)) 1 = (⟨256 + n.val, by omega⟩ : Fin 1024) := Fin.ext (ValueKit.rect_emb_unit_val _ _ _ _ _)
    refine (pieceQ2 x8 x9 _ _ _ _).trans ?_
    simp only [h0, h1, projQ_at]
  · obtain ⟨a, n, rfl⟩ : ∃ (a : Fin 256) (n : Fin 128), x = ix2 a n := ⟨x 0, x 1, eq_ix2 x⟩
    have h0 : (r0_7.emb (ix2 a n)) 0 = a := Fin.ext ((ValueKit.rect_emb_unit_val _ _ _ _ _).trans (Nat.zero_add _))
    have h1 : (r0_7.emb (ix2 a n)) 1 = (⟨128 + n.val, by omega⟩ : Fin 1024) := Fin.ext (ValueKit.rect_emb_unit_val _ _ _ _ _)
    refine (pieceQ1 x8 x9 _ _ _ _).trans ?_
    simp only [h0, h1, projQ_at]
  · obtain ⟨a, n, rfl⟩ : ∃ (a : Fin 256) (n : Fin 128), x = ix2 a n := ⟨x 0, x 1, eq_ix2 x⟩
    have h0 : (r0_6.emb (ix2 a n)) 0 = a := Fin.ext ((ValueKit.rect_emb_unit_val _ _ _ _ _).trans (Nat.zero_add _))
    have h1 : (r0_6.emb (ix2 a n)) 1 = (⟨0 + n.val, by omega⟩ : Fin 1024) := Fin.ext (ValueKit.rect_emb_unit_val _ _ _ _ _)
    refine (pieceQ0 x8 x9 _ _ _ _).trans ?_
    simp only [h0, h1, projQ_at]

/-- An entry of the keys' block. -/
theorem blockK_at (r : Fin 256) (e : Fin 1024) :
    out0_11 (F := Ideal) x0 x1 x2 x3 x4 x5 x6 x7 x8 x9 (ix2 r e) = headK (projKV (fun j => x0 (ix2 r j)) (fun k => x3 (ix2 0 k)) (fun k e => x4 (ix2 k e))) (fun n => x0 (ix2 r ⟨384 + n.val, by omega⟩)) (fun n => x7 (ix2 0 n)) (fun n => x8 (ix2 r n)) (fun n => x9 (ix2 r n)) e := by
  have hL : out0_11 (F := Ideal) x0 x1 x2 x3 x4 x5 x6 x7 x8 x9 =
      View.canon [⟨r0_13, k0_pay51 (k0_pay7 x8) (k0_pay8 x9) k0_pay9 (k0_pay33 (k0_pay30 (k0_pay2 x0) (k0_pay5 x0 x3 x4)) (k0_pay31 x7) (k0_pay32 (k0_pay2 x0) (k0_pay5 x0 x3 x4)))⟩,
        ⟨r0_12, k0_pay49 (k0_pay7 x8) (k0_pay8 x9) k0_pay9 (k0_pay29 (k0_pay2 x0) (k0_pay5 x0 x3 x4) x7)⟩,
        ⟨r0_11, k0_pay47 (k0_pay7 x8) (k0_pay8 x9) k0_pay9 (k0_pay28 (k0_pay2 x0) (k0_pay5 x0 x3 x4) x7)⟩,
        ⟨r0_10, k0_pay45 (k0_pay7 x8) (k0_pay8 x9) k0_pay9 (k0_pay27 (k0_pay24 (k0_pay2 x0) (k0_pay5 x0 x3 x4)) (k0_pay25 x7) (k0_pay26 (k0_pay2 x0) (k0_pay5 x0 x3 x4)))⟩,
        ⟨r0_9, k0_pay43 (k0_pay7 x8) (k0_pay8 x9) k0_pay9 (k0_pay23 (k0_pay2 x0) (k0_pay5 x0 x3 x4) x7)⟩,
        ⟨r0_8, k0_pay41 (k0_pay7 x8) (k0_pay8 x9) k0_pay9 (k0_pay22 (k0_pay2 x0) (k0_pay5 x0 x3 x4) x7)⟩,
        ⟨r0_7, k0_pay39 (k0_pay37 (k0_pay7 x8) (k0_pay21 (k0_pay19 x7) (k0_pay20 (k0_pay2 x0) (k0_pay5 x0 x3 x4)))) (k0_pay38 (k0_pay8 x9) k0_pay9 (k0_pay21 (k0_pay19 x7) (k0_pay20 (k0_pay2 x0) (k0_pay5 x0 x3 x4))))⟩,
        ⟨r0_6, k0_pay35 (k0_pay7 x8) (k0_pay8 x9) k0_pay9 (k0_pay18 (k0_pay2 x0) (k0_pay5 x0 x3 x4) x7)⟩] := by
    unfold_out out0_11
    frame_out
  rw [hL]
  refine (View.canon_apply_of_pieces (fun y : S256x1024.Idx => (headK (projKV (fun j => x0 (ix2 (y 0) j)) (fun k => x3 (ix2 0 k)) (fun k e => x4 (ix2 k e))) (fun n => x0 (ix2 (y 0) ⟨384 + n.val, by omega⟩)) (fun n => x7 (ix2 0 n)) (fun n => x8 (ix2 (y 0) n)) (fun n => x9 (ix2 (y 0) n)) (y 1) : EReal)) _ ?_ _ (cover0_11 _ _ _ _ _ _ _ _ _)).trans rfl
  intro p hp x
  simp only [List.mem_cons, List.not_mem_nil, or_false] at hp
  rcases hp with rfl | rfl | rfl | rfl | rfl | rfl | rfl | rfl
  · obtain ⟨a, n, rfl⟩ : ∃ (a : Fin 256) (n : Fin 128), x = ix2 a n := ⟨x 0, x 1, eq_ix2 x⟩
    have h0 : (r0_13.emb (ix2 a n)) 0 = a := Fin.ext ((ValueKit.rect_emb_unit_val _ _ _ _ _).trans (Nat.zero_add _))
    have h1 : (r0_13.emb (ix2 a n)) 1 = (⟨896 + n.val, by omega⟩ : Fin 1024) := Fin.ext (ValueKit.rect_emb_unit_val _ _ _ _ _)
    refine (pieceK7 x8 x9 _ _ _ _ _).trans ?_
    simp only [h0, h1, projK_at, shared_at]
  · obtain ⟨a, n, rfl⟩ : ∃ (a : Fin 256) (n : Fin 128), x = ix2 a n := ⟨x 0, x 1, eq_ix2 x⟩
    have h0 : (r0_12.emb (ix2 a n)) 0 = a := Fin.ext ((ValueKit.rect_emb_unit_val _ _ _ _ _).trans (Nat.zero_add _))
    have h1 : (r0_12.emb (ix2 a n)) 1 = (⟨768 + n.val, by omega⟩ : Fin 1024) := Fin.ext (ValueKit.rect_emb_unit_val _ _ _ _ _)
    refine (pieceK6 x8 x9 _ _ _ _ _).trans ?_
    simp only [h0, h1, projK_at, shared_at]
  · obtain ⟨a, n, rfl⟩ : ∃ (a : Fin 256) (n : Fin 128), x = ix2 a n := ⟨x 0, x 1, eq_ix2 x⟩
    have h0 : (r0_11.emb (ix2 a n)) 0 = a := Fin.ext ((ValueKit.rect_emb_unit_val _ _ _ _ _).trans (Nat.zero_add _))
    have h1 : (r0_11.emb (ix2 a n)) 1 = (⟨640 + n.val, by omega⟩ : Fin 1024) := Fin.ext (ValueKit.rect_emb_unit_val _ _ _ _ _)
    refine (pieceK5 x8 x9 _ _ _ _ _).trans ?_
    simp only [h0, h1, projK_at, shared_at]
  · obtain ⟨a, n, rfl⟩ : ∃ (a : Fin 256) (n : Fin 128), x = ix2 a n := ⟨x 0, x 1, eq_ix2 x⟩
    have h0 : (r0_10.emb (ix2 a n)) 0 = a := Fin.ext ((ValueKit.rect_emb_unit_val _ _ _ _ _).trans (Nat.zero_add _))
    have h1 : (r0_10.emb (ix2 a n)) 1 = (⟨512 + n.val, by omega⟩ : Fin 1024) := Fin.ext (ValueKit.rect_emb_unit_val _ _ _ _ _)
    refine (pieceK4 x8 x9 _ _ _ _ _).trans ?_
    simp only [h0, h1, projK_at, shared_at]
  · obtain ⟨a, n, rfl⟩ : ∃ (a : Fin 256) (n : Fin 128), x = ix2 a n := ⟨x 0, x 1, eq_ix2 x⟩
    have h0 : (r0_9.emb (ix2 a n)) 0 = a := Fin.ext ((ValueKit.rect_emb_unit_val _ _ _ _ _).trans (Nat.zero_add _))
    have h1 : (r0_9.emb (ix2 a n)) 1 = (⟨384 + n.val, by omega⟩ : Fin 1024) := Fin.ext (ValueKit.rect_emb_unit_val _ _ _ _ _)
    refine (pieceK3 x8 x9 _ _ _ _ _).trans ?_
    simp only [h0, h1, projK_at, shared_at]
  · obtain ⟨a, n, rfl⟩ : ∃ (a : Fin 256) (n : Fin 128), x = ix2 a n := ⟨x 0, x 1, eq_ix2 x⟩
    have h0 : (r0_8.emb (ix2 a n)) 0 = a := Fin.ext ((ValueKit.rect_emb_unit_val _ _ _ _ _).trans (Nat.zero_add _))
    have h1 : (r0_8.emb (ix2 a n)) 1 = (⟨256 + n.val, by omega⟩ : Fin 1024) := Fin.ext (ValueKit.rect_emb_unit_val _ _ _ _ _)
    refine (pieceK2 x8 x9 _ _ _ _ _).trans ?_
    simp only [h0, h1, projK_at, shared_at]
  · obtain ⟨a, n, rfl⟩ : ∃ (a : Fin 256) (n : Fin 128), x = ix2 a n := ⟨x 0, x 1, eq_ix2 x⟩
    have h0 : (r0_7.emb (ix2 a n)) 0 = a := Fin.ext ((ValueKit.rect_emb_unit_val _ _ _ _ _).trans (Nat.zero_add _))
    have h1 : (r0_7.emb (ix2 a n)) 1 = (⟨128 + n.val, by omega⟩ : Fin 1024) := Fin.ext (ValueKit.rect_emb_unit_val _ _ _ _ _)
    refine (pieceK1 x8 x9 _ _ _ _ _).trans ?_
    simp only [h0, h1, projK_at, shared_at]
  · obtain ⟨a, n, rfl⟩ : ∃ (a : Fin 256) (n : Fin 128), x = ix2 a n := ⟨x 0, x 1, eq_ix2 x⟩
    have h0 : (r0_6.emb (ix2 a n)) 0 = a := Fin.ext ((ValueKit.rect_emb_unit_val _ _ _ _ _).trans (Nat.zero_add _))
    have h1 : (r0_6.emb (ix2 a n)) 1 = (⟨0 + n.val, by omega⟩ : Fin 1024) := Fin.ext (ValueKit.rect_emb_unit_val _ _ _ _ _)
    refine (pieceK0 x8 x9 _ _ _ _ _).trans ?_
    simp only [h0, h1, projK_at, shared_at]

/-- An entry of the values' block. -/
theorem blockV_at (r : Fin 256) (e : Fin 1024) :
    out0_12 (F := Ideal) x0 x1 x2 x3 x4 x5 x6 x7 x8 x9 (ix2 r e)
      = headV (projKV (fun j => x0 (ix2 r j)) (fun k => x3 (ix2 0 k)) (fun k e => x5 (ix2 k e))) e := by
  frame_out
  exact headV_at x0 x3 x5 r e

end Cert.Mla

end
-- ==== Proof.MlArray.lean ====
/-
  The heads' preparation: its three result arrays after the run, from the arrays the launch reads: the blocks tile them.
-/
module

public import proofs.«01_k».proof.Proof.MlBlock

@[expose] public section

set_option maxRecDepth 16384

noncomputable section

namespace Cert.Mla

open Cert.Kernel5Ideal Cert.Kernel5Ideal.Gen Idealize.ShloMosaic Idealize.ShloMosaic.TcCoe
open Idealize.ShloMosaic.Pipeline (Dat)

/-- Where each window's block lies at a grid point. -/
theorem idx_facts : ∀ t : Fin cfg0.N, win0_0.index t = ![t.val, 10]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![t.val % 17, 0]
    ∧ win0_9.index t = ![t.val % 17, 0]
    ∧ win0_10.index t = ![t.val, 0]
    ∧ win0_11.index t = ![t.val, 0]
    ∧ win0_12.index t = ![t.val, 0] :=
  (by decide +kernel : ∀ t : Fin grid0.N, win0_0.index t = ![t.val, 10]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![t.val % 17, 0]
    ∧ win0_9.index t = ![t.val % 17, 0]
    ∧ win0_10.index t = ![t.val, 0]
    ∧ win0_11.index t = ![t.val, 0]
    ∧ win0_12.index t = ![t.val, 0])

/-- The queries' array as a function of the arrays the launch reads. -/
def queriesAt (P : S34816x7680.Idx → EReal) (g : S1x256.Idx → EReal) (W : S256x1024.Idx → EReal) (q : S1x128.Idx → EReal)
    (C S : S4352x128.Idx → EReal) (i : S34816x1024.Idx) : EReal :=
  headQ (projQ (fun j => P (ix2 (i 0) ⟨5120 + j.val, by omega⟩)) (fun k => g (ix2 0 k)) (fun k e => W (ix2 k e))) (fun n => q (ix2 0 n))
    (fun n => C (ix2 ⟨(i 0).val % 4352, Nat.mod_lt _ (by decide)⟩ n)) (fun n => S (ix2 ⟨(i 0).val % 4352, Nat.mod_lt _ (by decide)⟩ n)) (i 1)

/-- The keys' array. -/
def keysAt (P : S34816x7680.Idx → EReal) (g : S1x128.Idx → EReal) (W : S128x1024.Idx → EReal) (q : S1x128.Idx → EReal)
    (C S : S4352x128.Idx → EReal) (i : S34816x1024.Idx) : EReal :=
  headK (projKV (fun j => P (ix2 (i 0) ⟨5120 + j.val, by omega⟩)) (fun k => g (ix2 0 k)) (fun k e => W (ix2 k e)))
    (fun n => P (ix2 (i 0) ⟨5120 + (384 + n.val), by omega⟩)) (fun n => q (ix2 0 n))
    (fun n => C (ix2 ⟨(i 0).val % 4352, Nat.mod_lt _ (by decide)⟩ n)) (fun n => S (ix2 ⟨(i 0).val % 4352, Nat.mod_lt _ (by decide)⟩ n)) (i 1)

/-- The values' array. -/
def valuesAt (P : S34816x7680.Idx → EReal) (g : S1x128.Idx → EReal) (W : S128x1024.Idx → EReal) (i : S34816x1024.Idx) : EReal :=
  headV (projKV (fun j => P (ix2 (i 0) ⟨5120 + j.val, by omega⟩)) (fun k => g (ix2 0 k)) (fun k e => W (ix2 k e))) (i 1)

/-- A tile of the projected rows of any array, read at the array. -/
theorem p_read (c : Dev nD) (A : Buf (Elt Ideal) ((c : Thread nD τ).loc (Pipeline.arrRef spec0 0))) (t : Fin cfg0.N) (r : Fin 256) (d : Fin 512) :
    ((cfg0.win 0).blk t).view.read (Elt Ideal) A (ix2 r d) = (A : S34816x7680.Idx → EReal) (ix2 ⟨256 * t.val + r.val, by have : t.val < 136 := t.isLt; omega⟩ ⟨5120 + d.val, by omega⟩) := by
  obtain ⟨h0, h1, h2, h3, h4, h5, h6, h7, h8, h9, h10, h11, h12⟩ := idx_facts t
  blk_ext [h0]

/-- Input 1 is its own block. -/
theorem read1 (c : Dev nD) (A : Buf (Elt Ideal) ((c : Thread nD τ).loc (Pipeline.arrRef spec0 1))) (t : Fin cfg0.N) (k : Fin 256) :
    ((cfg0.win 1).blk t).view.read (Elt Ideal) A (ix2 0 k) = (A : S1x256.Idx → EReal) (ix2 0 k) := by
  obtain ⟨h0, h1, h2, h3, h4, h5, h6, h7, h8, h9, h10, h11, h12⟩ := idx_facts t
  blk_ext [h1]

/-- Input 2 is its own block. -/
theorem read2 (c : Dev nD) (A : Buf (Elt Ideal) ((c : Thread nD τ).loc (Pipeline.arrRef spec0 2))) (t : Fin cfg0.N) (j : Fin 256) (k : Fin 1024) :
    ((cfg0.win 2).blk t).view.read (Elt Ideal) A (ix2 j k) = (A : S256x1024.Idx → EReal) (ix2 j k) := by
  obtain ⟨h0, h1, h2, h3, h4, h5, h6, h7, h8, h9, h10, h11, h12⟩ := idx_facts t
  blk_ext [h2]

/-- Input 3 is its own block. -/
theorem read3 (c : Dev nD) (A : Buf (Elt Ideal) ((c : Thread nD τ).loc (Pipeline.arrRef spec0 3))) (t : Fin cfg0.N) (k : Fin 128) :
    ((cfg0.win 3).blk t).view.read (Elt Ideal) A (ix2 0 k) = (A : S1x128.Idx → EReal) (ix2 0 k) := by
  obtain ⟨h0, h1, h2, h3, h4, h5, h6, h7, h8, h9, h10, h11, h12⟩ := idx_facts t
  blk_ext [h3]

/-- Input 4 is its own block. -/
theorem read4 (c : Dev nD) (A : Buf (Elt Ideal) ((c : Thread nD τ).loc (Pipeline.arrRef spec0 4))) (t : Fin cfg0.N) (j : Fin 128) (k : Fin 1024) :
    ((cfg0.win 4).blk t).view.read (Elt Ideal) A (ix2 j k) = (A : S128x1024.Idx → EReal) (ix2 j k) := by
  obtain ⟨h0, h1, h2, h3, h4, h5, h6, h7, h8, h9, h10, h11, h12⟩ := idx_facts t
  blk_ext [h4]

/-- Input 5 is its own block. -/
theorem read5 (c : Dev nD) (A : Buf (Elt Ideal) ((c : Thread nD τ).loc (Pipeline.arrRef spec0 5))) (t : Fin cfg0.N) (j : Fin 128) (k : Fin 1024) :
    ((cfg0.win 5).blk t).view.read (Elt Ideal) A (ix2 j k) = (A : S128x1024.Idx → EReal) (ix2 j k) := by
  obtain ⟨h0, h1, h2, h3, h4, h5, h6, h7, h8, h9, h10, h11, h12⟩ := idx_facts t
  blk_ext [h5]

/-- Input 6 is its own block. -/
theorem read6 (c : Dev nD) (A : Buf (Elt Ideal) ((c : Thread nD τ).loc (Pipeline.arrRef spec0 6))) (t : Fin cfg0.N) (k : Fin 128) :
    ((cfg0.win 6).blk t).view.read (Elt Ideal) A (ix2 0 k) = (A : S1x128.Idx → EReal) (ix2 0 k) := by
  obtain ⟨h0, h1, h2, h3, h4, h5, h6, h7, h8, h9, h10, h11, h12⟩ := idx_facts t
  blk_ext [h6]

/-- Input 7 is its own block. -/
theorem read7 (c : Dev nD) (A : Buf (Elt Ideal) ((c : Thread nD τ).loc (Pipeline.arrRef spec0 7))) (t : Fin cfg0.N) (k : Fin 128) :
    ((cfg0.win 7).blk t).view.read (Elt Ideal) A (ix2 0 k) = (A : S1x128.Idx → EReal) (ix2 0 k) := by
  obtain ⟨h0, h1, h2, h3, h4, h5, h6, h7, h8, h9, h10, h11, h12⟩ := idx_facts t
  blk_ext [h7]

/-- A tile of a table, read at the table. -/
theorem read8 (c : Dev nD) (A : Buf (Elt Ideal) ((c : Thread nD τ).loc (Pipeline.arrRef spec0 8))) (t : Fin cfg0.N) (r : Fin 256) (d : Fin 128) :
    ((cfg0.win 8).blk t).view.read (Elt Ideal) A (ix2 r d) = (A : S4352x128.Idx → EReal) (ix2 ⟨256 * (t.val % 17) + r.val, by omega⟩ d) := by
  obtain ⟨h0, h1, h2, h3, h4, h5, h6, h7, h8, h9, h10, h11, h12⟩ := idx_facts t
  blk_ext [h8]

/-- A tile of a table, read at the table. -/
theorem read9 (c : Dev nD) (A : Buf (Elt Ideal) ((c : Thread nD τ).loc (Pipeline.arrRef spec0 9))) (t : Fin cfg0.N) (r : Fin 256) (d : Fin 128) :
    ((cfg0.win 9).blk t).view.read (Elt Ideal) A (ix2 r d) = (A : S4352x128.Idx → EReal) (ix2 ⟨256 * (t.val % 17) + r.val, by omega⟩ d) := by
  obtain ⟨h0, h1, h2, h3, h4, h5, h6, h7, h8, h9, h10, h11, h12⟩ := idx_facts t
  blk_ext [h9]

/-- Where an element of output 0's block lies in its array. -/
theorem place10 (t : Fin cfg0.N) (r : Fin 256) (d : Fin 1024) :
    (win0_10.blk t).view.emb (ix2 r d) = (ix2 ⟨256 * t.val + r.val, by have : t.val < 136 := t.isLt; omega⟩ d : S34816x1024.Idx) := by
  obtain ⟨h0, h1, h2, h3, h4, h5, h6, h7, h8, h9, h10, h11, h12⟩ := idx_facts t
  blk_ext [h10]

/-- Where an element of output 1's block lies in its array. -/
theorem place11 (t : Fin cfg0.N) (r : Fin 256) (d : Fin 1024) :
    (win0_11.blk t).view.emb (ix2 r d) = (ix2 ⟨256 * t.val + r.val, by have : t.val < 136 := t.isLt; omega⟩ d : S34816x1024.Idx) := by
  obtain ⟨h0, h1, h2, h3, h4, h5, h6, h7, h8, h9, h10, h11, h12⟩ := idx_facts t
  blk_ext [h11]

/-- Where an element of output 2's block lies in its array. -/
theorem place12 (t : Fin cfg0.N) (r : Fin 256) (d : Fin 1024) :
    (win0_12.blk t).view.emb (ix2 r d) = (ix2 ⟨256 * t.val + r.val, by have : t.val < 136 := t.isLt; omega⟩ d : S34816x1024.Idx) := by
  obtain ⟨h0, h1, h2, h3, h4, h5, h6, h7, h8, h9, h10, h11, h12⟩ := idx_facts t
  blk_ext [h12]

/-- An element of the queries' block is the array's element at its place. -/
theorem tile10 (T : ℕ) (hT : T < 136) (x0 : Vec Ideal S256x512 .f32) (x1 : Vec Ideal S1x256 .f32) (x2 : Vec Ideal S256x1024 .bf16) (x3 : Vec Ideal S1x128 .f32)
    (x4 x5 : Vec Ideal S128x1024 .bf16) (x6 x7 : Vec Ideal S1x128 .f32) (x8 x9 : Vec Ideal S256x128 .f32)
    (X0 : S34816x7680.Idx → EReal) (X1 : S1x256.Idx → EReal) (X2 : S256x1024.Idx → EReal) (X3 : S1x128.Idx → EReal)
    (X4 X5 : S128x1024.Idx → EReal) (X6 X7 : S1x128.Idx → EReal) (X8 X9 : S4352x128.Idx → EReal)
    (e0 : ∀ (r : Fin 256) (d : Fin 512), x0 (ix2 r d) = X0 (ix2 ⟨256 * T + r.val, by omega⟩ ⟨5120 + d.val, by omega⟩))
    (e1 : ∀ k : Fin 256, x1 (ix2 0 k) = X1 (ix2 0 k))
    (e2 : ∀ (j : Fin 256) (k : Fin 1024), x2 (ix2 j k) = X2 (ix2 j k))
    (e3 : ∀ k : Fin 128, x3 (ix2 0 k) = X3 (ix2 0 k))
    (e4 : ∀ (j : Fin 128) (k : Fin 1024), x4 (ix2 j k) = X4 (ix2 j k))
    (e5 : ∀ (j : Fin 128) (k : Fin 1024), x5 (ix2 j k) = X5 (ix2 j k))
    (e6 : ∀ k : Fin 128, x6 (ix2 0 k) = X6 (ix2 0 k))
    (e7 : ∀ k : Fin 128, x7 (ix2 0 k) = X7 (ix2 0 k))
    (e8 : ∀ (r : Fin 256) (d : Fin 128), x8 (ix2 r d) = X8 (ix2 ⟨256 * (T % 17) + r.val, by omega⟩ d))
    (e9 : ∀ (r : Fin 256) (d : Fin 128), x9 (ix2 r d) = X9 (ix2 ⟨256 * (T % 17) + r.val, by omega⟩ d))
    (r : Fin 256) (d : Fin 1024) :
    out0_10 (F := Ideal) x0 x1 x2 x3 x4 x5 x6 x7 x8 x9 (ix2 r d) = queriesAt X0 X1 X2 X6 X8 X9 (ix2 ⟨256 * T + r.val, by omega⟩ d) := by
  have f : (⟨256 * (T % 17) + r.val, by omega⟩ : Fin 4352) = ⟨(256 * T + r.val) % 4352, by omega⟩ :=
    Fin.ext (by show 256 * (T % 17) + r.val = (256 * T + r.val) % 4352; omega)
  rw [blockQ_at]
  simp only [e0, e1, e2, e3, e4, e5, e6, e7, e8, e9, f]
  rfl

/-- An element of the keys' block is the array's element at its place. -/
theorem tile11 (T : ℕ) (hT : T < 136) (x0 : Vec Ideal S256x512 .f32) (x1 : Vec Ideal S1x256 .f32) (x2 : Vec Ideal S256x1024 .bf16) (x3 : Vec Ideal S1x128 .f32)
    (x4 x5 : Vec Ideal S128x1024 .bf16) (x6 x7 : Vec Ideal S1x128 .f32) (x8 x9 : Vec Ideal S256x128 .f32)
    (X0 : S34816x7680.Idx → EReal) (X1 : S1x256.Idx → EReal) (X2 : S256x1024.Idx → EReal) (X3 : S1x128.Idx → EReal)
    (X4 X5 : S128x1024.Idx → EReal) (X6 X7 : S1x128.Idx → EReal) (X8 X9 : S4352x128.Idx → EReal)
    (e0 : ∀ (r : Fin 256) (d : Fin 512), x0 (ix2 r d) = X0 (ix2 ⟨256 * T + r.val, by omega⟩ ⟨5120 + d.val, by omega⟩))
    (e1 : ∀ k : Fin 256, x1 (ix2 0 k) = X1 (ix2 0 k))
    (e2 : ∀ (j : Fin 256) (k : Fin 1024), x2 (ix2 j k) = X2 (ix2 j k))
    (e3 : ∀ k : Fin 128, x3 (ix2 0 k) = X3 (ix2 0 k))
    (e4 : ∀ (j : Fin 128) (k : Fin 1024), x4 (ix2 j k) = X4 (ix2 j k))
    (e5 : ∀ (j : Fin 128) (k : Fin 1024), x5 (ix2 j k) = X5 (ix2 j k))
    (e6 : ∀ k : Fin 128, x6 (ix2 0 k) = X6 (ix2 0 k))
    (e7 : ∀ k : Fin 128, x7 (ix2 0 k) = X7 (ix2 0 k))
    (e8 : ∀ (r : Fin 256) (d : Fin 128), x8 (ix2 r d) = X8 (ix2 ⟨256 * (T % 17) + r.val, by omega⟩ d))
    (e9 : ∀ (r : Fin 256) (d : Fin 128), x9 (ix2 r d) = X9 (ix2 ⟨256 * (T % 17) + r.val, by omega⟩ d))
    (r : Fin 256) (d : Fin 1024) :
    out0_11 (F := Ideal) x0 x1 x2 x3 x4 x5 x6 x7 x8 x9 (ix2 r d) = keysAt X0 X3 X4 X7 X8 X9 (ix2 ⟨256 * T + r.val, by omega⟩ d) := by
  have f : (⟨256 * (T % 17) + r.val, by omega⟩ : Fin 4352) = ⟨(256 * T + r.val) % 4352, by omega⟩ :=
    Fin.ext (by show 256 * (T % 17) + r.val = (256 * T + r.val) % 4352; omega)
  rw [blockK_at]
  simp only [e0, e1, e2, e3, e4, e5, e6, e7, e8, e9, f]
  rfl

/-- An element of the values' block is the array's element at its place. -/
theorem tile12 (T : ℕ) (hT : T < 136) (x0 : Vec Ideal S256x512 .f32) (x1 : Vec Ideal S1x256 .f32) (x2 : Vec Ideal S256x1024 .bf16) (x3 : Vec Ideal S1x128 .f32)
    (x4 x5 : Vec Ideal S128x1024 .bf16) (x6 x7 : Vec Ideal S1x128 .f32) (x8 x9 : Vec Ideal S256x128 .f32)
    (X0 : S34816x7680.Idx → EReal) (X1 : S1x256.Idx → EReal) (X2 : S256x1024.Idx → EReal) (X3 : S1x128.Idx → EReal)
    (X4 X5 : S128x1024.Idx → EReal) (X6 X7 : S1x128.Idx → EReal) (X8 X9 : S4352x128.Idx → EReal)
    (e0 : ∀ (r : Fin 256) (d : Fin 512), x0 (ix2 r d) = X0 (ix2 ⟨256 * T + r.val, by omega⟩ ⟨5120 + d.val, by omega⟩))
    (e1 : ∀ k : Fin 256, x1 (ix2 0 k) = X1 (ix2 0 k))
    (e2 : ∀ (j : Fin 256) (k : Fin 1024), x2 (ix2 j k) = X2 (ix2 j k))
    (e3 : ∀ k : Fin 128, x3 (ix2 0 k) = X3 (ix2 0 k))
    (e4 : ∀ (j : Fin 128) (k : Fin 1024), x4 (ix2 j k) = X4 (ix2 j k))
    (e5 : ∀ (j : Fin 128) (k : Fin 1024), x5 (ix2 j k) = X5 (ix2 j k))
    (e6 : ∀ k : Fin 128, x6 (ix2 0 k) = X6 (ix2 0 k))
    (e7 : ∀ k : Fin 128, x7 (ix2 0 k) = X7 (ix2 0 k))
    (e8 : ∀ (r : Fin 256) (d : Fin 128), x8 (ix2 r d) = X8 (ix2 ⟨256 * (T % 17) + r.val, by omega⟩ d))
    (e9 : ∀ (r : Fin 256) (d : Fin 128), x9 (ix2 r d) = X9 (ix2 ⟨256 * (T % 17) + r.val, by omega⟩ d))
    (r : Fin 256) (d : Fin 1024) :
    out0_12 (F := Ideal) x0 x1 x2 x3 x4 x5 x6 x7 x8 x9 (ix2 r d) = valuesAt X0 X3 X5 (ix2 ⟨256 * T + r.val, by omega⟩ d) := by
  have f : (⟨256 * (T % 17) + r.val, by omega⟩ : Fin 4352) = ⟨(256 * T + r.val) % 4352, by omega⟩ :=
    Fin.ext (by show 256 * (T % 17) + r.val = (256 * T + r.val) % 4352; omega)
  rw [blockV_at]
  simp only [e0, e1, e2, e3, e4, e5, e6, e7, e8, e9, f]
  rfl

variable (m : (ℓ : Loc nD τ sig) → Buf (Elt Ideal) ℓ)

/-- The queries' blocks tile their array. -/
theorem arr10 (c : Dev nD) : (dats m 0 c).arrAt 10 cfg0.N = queriesAt (V m c main_v45) (V m c main_v36) (V m c main_v37) (V m c main_v42) (V m c main_v23) (V m c main_v25) := by
  refine (dats m 0 c).arrAt_eq_of_covers 10 _ (by decide +kernel) fun t hf y => ?_
  obtain ⟨r, d, rfl⟩ : ∃ (r : Fin 256) (d : Fin 1024), y = ix2 r d := ⟨y 0, y 1, eq_ix2 y⟩
  blk_simp
  rw [place10, after0_10]
  exact tile10 t.val t.isLt _ _ _ _ _ _ _ _ _ _ _ _ _ _ _ _ _ _ _ _
    (p_read c (V m c main_v45) t) (read1 c (V m c main_v36) t) (read2 c (V m c main_v37) t) (read3 c (V m c main_v38) t) (read4 c (V m c main_v39) t)
    (read5 c (V m c main_v40) t) (read6 c (V m c main_v42) t) (read7 c (V m c main_v44) t) (read8 c (V m c main_v23) t) (read9 c (V m c main_v25) t) r d

/-- The keys' blocks tile their array. -/
theorem arr11 (c : Dev nD) : (dats m 0 c).arrAt 11 cfg0.N = keysAt (V m c main_v45) (V m c main_v38) (V m c main_v39) (V m c main_v44) (V m c main_v23) (V m c main_v25) := by
  refine (dats m 0 c).arrAt_eq_of_covers 11 _ (by decide +kernel) fun t hf y => ?_
  obtain ⟨r, d, rfl⟩ : ∃ (r : Fin 256) (d : Fin 1024), y = ix2 r d := ⟨y 0, y 1, eq_ix2 y⟩
  blk_simp
  rw [place11, after0_11]
  exact tile11 t.val t.isLt _ _ _ _ _ _ _ _ _ _ _ _ _ _ _ _ _ _ _ _
    (p_read c (V m c main_v45) t) (read1 c (V m c main_v36) t) (read2 c (V m c main_v37) t) (read3 c (V m c main_v38) t) (read4 c (V m c main_v39) t)
    (read5 c (V m c main_v40) t) (read6 c (V m c main_v42) t) (read7 c (V m c main_v44) t) (read8 c (V m c main_v23) t) (read9 c (V m c main_v25) t) r d

/-- The values' blocks tile their array. -/
theorem arr12 (c : Dev nD) : (dats m 0 c).arrAt 12 cfg0.N = valuesAt (V m c main_v45) (V m c main_v38) (V m c main_v40) := by
  refine (dats m 0 c).arrAt_eq_of_covers 12 _ (by decide +kernel) fun t hf y => ?_
  obtain ⟨r, d, rfl⟩ : ∃ (r : Fin 256) (d : Fin 1024), y = ix2 r d := ⟨y 0, y 1, eq_ix2 y⟩
  blk_simp
  rw [place12, after0_12]
  exact tile12 t.val t.isLt _ _ _ _ _ _ _ _ _ _ _ _ _ _ _ _ _ _ _ _
    (p_read c (V m c main_v45) t) (read1 c (V m c main_v36) t) (read2 c (V m c main_v37) t) (read3 c (V m c main_v38) t) (read4 c (V m c main_v39) t)
    (read5 c (V m c main_v40) t) (read6 c (V m c main_v42) t) (read7 c (V m c main_v44) t) (read8 c (V m c main_v23) t) (read9 c (V m c main_v25) t) r d

end Cert.Mla

end
-- ==== Proof.MlHost.lean ====
/-
  The heads' preparation: the arrays the launch reads, entry by entry, of the arguments.
-/
module

public import proofs.«01_k».proof.Proof.MlArray
public import Idealize.ShloMosaic.Lib.StableHlo.ReadAt

@[expose] public section

set_option maxRecDepth 16384

noncomputable section

namespace Cert.Mla

open Cert.Kernel5Ideal Cert.Kernel5Ideal.Gen Idealize.ShloMosaic Idealize.ShloMosaic.TcCoe

variable (m : (ℓ : Loc nD τ sig) → Buf (Elt Ideal) ℓ)

/-- The queries' gain. -/
theorem qng_flat (c : Dev nD) (k : Fin 256) :
    (V m c main_v36 : S1x256.Idx → EReal) (ix2 0 k) = (m (c, Proc.tc.devRef main_arg1) : S256.Idx → EReal) (ix1 k) := by
  unfold V
  after_reads_at

/-- The keys' and values' gain. -/
theorem kvg_flat (c : Dev nD) (k : Fin 128) :
    (V m c main_v38 : S1x128.Idx → EReal) (ix2 0 k) = (m (c, Proc.tc.devRef main_arg3) : S128.Idx → EReal) (ix1 k) := by
  unfold V
  after_reads_at

/-- The word the padding is filled with. -/
theorem fill : FloatOps.sitofp (F := Ideal) FTy.f32 (0#32) = (0 : EReal) := by
  simp [FloatOps.sitofp]

/-- The queries' weights: each head's columns on 128 lanes. -/
theorem wuq_flat (c : Dev nD) (k : Fin 256) (e : Fin 1024) :
    (V m c main_v37 : S256x1024.Idx → EReal) (ix2 k e)
      = if h : e.val % 128 < 96 then (m (c, Proc.tc.devRef main_arg2) : S256x768.Idx → EReal) (ix2 k ⟨e.val / 128 * 96 + e.val % 128, by omega⟩) else (0 : EReal) := by
  unfold V
  after_reads_at
  by_cases h : e.val % 128 < 96
  · refine (dif_pos (show e.val / 128 < 8 ∧ e.val % 128 < 96 from ⟨by omega, h⟩)).trans (Eq.trans ?_ (dif_pos h).symm)
    rfl
  · refine (dif_neg (show ¬ (e.val / 128 < 8 ∧ e.val % 128 < 96) from fun hh => h hh.2)).trans (Eq.trans ?_ (dif_neg h).symm)
    exact fill

/-- The keys' weights: each head's columns on 128 lanes. -/
theorem wuk_flat (c : Dev nD) (k : Fin 128) (e : Fin 1024) :
    (V m c main_v39 : S128x1024.Idx → EReal) (ix2 k e)
      = if h : e.val % 128 < 64 then (m (c, Proc.tc.devRef main_arg4) : S128x1024.Idx → EReal) (ix2 k ⟨e.val / 128 * 128 + e.val % 128, by omega⟩) else (0 : EReal) := by
  unfold V
  after_reads_at
  by_cases h : e.val % 128 < 64
  · refine (dif_pos (show e.val / 128 < 8 ∧ e.val % 128 < 64 from ⟨by omega, h⟩)).trans (Eq.trans ?_ (dif_pos h).symm)
    rfl
  · refine (dif_neg (show ¬ (e.val / 128 < 8 ∧ e.val % 128 < 64) from fun hh => h hh.2)).trans (Eq.trans ?_ (dif_neg h).symm)
    exact fill

/-- The values' weights: each head's columns on 128 lanes. -/
theorem wuv_flat (c : Dev nD) (k : Fin 128) (e : Fin 1024) :
    (V m c main_v40 : S128x1024.Idx → EReal) (ix2 k e)
      = if h : e.val % 128 < 64 then (m (c, Proc.tc.devRef main_arg4) : S128x1024.Idx → EReal) (ix2 k ⟨e.val / 128 * 128 + (64 + e.val % 128), by omega⟩) else (0 : EReal) := by
  unfold V
  after_reads_at
  by_cases h : e.val % 128 < 64
  · refine (dif_pos (show e.val / 128 < 8 ∧ e.val % 128 < 64 from ⟨by omega, h⟩)).trans (Eq.trans ?_ (dif_pos h).symm)
    rfl
  · refine (dif_neg (show ¬ (e.val / 128 < 8 ∧ e.val % 128 < 64) from fun hh => h hh.2)).trans (Eq.trans ?_ (dif_neg h).symm)
    exact fill

/-- A head gain on its lanes. -/
theorem qg_flat (c : Dev nD) (k : Fin 128) :
    (V m c main_v42 : S1x128.Idx → EReal) (ix2 0 k) = lanes (fun n => (m (c, Proc.tc.devRef main_arg5) : S96.Idx → EReal) (ix1 n)) k := by
  unfold V lanes
  after_reads_at
  by_cases h : k.val < 96
  · refine (dif_pos h).trans (Eq.trans ?_ (dif_pos h).symm)
    rfl
  · refine (dif_neg h).trans (Eq.trans ?_ (dif_neg h).symm)
    exact fill

/-- A head gain on its lanes. -/
theorem kg_flat (c : Dev nD) (k : Fin 128) :
    (V m c main_v44 : S1x128.Idx → EReal) (ix2 0 k) = lanes (fun n => (m (c, Proc.tc.devRef main_arg6) : S96.Idx → EReal) (ix1 n)) k := by
  unfold V lanes
  after_reads_at
  by_cases h : k.val < 96
  · refine (dif_pos h).trans (Eq.trans ?_ (dif_pos h).symm)
    rfl
  · refine (dif_neg h).trans (Eq.trans ?_ (dif_neg h).symm)
    exact fill

end Cert.Mla

end
-- ==== Proof.MlCases.lean ====
/-
  The heads' preparation: the turning of a head and its tables, case by case as the programs lay them out.
-/
module

public import proofs.«01_k».proof.Proof.MlRows

@[expose] public section

noncomputable section

namespace Cert.Mla

open Idealize.ShloMosaic

/-- A row at two places of one number. -/
theorem same {N : ℕ} (x : Fin N → EReal) {i j : Fin N} (h : i.val = j.val) : x i = x j := congrArg x (Fin.ext h)

/-- A head turned, its columns counted from the start of each piece. -/
def turnedBy (x : Fin 96 → EReal) (a b : Fin 8 → EReal) (n : Fin 96) : EReal :=
  if _h1 : n.val < 64 then x n
  else if _h2 : n.val - 64 < 16 then
    if h3 : n.val - 64 < 8 then
      x ⟨64 + (n.val - 64), by omega⟩ * Ideal.cos (a ⟨n.val - 64, h3⟩) - x ⟨64 + (8 + (n.val - 64)), by omega⟩ * Ideal.sin (a ⟨n.val - 64, h3⟩)
    else
      x ⟨64 + (n.val - 64 - 8), by omega⟩ * Ideal.sin (a ⟨n.val - 64 - 8, by omega⟩) + x ⟨64 + (8 + (n.val - 64 - 8)), by omega⟩ * Ideal.cos (a ⟨n.val - 64 - 8, by omega⟩)
  else
    if h3 : n.val - 64 - 16 < 8 then
      x ⟨64 + (16 + (n.val - 64 - 16)), by omega⟩ * Ideal.cos (b ⟨n.val - 64 - 16, h3⟩) - x ⟨64 + (16 + (8 + (n.val - 64 - 16))), by omega⟩ * Ideal.sin (b ⟨n.val - 64 - 16, h3⟩)
    else
      x ⟨64 + (16 + (n.val - 64 - 16 - 8)), by omega⟩ * Ideal.sin (b ⟨n.val - 64 - 16 - 8, by omega⟩) + x ⟨64 + (16 + (8 + (n.val - 64 - 16 - 8))), by omega⟩ * Ideal.cos (b ⟨n.val - 64 - 16 - 8, by omega⟩)

/-- The two ways to count the columns agree. -/
theorem turnedBy_eq (x : Fin 96 → EReal) (a b : Fin 8 → EReal) (n : Fin 96) : turnedBy x a b n = turned96 x a b n := by
  unfold turnedBy turned96
  by_cases h64 : n.val < 64
  · refine (dif_pos h64).trans (Eq.trans ?_ (if_pos h64).symm)
    rfl
  refine (dif_neg h64).trans (Eq.trans ?_ (if_neg h64).symm)
  by_cases h72 : n.val < 72
  · refine (dif_pos (show n.val - 64 < 16 by omega)).trans ((dif_pos (show n.val - 64 < 8 by omega)).trans (Eq.trans ?_ (dif_pos h72).symm))
    exact congrArg₂ (· - ·) (congrArg₂ (· * ·) (same x (by show 64 + (n.val - 64) = n.val; omega)) (congrArg Ideal.cos (same a (by show n.val - 64 = n.val - 64; omega)))) (congrArg₂ (· * ·) (same x (by show 64 + (8 + (n.val - 64)) = n.val + 8; omega)) (congrArg Ideal.sin (same a (by show n.val - 64 = n.val - 64; omega))))
  refine Eq.trans ?_ (dif_neg h72).symm
  by_cases h80 : n.val < 80
  · refine (dif_pos (show n.val - 64 < 16 by omega)).trans ((dif_neg (show ¬ n.val - 64 < 8 by omega)).trans (Eq.trans ?_ (dif_pos h80).symm))
    exact congrArg₂ (· + ·) (congrArg₂ (· * ·) (same x (by show 64 + (n.val - 64 - 8) = n.val - 8; omega)) (congrArg Ideal.sin (same a (by show n.val - 64 - 8 = n.val - 72; omega)))) (congrArg₂ (· * ·) (same x (by show 64 + (8 + (n.val - 64 - 8)) = n.val; omega)) (congrArg Ideal.cos (same a (by show n.val - 64 - 8 = n.val - 72; omega))))
  refine (dif_neg (show ¬ n.val - 64 < 16 by omega)).trans (Eq.trans ?_ (dif_neg h80).symm)
  by_cases h88 : n.val < 88
  · refine (dif_pos (show n.val - 64 - 16 < 8 by omega)).trans (Eq.trans ?_ (dif_pos h88).symm)
    exact congrArg₂ (· - ·) (congrArg₂ (· * ·) (same x (by show 64 + (16 + (n.val - 64 - 16)) = n.val; omega)) (congrArg Ideal.cos (same b (by show n.val - 64 - 16 = n.val - 80; omega)))) (congrArg₂ (· * ·) (same x (by show 64 + (16 + (8 + (n.val - 64 - 16))) = n.val + 8; omega)) (congrArg Ideal.sin (same b (by show n.val - 64 - 16 = n.val - 80; omega))))
  refine (dif_neg (show ¬ n.val - 64 - 16 < 8 by omega)).trans (Eq.trans ?_ (dif_neg h88).symm)
  exact congrArg₂ (· + ·) (congrArg₂ (· * ·) (same x (by show 64 + (16 + (n.val - 64 - 16 - 8)) = n.val - 8; omega)) (congrArg Ideal.sin (same b (by show n.val - 64 - 16 - 8 = n.val - 88; omega)))) (congrArg₂ (· * ·) (same x (by show 64 + (16 + (8 + (n.val - 64 - 16 - 8))) = n.val; omega)) (congrArg Ideal.cos (same b (by show n.val - 64 - 16 - 8 = n.val - 88; omega))))

/-- The table of cosines, its lanes counted from the start of each piece. -/
def cosBy (a b : Fin 4096 → Fin 8 → EReal) (l : Fin 4352) (n : Fin 128) : EReal :=
  if _h : l.val < 256 then 1
  else if _h1 : n.val < 64 then 1
  else if h2 : n.val - 64 < 8 then Ideal.cos (a ⟨l.val - 256, by omega⟩ ⟨n.val - 64, h2⟩)
  else if h3 : n.val - 64 - 8 < 8 then Ideal.cos (a ⟨l.val - 256, by omega⟩ ⟨n.val - 64 - 8, h3⟩)
  else if h4 : n.val - 64 - 8 - 8 < 8 then Ideal.cos (b ⟨l.val - 256, by omega⟩ ⟨n.val - 64 - 8 - 8, h4⟩)
  else if h5 : n.val - 64 - 8 - 8 - 8 < 8 then Ideal.cos (b ⟨l.val - 256, by omega⟩ ⟨n.val - 64 - 8 - 8 - 8, h5⟩)
  else 1

/-- The two ways to count the lanes agree. -/
theorem cosBy_eq (a b : Fin 4096 → Fin 8 → EReal) (l : Fin 4352) (n : Fin 128) : cosBy a b l n = cosT a b l n := by
  unfold cosBy cosT cosRow
  by_cases h : l.val < 256
  · refine (dif_pos h).trans (Eq.trans ?_ (dif_pos h).symm)
    rfl
  refine (dif_neg h).trans (Eq.trans ?_ (dif_neg h).symm)
  by_cases h64 : n.val < 64
  · refine (dif_pos h64).trans (Eq.trans ?_ (if_pos h64).symm)
    rfl
  refine (dif_neg h64).trans (Eq.trans ?_ (if_neg h64).symm)
  by_cases h72 : n.val < 72
  · refine (dif_pos (show n.val - 64 < 8 by omega)).trans (Eq.trans ?_ (dif_pos h72).symm)
    exact congrArg Ideal.cos (same (a ⟨l.val - 256, by omega⟩) (by show n.val - 64 = n.val - 64; omega))
  refine (dif_neg (show ¬ n.val - 64 < 8 by omega)).trans (Eq.trans ?_ (dif_neg h72).symm)
  by_cases h80 : n.val < 80
  · refine (dif_pos (show n.val - 64 - 8 < 8 by omega)).trans (Eq.trans ?_ (dif_pos h80).symm)
    exact congrArg Ideal.cos (same (a ⟨l.val - 256, by omega⟩) (by show n.val - 64 - 8 = n.val - 72; omega))
  refine (dif_neg (show ¬ n.val - 64 - 8 < 8 by omega)).trans (Eq.trans ?_ (dif_neg h80).symm)
  by_cases h88 : n.val < 88
  · refine (dif_pos (show n.val - 64 - 8 - 8 < 8 by omega)).trans (Eq.trans ?_ (dif_pos h88).symm)
    exact congrArg Ideal.cos (same (b ⟨l.val - 256, by omega⟩) (by show n.val - 64 - 8 - 8 = n.val - 80; omega))
  refine (dif_neg (show ¬ n.val - 64 - 8 - 8 < 8 by omega)).trans (Eq.trans ?_ (dif_neg h88).symm)
  by_cases h96 : n.val < 96
  · refine (dif_pos (show n.val - 64 - 8 - 8 - 8 < 8 by omega)).trans (Eq.trans ?_ (dif_pos h96).symm)
    exact congrArg Ideal.cos (same (b ⟨l.val - 256, by omega⟩) (by show n.val - 64 - 8 - 8 - 8 = n.val - 88; omega))
  refine (dif_neg (show ¬ n.val - 64 - 8 - 8 - 8 < 8 by omega)).trans (Eq.trans ?_ (dif_neg h96).symm)
  rfl

/-- The table of signed sines, its lanes counted from the start of each piece. -/
def sinBy (a b : Fin 4096 → Fin 8 → EReal) (l : Fin 4352) (n : Fin 128) : EReal :=
  if _h : l.val < 256 then 0
  else if _h1 : n.val < 64 then 0
  else if h2 : n.val - 64 < 8 then -Ideal.sin (a ⟨l.val - 256, by omega⟩ ⟨n.val - 64, h2⟩)
  else if h3 : n.val - 64 - 8 < 8 then Ideal.sin (a ⟨l.val - 256, by omega⟩ ⟨n.val - 64 - 8, h3⟩)
  else if h4 : n.val - 64 - 8 - 8 < 8 then -Ideal.sin (b ⟨l.val - 256, by omega⟩ ⟨n.val - 64 - 8 - 8, h4⟩)
  else if h5 : n.val - 64 - 8 - 8 - 8 < 8 then Ideal.sin (b ⟨l.val - 256, by omega⟩ ⟨n.val - 64 - 8 - 8 - 8, h5⟩)
  else 0

/-- The two ways to count the lanes agree. -/
theorem sinBy_eq (a b : Fin 4096 → Fin 8 → EReal) (l : Fin 4352) (n : Fin 128) : sinBy a b l n = sinT a b l n := by
  unfold sinBy sinT sinRow
  by_cases h : l.val < 256
  · refine (dif_pos h).trans (Eq.trans ?_ (dif_pos h).symm)
    rfl
  refine (dif_neg h).trans (Eq.trans ?_ (dif_neg h).symm)
  by_cases h64 : n.val < 64
  · refine (dif_pos h64).trans (Eq.trans ?_ (if_pos h64).symm)
    rfl
  refine (dif_neg h64).trans (Eq.trans ?_ (if_neg h64).symm)
  by_cases h72 : n.val < 72
  · refine (dif_pos (show n.val - 64 < 8 by omega)).trans (Eq.trans ?_ (dif_pos h72).symm)
    exact congrArg (fun z => -Ideal.sin z) (same (a ⟨l.val - 256, by omega⟩) (by show n.val - 64 = n.val - 64; omega))
  refine (dif_neg (show ¬ n.val - 64 < 8 by omega)).trans (Eq.trans ?_ (dif_neg h72).symm)
  by_cases h80 : n.val < 80
  · refine (dif_pos (show n.val - 64 - 8 < 8 by omega)).trans (Eq.trans ?_ (dif_pos h80).symm)
    exact congrArg Ideal.sin (same (a ⟨l.val - 256, by omega⟩) (by show n.val - 64 - 8 = n.val - 72; omega))
  refine (dif_neg (show ¬ n.val - 64 - 8 < 8 by omega)).trans (Eq.trans ?_ (dif_neg h80).symm)
  by_cases h88 : n.val < 88
  · refine (dif_pos (show n.val - 64 - 8 - 8 < 8 by omega)).trans (Eq.trans ?_ (dif_pos h88).symm)
    exact congrArg (fun z => -Ideal.sin z) (same (b ⟨l.val - 256, by omega⟩) (by show n.val - 64 - 8 - 8 = n.val - 80; omega))
  refine (dif_neg (show ¬ n.val - 64 - 8 - 8 < 8 by omega)).trans (Eq.trans ?_ (dif_neg h88).symm)
  by_cases h96 : n.val < 96
  · refine (dif_pos (show n.val - 64 - 8 - 8 - 8 < 8 by omega)).trans (Eq.trans ?_ (dif_pos h96).symm)
    exact congrArg Ideal.sin (same (b ⟨l.val - 256, by omega⟩) (by show n.val - 64 - 8 - 8 - 8 = n.val - 88; omega))
  refine (dif_neg (show ¬ n.val - 64 - 8 - 8 - 8 < 8 by omega)).trans (Eq.trans ?_ (dif_neg h96).symm)
  rfl

end Cert.Mla

end
-- ==== Proof.MlHostCos.lean ====
/-
  The heads' preparation: the arrays the launch reads, entry by entry, of the arguments.
-/
module

public import proofs.«01_k».proof.Proof.MlArray
public import proofs.«01_k».proof.Proof.MlCases
public import Idealize.ShloMosaic.Lib.StableHlo.ReadAt

@[expose] public section

set_option maxRecDepth 16384

noncomputable section

namespace Cert.Mla

open Cert.Kernel5Ideal Cert.Kernel5Ideal.Gen Idealize.ShloMosaic Idealize.ShloMosaic.TcCoe

variable (m : (ℓ : Loc nD τ sig) → Buf (Elt Ideal) ℓ)

/-- The launch's table of cosines. -/
theorem cos_flat (c : Dev nD) (l : Fin 4352) (k : Fin 128) :
    (V m c main_v23 : S4352x128.Idx → EReal) (ix2 l k) = cosT (fun l j => (m (c, Proc.tc.devRef main_arg7) : S4096x8.Idx → EReal) (ix2 l j)) (fun l j => (m (c, Proc.tc.devRef main_arg8) : S4096x8.Idx → EReal) (ix2 l j)) l k := by
  refine Eq.trans ?_ (cosBy_eq _ _ l k)
  unfold V cosBy
  after_reads_at
  refine dite_congr rfl (fun _ => rfl) (fun _ => ?_)
  refine dite_congr rfl (fun _ => ?_) (fun _ => ?_)
  · after_reads_at
  refine dite_congr rfl (fun _ => ?_) (fun _ => ?_)
  · after_reads_at
  refine dite_congr rfl (fun _ => ?_) (fun _ => ?_)
  · after_reads_at
  refine dite_congr rfl (fun _ => ?_) (fun _ => ?_)
  · after_reads_at
  refine dite_congr rfl (fun _ => ?_) (fun _ => ?_)
  · after_reads_at
  after_reads_at

end Cert.Mla

end
-- ==== Proof.MlHostSin.lean ====
/-
  The heads' preparation: the arrays the launch reads, entry by entry, of the arguments.
-/
module

public import proofs.«01_k».proof.Proof.MlArray
public import proofs.«01_k».proof.Proof.MlCases
public import Idealize.ShloMosaic.Lib.StableHlo.ReadAt

@[expose] public section

set_option maxRecDepth 16384

noncomputable section

namespace Cert.Mla

open Cert.Kernel5Ideal Cert.Kernel5Ideal.Gen Idealize.ShloMosaic Idealize.ShloMosaic.TcCoe

variable (m : (ℓ : Loc nD τ sig) → Buf (Elt Ideal) ℓ)

/-- The launch's table of signed sines. -/
theorem sin_flat (c : Dev nD) (l : Fin 4352) (k : Fin 128) :
    (V m c main_v25 : S4352x128.Idx → EReal) (ix2 l k) = sinT (fun l j => (m (c, Proc.tc.devRef main_arg7) : S4096x8.Idx → EReal) (ix2 l j)) (fun l j => (m (c, Proc.tc.devRef main_arg8) : S4096x8.Idx → EReal) (ix2 l j)) l k := by
  refine Eq.trans ?_ (sinBy_eq _ _ l k)
  unfold V sinBy
  after_reads_at
  refine dite_congr rfl (fun _ => rfl) (fun _ => ?_)
  refine dite_congr rfl (fun _ => ?_) (fun _ => ?_)
  · after_reads_at
  refine dite_congr rfl (fun _ => ?_) (fun _ => ?_)
  · after_reads_at
  refine dite_congr rfl (fun _ => ?_) (fun _ => ?_)
  · after_reads_at
  refine dite_congr rfl (fun _ => ?_) (fun _ => ?_)
  · after_reads_at
  refine dite_congr rfl (fun _ => ?_) (fun _ => ?_)
  · after_reads_at
  after_reads_at

end Cert.Mla

end
-- ==== Proof.MlHostRows.lean ====
/-
  The heads' preparation: the arrays the launch reads, entry by entry, of the arguments.
-/
module

public import proofs.«01_k».proof.Proof.MlArray
public import Idealize.ShloMosaic.Lib.StableHlo.ReadAt

@[expose] public section

set_option maxRecDepth 16384

noncomputable section

namespace Cert.Mla

open Cert.Kernel5Ideal Cert.Kernel5Ideal.Gen Idealize.ShloMosaic Idealize.ShloMosaic.TcCoe

variable (m : (ℓ : Loc nD τ sig) → Buf (Elt Ideal) ℓ)

/-- The launch's projected rows: the batches' columns in their places. -/
theorem p_flat (c : Dev nD) (R : Fin 34816) (k : Fin 512) :
    (V m c main_v45 : S34816x7680.Idx → EReal) (ix2 R ⟨5120 + k.val, by omega⟩)
      = place (fun j => (m (c, Proc.tc.devRef main_arg0) : S8x4352x416.Idx → EReal) (ix3 ⟨R.val / 4352, by omega⟩ ⟨R.val % 4352, by omega⟩ j)) k := by
  unfold V place
  after_reads_at
  by_cases h : k.val < 384
  · simp only [dif_pos h]
    after_reads_at
  simp only [dif_neg h]
  by_cases h' : k.val < 448
  · simp only [dif_pos (show k.val - 384 < 64 by omega), if_pos h']
    after_reads_at
  simp only [dif_neg (show ¬ k.val - 384 < 64 by omega), if_neg h']
  by_cases h'' : k.val < 480
  · have i : (⟨384 + (k.val - 384 - 64), by omega⟩ : Fin 416) = ⟨k.val - 64, by omega⟩ := Fin.ext (by show 384 + (k.val - 384 - 64) = k.val - 64; omega)
    simp only [dif_pos (show k.val - 384 - 64 < 32 by omega), dif_pos h'']
    rw [← i]
    after_reads_at
  · simp only [dif_neg (show ¬ k.val - 384 - 64 < 32 by omega), dif_neg h'']
    after_reads_at

end Cert.Mla

end
-- ==== Proof.MlReference.lean ====
/-
  The heads' preparation's reference, entry by entry.
-/
module

public import proofs.«01_k».proof.Proof.MlCases
public import proofs.«01_k».proof.Proof.Gen.Reference5Ideal.Read

@[expose] public section

set_option maxRecDepth 16384

noncomputable section

namespace Cert.Mla.Ref

open Cert.Reference5Ideal Cert.Reference5Ideal.Read Idealize.ShloMosaic

variable (x0 : S8x4352x416.Idx → EReal) (x1 : S256.Idx → EReal) (x2 : S256x768.Idx → EReal) (x3 : S128.Idx → EReal) (x4 : S128x1024.Idx → EReal)
  (x5 x6 : S96.Idx → EReal) (x7 x8 : S4096x8.Idx → EReal)

/-- The queries' columns normalized, against their weights. -/
def rawQ (b : Fin 8) (l : Fin 4352) (e : Fin 768) : EReal :=
  ∑ k : Fin 256, rmsR (fun j : Fin 256 => x0 (ix3 b l ⟨j.val, by omega⟩)) (fun k => x1 (ix1 k)) (Ideal.ofBits FTy.f32 0x43800000#32) k * x2 (ix2 k e)

/-- The keys' and values' columns normalized, against their weights. -/
def rawKV (b : Fin 8) (l : Fin 4352) (e : Fin 1024) : EReal :=
  ∑ k : Fin 128, rmsR (fun j : Fin 128 => x0 (ix3 b l ⟨256 + j.val, by omega⟩)) (fun k => x3 (ix1 k)) (Ideal.ofBits FTy.f32 0x43000000#32) k * x4 (ix2 k e)

/-- A key head: its own columns, and the shared ones. -/
def rawK (b : Fin 8) (l : Fin 4352) (h : Fin 8) (n : Fin 96) : EReal :=
  if n.val < 64 then rawKV x0 x3 x4 b l ⟨h.val * 128 + n.val, by omega⟩ else x0 (ix3 b l ⟨384 + (n.val - 64), by omega⟩)

/-- The reference's projected queries at an index. -/
theorem rawQ_at (b : Fin 8) (l : Fin 4352) (h : Fin 8) (n : Fin 96) :
    val_main_v17 (F := Ideal) x0 x1 x2 (ix4 b l h n) = rawQ x0 x1 x2 b l ⟨h.val * 96 + n.val, by omega⟩ := by
  unfold rawQ rmsR
  pointwise [val_main_v17, val_main_v16, val_main_v15, val_main_v14, val_main_v13, val_main_v12, val_main_v11, val_main_v10, val_main_v9, val_main_v8, val_main_v7, val_main_v6, val_main_v5, val_main_v4, val_main_v3, val_main_v0, val_main_cst, val_main_cst_0, val_main_cst_1]

/-- The reference's projected keys and values at an index. -/
theorem rawKV_at (b : Fin 8) (l : Fin 4352) (h : Fin 8) (n : Fin 128) :
    val_main_v32 (F := Ideal) x0 x3 x4 (ix4 b l h n) = rawKV x0 x3 x4 b l ⟨h.val * 128 + n.val, by omega⟩ := by
  unfold rawKV rmsR
  pointwise [val_main_v32, val_main_v31, val_main_v30, val_main_v29, val_main_v28, val_main_v27, val_main_v26, val_main_v25, val_main_v24, val_main_v23, val_main_v22, val_main_v21, val_main_v20, val_main_v19, val_main_v18, val_main_v1, val_main_cst_2, val_main_cst_3, val_main_cst_4]

/-- The reference's key heads before their normalization, at an index. -/
theorem rawK_at (b : Fin 8) (l : Fin 4352) (h : Fin 8) (n : Fin 96) :
    val_main_v50 (F := Ideal) x0 x3 x4 (ix4 b l h n) = rawK x0 x3 x4 b l h n := by
  unfold rawK
  by_cases hn : n.val < 64
  · rw [if_pos hn, ← rawKV_at x0 x3 x4 b l h ⟨n.val, by omega⟩]
    generalize hv : val_main_v32 (F := Ideal) x0 x3 x4 = v
    unfold val_main_v50 val_main_v33
    rw [hv]
    pointwise
    exact dif_pos hn
  · rw [if_neg hn]
    generalize hv : val_main_v33 (F := Ideal) x0 x3 x4 = v
    unfold val_main_v50
    rw [hv]
    pointwise [val_main_v36, val_main_v35, val_main_v2]
    exact dif_neg hn

/-- The query heads normalized, at an index. -/
theorem normQ_at (b : Fin 8) (l : Fin 4352) (h : Fin 8) (n : Fin 96) :
    val_main_v49 (F := Ideal) x0 x1 x2 x5 (ix4 b l h n)
      = rmsR (fun n : Fin 96 => rawQ x0 x1 x2 b l ⟨h.val * 96 + n.val, by omega⟩) (fun n => x5 (ix1 n)) (Ideal.ofBits FTy.f32 0x42C00000#32) n := by
  unfold rmsR
  simp only [← rawQ_at]
  generalize hv : val_main_v17 (F := Ideal) x0 x1 x2 = v
  unfold val_main_v49 val_main_v46 val_main_v45 val_main_v44 val_main_v43 val_main_v41 val_main_v39 val_main_v38 val_main_v37
  rw [hv]
  pointwise [val_main_v48, val_main_v47, val_main_v42, val_main_v40, val_main_cst_5, val_main_cst_6, val_main_cst_7]

/-- The key heads normalized, at an index. -/
theorem normK_at (b : Fin 8) (l : Fin 4352) (h : Fin 8) (n : Fin 96) :
    val_main_v63 (F := Ideal) x0 x3 x4 x6 (ix4 b l h n)
      = rmsR (rawK x0 x3 x4 b l h) (fun n => x6 (ix1 n)) (Ideal.ofBits FTy.f32 0x42C00000#32) n := by
  unfold rmsR
  simp only [← rawK_at]
  generalize hv : val_main_v50 (F := Ideal) x0 x3 x4 = v
  unfold val_main_v63 val_main_v60 val_main_v59 val_main_v58 val_main_v57 val_main_v55 val_main_v53 val_main_v52 val_main_v51
  rw [hv]
  pointwise [val_main_v62, val_main_v61, val_main_v56, val_main_v54, val_main_cst_8, val_main_cst_9, val_main_cst_10]

end Cert.Mla.Ref

end
-- ==== Proof.MlTurnQ.lean ====
/-
  The reference's query heads, turned.
-/
module

public import proofs.«01_k».proof.Proof.MlReference

@[expose] public section

set_option maxRecDepth 16384

noncomputable section

namespace Cert.Mla.Ref

open Cert.Reference5Ideal Cert.Reference5Ideal.Read Idealize.ShloMosaic

variable (x0 : S8x4352x416.Idx → EReal) (x1 : S256.Idx → EReal) (x2 : S256x768.Idx → EReal) (x3 : S128.Idx → EReal) (x4 : S128x1024.Idx → EReal)
  (x5 x6 : S96.Idx → EReal) (x7 x8 : S4096x8.Idx → EReal)

/-- A query head, turned. -/
theorem turnQ_at (b : Fin 8) (l : Fin 4352) (h : Fin 8) (n : Fin 96) :
    val_main_v114 (F := Ideal) x0 x1 x2 x5 x7 x8 (ix4 b l h n)
      = rotated (rmsR (fun n : Fin 96 => rawQ x0 x1 x2 b l ⟨h.val * 96 + n.val, by omega⟩) (fun n => x5 (ix1 n)) (Ideal.ofBits FTy.f32 0x42C00000#32)) (fun l j => x7 (ix2 l j)) (fun l j => x8 (ix2 l j)) l n := by
  rw [← funext (normQ_at x0 x1 x2 x5 b l h)]
  generalize hv : val_main_v49 (F := Ideal) x0 x1 x2 x5 = v
  unfold val_main_v114 val_main_v113 val_main_v112 val_main_v111 val_main_v110 val_main_v109 val_main_v108 val_main_v105 val_main_v102 val_main_v101 val_main_v98 val_main_v95 val_main_v94 val_main_v89 val_main_v88 val_main_v87 val_main_v84 val_main_v81 val_main_v80 val_main_v77 val_main_v74 val_main_v73 val_main_v68 val_main_v67 val_main_v66 val_main_v65 val_main_v64
  rw [hv]
  pointwise [val_main_v69, val_main_v70, val_main_v71, val_main_v72, val_main_v75, val_main_v76, val_main_v78, val_main_v79, val_main_v82, val_main_v83, val_main_v85, val_main_v86, val_main_v90, val_main_v91, val_main_v92, val_main_v93, val_main_v96, val_main_v97, val_main_v99, val_main_v100, val_main_v103, val_main_v104, val_main_v106, val_main_v107]
  unfold rotated
  by_cases hl : l.val < 256
  · refine (dif_pos hl).trans (Eq.trans ?_ (dif_pos hl).symm)
    rfl
  refine (dif_neg hl).trans (Eq.trans ?_ (dif_neg hl).symm)
  have e : (⟨256 + (l.val - 256), by omega⟩ : Fin 4352) = l := Fin.ext (by show 256 + (l.val - 256) = l.val; omega)
  refine Eq.trans ?_ ((turnedBy_eq (fun k => v (ix4 b ⟨256 + (l.val - 256), by omega⟩ h k)) (fun j => x7 (ix2 ⟨l.val - 256, by omega⟩ j)) (fun j => x8 (ix2 ⟨l.val - 256, by omega⟩ j)) n).trans
    (congrArg (fun L => turned96 (fun k => v (ix4 b L h k)) (fun j => x7 (ix2 ⟨l.val - 256, by omega⟩ j)) (fun j => x8 (ix2 ⟨l.val - 256, by omega⟩ j)) n) e))
  rfl

end Cert.Mla.Ref

end
-- ==== Proof.MlTurnK.lean ====
/-
  The reference's key heads, turned.
-/
module

public import proofs.«01_k».proof.Proof.MlReference

@[expose] public section

set_option maxRecDepth 16384

noncomputable section

namespace Cert.Mla.Ref

open Cert.Reference5Ideal Cert.Reference5Ideal.Read Idealize.ShloMosaic

variable (x0 : S8x4352x416.Idx → EReal) (x1 : S256.Idx → EReal) (x2 : S256x768.Idx → EReal) (x3 : S128.Idx → EReal) (x4 : S128x1024.Idx → EReal)
  (x5 x6 : S96.Idx → EReal) (x7 x8 : S4096x8.Idx → EReal)

/-- A key head, turned. -/
theorem turnK_at (b : Fin 8) (l : Fin 4352) (h : Fin 8) (n : Fin 96) :
    val_main_v171 (F := Ideal) x0 x3 x4 x6 x7 x8 (ix4 b l h n)
      = rotated (rmsR (rawK x0 x3 x4 b l h) (fun n => x6 (ix1 n)) (Ideal.ofBits FTy.f32 0x42C00000#32)) (fun l j => x7 (ix2 l j)) (fun l j => x8 (ix2 l j)) l n := by
  rw [← funext (normK_at x0 x3 x4 x6 b l h)]
  generalize hv : val_main_v63 (F := Ideal) x0 x3 x4 x6 = v
  unfold val_main_v171 val_main_v170 val_main_v169 val_main_v168 val_main_v167 val_main_v166 val_main_v165 val_main_v162 val_main_v159 val_main_v158 val_main_v155 val_main_v152 val_main_v151 val_main_v146 val_main_v145 val_main_v144 val_main_v141 val_main_v138 val_main_v137 val_main_v134 val_main_v131 val_main_v130 val_main_v125 val_main_v124 val_main_v123 val_main_v122 val_main_v121
  rw [hv]
  pointwise [val_main_v126, val_main_v127, val_main_v128, val_main_v129, val_main_v132, val_main_v133, val_main_v135, val_main_v136, val_main_v139, val_main_v140, val_main_v142, val_main_v143, val_main_v147, val_main_v148, val_main_v149, val_main_v150, val_main_v153, val_main_v154, val_main_v156, val_main_v157, val_main_v160, val_main_v161, val_main_v163, val_main_v164]
  unfold rotated
  by_cases hl : l.val < 256
  · refine (dif_pos hl).trans (Eq.trans ?_ (dif_pos hl).symm)
    rfl
  refine (dif_neg hl).trans (Eq.trans ?_ (dif_neg hl).symm)
  have e : (⟨256 + (l.val - 256), by omega⟩ : Fin 4352) = l := Fin.ext (by show 256 + (l.val - 256) = l.val; omega)
  refine Eq.trans ?_ ((turnedBy_eq (fun k => v (ix4 b ⟨256 + (l.val - 256), by omega⟩ h k)) (fun j => x7 (ix2 ⟨l.val - 256, by omega⟩ j)) (fun j => x8 (ix2 ⟨l.val - 256, by omega⟩ j)) n).trans
    (congrArg (fun L => turned96 (fun k => v (ix4 b L h k)) (fun j => x7 (ix2 ⟨l.val - 256, by omega⟩ j)) (fun j => x8 (ix2 ⟨l.val - 256, by omega⟩ j)) n) e))
  rfl

end Cert.Mla.Ref

end
-- ==== Proof.MlOutQK.lean ====
/-
  The reference's queries and keys, entry by entry.
-/
module

public import proofs.«01_k».proof.Proof.MlTurnQ
public import proofs.«01_k».proof.Proof.MlTurnK

@[expose] public section

set_option maxRecDepth 16384

noncomputable section

namespace Cert.Mla.Ref

open Cert.Reference5Ideal Cert.Reference5Ideal.Read Idealize.ShloMosaic

variable (x0 : S8x4352x416.Idx → EReal) (x1 : S256.Idx → EReal) (x2 : S256x768.Idx → EReal) (x3 : S128.Idx → EReal) (x4 : S128x1024.Idx → EReal)
  (x5 x6 : S96.Idx → EReal) (x7 x8 : S4096x8.Idx → EReal)

/-- The word the padding is filled with. -/
theorem fill : FloatOps.sitofp (F := Ideal) FTy.f32 (0#32) = (0 : EReal) := by
  simp [FloatOps.sitofp]

/-- An entry of the queries. -/
theorem outQ_at (T : Fin 34816) (e : Fin 1024) :
    val_main_v177 (F := Ideal) x0 x1 x2 x5 x7 x8 (ix2 T e)
      = lanes (fun n => Ideal.div (rotated (rmsR (fun n : Fin 96 => rawQ x0 x1 x2 ⟨T.val / 4352, by omega⟩ ⟨T.val % 4352, by omega⟩ ⟨(e.val / 128) * 96 + n.val, by omega⟩) (fun n => x5 (ix1 n)) (Ideal.ofBits FTy.f32 0x42C00000#32)) (fun l j => x7 (ix2 l j)) (fun l j => x8 (ix2 l j)) ⟨T.val % 4352, by omega⟩ n) (Ideal.sqrt (Ideal.ofBits FTy.f32 0x42C00000#32) * Ideal.log (Ideal.ofBits FTy.f32 0x40000000#32))) ⟨e.val % 128, by omega⟩ := by
  rw [← funext (turnQ_at x0 x1 x2 x5 x7 x8 ⟨T.val / 4352, by omega⟩ ⟨T.val % 4352, by omega⟩ ⟨e.val / 128, by omega⟩)]
  generalize hv : val_main_v114 (F := Ideal) x0 x1 x2 x5 x7 x8 = v
  unfold val_main_v177 val_main_v176 val_main_v120 val_main_v119 lanes
  rw [hv]
  pointwise [val_main_v118, val_main_v117, val_main_v116, val_main_v115, val_main_cst_11, val_main_cst_12, val_main_call0_v0, val_main_c]
  by_cases h : e.val % 128 < 96
  · refine (dif_pos (show T.val / 4352 < 8 ∧ T.val % 4352 < 4352 ∧ e.val / 128 < 8 ∧ e.val % 128 < 96 by omega)).trans (Eq.trans ?_ (dif_pos h).symm)
    rfl
  · refine (dif_neg (show ¬ (T.val / 4352 < 8 ∧ T.val % 4352 < 4352 ∧ e.val / 128 < 8 ∧ e.val % 128 < 96) by omega)).trans (Eq.trans ?_ (dif_neg h).symm)
    exact fill

/-- An entry of the keys. -/
theorem outK_at (T : Fin 34816) (e : Fin 1024) :
    val_main_v179 (F := Ideal) x0 x3 x4 x6 x7 x8 (ix2 T e) = lanes (rotated (rmsR (rawK x0 x3 x4 ⟨T.val / 4352, by omega⟩ ⟨T.val % 4352, by omega⟩ ⟨e.val / 128, by omega⟩) (fun n => x6 (ix1 n)) (Ideal.ofBits FTy.f32 0x42C00000#32)) (fun l j => x7 (ix2 l j)) (fun l j => x8 (ix2 l j)) ⟨T.val % 4352, by omega⟩) ⟨e.val % 128, by omega⟩ := by
  rw [← funext (turnK_at x0 x3 x4 x6 x7 x8 ⟨T.val / 4352, by omega⟩ ⟨T.val % 4352, by omega⟩ ⟨e.val / 128, by omega⟩)]
  generalize hv : val_main_v171 (F := Ideal) x0 x3 x4 x6 x7 x8 = v
  unfold val_main_v179 val_main_v178 val_main_v172 lanes
  rw [hv]
  pointwise [val_main_call1_v0, val_main_c_13]
  by_cases h : e.val % 128 < 96
  · refine (dif_pos (show T.val / 4352 < 8 ∧ T.val % 4352 < 4352 ∧ e.val / 128 < 8 ∧ e.val % 128 < 96 by omega)).trans (Eq.trans ?_ (dif_pos h).symm)
    rfl
  · refine (dif_neg (show ¬ (T.val / 4352 < 8 ∧ T.val % 4352 < 4352 ∧ e.val / 128 < 8 ∧ e.val % 128 < 96) by omega)).trans (Eq.trans ?_ (dif_neg h).symm)
    exact fill

end Cert.Mla.Ref

end
-- ==== Proof.MlOutV.lean ====
/-
  The reference's values, entry by entry.
-/
module

public import proofs.«01_k».proof.Proof.MlReference

@[expose] public section

set_option maxRecDepth 16384

noncomputable section

namespace Cert.Mla.Ref

open Cert.Reference5Ideal Cert.Reference5Ideal.Read Idealize.ShloMosaic

variable (x0 : S8x4352x416.Idx → EReal) (x1 : S256.Idx → EReal) (x2 : S256x768.Idx → EReal) (x3 : S128.Idx → EReal) (x4 : S128x1024.Idx → EReal)
  (x5 x6 : S96.Idx → EReal) (x7 x8 : S4096x8.Idx → EReal)

/-- An entry of the values. -/
theorem outV_at (T : Fin 34816) (e : Fin 1024) :
    val_main_v181 (F := Ideal) x0 x3 x4 (ix2 T e)
      = if h : e.val % 128 < 64 then rawKV x0 x3 x4 ⟨T.val / 4352, by omega⟩ ⟨T.val % 4352, by omega⟩ ⟨e.val / 128 * 128 + (64 + e.val % 128), by omega⟩
        else if e.val % 128 = 64 then 1 else 0 := by
  have hr : ∀ n : Fin 128, rawKV x0 x3 x4 ⟨T.val / 4352, by omega⟩ ⟨T.val % 4352, by omega⟩ ⟨e.val / 128 * 128 + n.val, by omega⟩ = val_main_v32 (F := Ideal) x0 x3 x4 (ix4 ⟨T.val / 4352, by omega⟩ ⟨T.val % 4352, by omega⟩ ⟨e.val / 128, by omega⟩ n) :=
    fun n => (rawKV_at x0 x3 x4 ⟨T.val / 4352, by omega⟩ ⟨T.val % 4352, by omega⟩ ⟨e.val / 128, by omega⟩ n).symm
  generalize hv : val_main_v32 (F := Ideal) x0 x3 x4 = v at hr
  unfold val_main_v181 val_main_v180 val_main_v175 val_main_v34
  rw [hv]
  pointwise [val_main_v173, val_main_v174, val_main_cst_14, val_main_cst_15]
  by_cases h : e.val % 128 < 64
  · refine (dif_pos h).trans (Eq.trans ?_ (dif_pos h).symm)
    exact (hr ⟨64 + e.val % 128, by omega⟩).symm
  refine (dif_neg h).trans (Eq.trans ?_ (dif_neg h).symm)
  by_cases h' : e.val % 128 = 64
  · refine (dif_pos (show e.val % 128 - 64 < 1 by omega)).trans (Eq.trans ?_ (if_pos h').symm)
    rfl
  · refine (dif_neg (show ¬ e.val % 128 - 64 < 1 by omega)).trans (Eq.trans ?_ (if_neg h').symm)
    rfl

end Cert.Mla.Ref

end
-- ==== Proof.MlEquation.lean ====
/-
  The heads' preparation: the launch's arrays, entry by entry, are the reference's.
-/
module

public import proofs.«01_k».proof.Proof.MlRowMath
public import proofs.«01_k».proof.Proof.MlHost
public import proofs.«01_k».proof.Proof.MlHostCos
public import proofs.«01_k».proof.Proof.MlHostSin
public import proofs.«01_k».proof.Proof.MlHostRows
public import proofs.«01_k».proof.Proof.MlOutQK
public import proofs.«01_k».proof.Proof.MlOutV

@[expose] public section

set_option maxRecDepth 16384

noncomputable section

namespace Cert.Mla

open Idealize.ShloMosaic Idealize.ShloMosaic.TcCoe

/-- A row's query columns against weights spread on the lanes: each head's 96 sums on its lanes. -/
theorem projQ_place (X : Fin 416 → EReal) (g : Fin 256 → EReal) (W : Fin 256 → Fin 1024 → EReal) (w : Fin 256 → Fin 768 → EReal)
    (hW : ∀ k e, W k e = if h : e.val % 128 < 96 then w k ⟨e.val / 128 * 96 + e.val % 128, by omega⟩ else 0) (h : Fin 8) (n : Fin 128) :
    projQ (place X) g W ⟨h.val * 128 + n.val, by omega⟩
      = lanes (fun n => ∑ k : Fin 256, rmsR (fun j : Fin 256 => X ⟨j.val, by omega⟩) g (Ideal.ofBits FTy.f32 0x43800000#32) k * w k ⟨h.val * 96 + n.val, by omega⟩) n := by
  have hx : (fun j : Fin 256 => place X ⟨j.val, by omega⟩) = fun j : Fin 256 => X ⟨j.val, by omega⟩ :=
    funext fun j => dif_pos (show j.val < 384 by omega)
  unfold projQ
  rw [hx]
  by_cases hn : n.val < 96
  · refine Eq.trans ?_ (dif_pos hn).symm
    refine Finset.sum_congr rfl fun k _ => congrArg₂ (· * ·) (rms_q _ _ k) ((hW k _).trans ?_)
    refine (dif_pos (show (h.val * 128 + n.val) % 128 < 96 by omega)).trans ?_
    exact same (w k) (by show (h.val * 128 + n.val) / 128 * 96 + (h.val * 128 + n.val) % 128 = h.val * 96 + n.val; omega)
  · refine Eq.trans ?_ (dif_neg hn).symm
    refine Finset.sum_eq_zero fun k _ => ?_
    have h0 : W k ⟨h.val * 128 + n.val, by omega⟩ = 0 := (hW k _).trans (dif_neg (show ¬ (h.val * 128 + n.val) % 128 < 96 by omega))
    rw [h0, mul_zero]

/-- A row's key and value columns against a column of weights. -/
theorem projKV_place (X : Fin 416 → EReal) (g : Fin 128 → EReal) (W : Fin 128 → Fin 1024 → EReal) (e : Fin 1024) (y : Fin 128 → EReal)
    (hy : ∀ k, W k e = y k) :
    projKV (place X) g W e
      = ∑ k : Fin 128, rmsR (fun j : Fin 128 => X ⟨256 + j.val, by omega⟩) g (Ideal.ofBits FTy.f32 0x43000000#32) k * y k := by
  have hx : (fun j : Fin 128 => place X ⟨256 + j.val, by omega⟩) = fun j : Fin 128 => X ⟨256 + j.val, by omega⟩ :=
    funext fun j => dif_pos (show 256 + j.val < 384 by omega)
  unfold projKV
  rw [hx]
  exact Finset.sum_congr rfl fun k _ => congrArg₂ (· * ·) (rms_kv _ _ k) (hy k)

/-- A column of zero weights gives zero. -/
theorem projKV_zero (X : Fin 416 → EReal) (g : Fin 128 → EReal) (W : Fin 128 → Fin 1024 → EReal) (e : Fin 1024) (hy : ∀ k, W k e = 0) :
    projKV (place X) g W e = 0 :=
  (projKV_place X g W e (fun _ => 0) hy).trans (Finset.sum_eq_zero fun _ _ => mul_zero _)

/-- A key head on its lanes: its own 64 columns, and the 32 shared ones. -/
theorem projK_place (X : Fin 416 → EReal) (g : Fin 128 → EReal) (W : Fin 128 → Fin 1024 → EReal) (w : Fin 128 → Fin 1024 → EReal)
    (hW : ∀ k e, W k e = if h : e.val % 128 < 64 then w k ⟨e.val / 128 * 128 + e.val % 128, by omega⟩ else 0) (h : Fin 8) (n : Fin 128) :
    projKV (place X) g W ⟨h.val * 128 + n.val, by omega⟩ + place X ⟨384 + n.val, by omega⟩
      = lanes (fun n => if n.val < 64 then
          ∑ k : Fin 128, rmsR (fun j : Fin 128 => X ⟨256 + j.val, by omega⟩) g (Ideal.ofBits FTy.f32 0x43000000#32) k * w k ⟨h.val * 128 + n.val, by omega⟩
          else X ⟨384 + (n.val - 64), by omega⟩) n := by
  by_cases h64 : n.val < 64
  · have hk : place X ⟨384 + n.val, by omega⟩ = 0 := by
      unfold place
      refine (dif_neg (show ¬ 384 + n.val < 384 by omega)).trans ?_
      exact if_pos (show 384 + n.val < 448 by omega)
    rw [hk, add_zero]
    refine Eq.trans ?_ (dif_pos (show n.val < 96 by omega)).symm
    refine Eq.trans ?_ (if_pos h64).symm
    refine projKV_place X g W _ _ fun k => (hW k _).trans ?_
    refine (dif_pos (show (h.val * 128 + n.val) % 128 < 64 by omega)).trans ?_
    exact same (w k) (by show (h.val * 128 + n.val) / 128 * 128 + (h.val * 128 + n.val) % 128 = h.val * 128 + n.val; omega)
  have h0 : projKV (place X) g W ⟨h.val * 128 + n.val, by omega⟩ = 0 :=
    projKV_zero X g W _ fun k => (hW k _).trans (dif_neg (show ¬ (h.val * 128 + n.val) % 128 < 64 by omega))
  rw [h0, zero_add]
  unfold place
  refine (dif_neg (show ¬ 384 + n.val < 384 by omega)).trans ?_
  refine (if_neg (show ¬ 384 + n.val < 448 by omega)).trans ?_
  by_cases h96 : n.val < 96
  · refine (dif_pos (show 384 + n.val < 480 by omega)).trans ?_
    refine Eq.trans ?_ (dif_pos h96).symm
    refine Eq.trans ?_ (if_neg h64).symm
    exact same X (by show 384 + n.val - 64 = 384 + (n.val - 64); omega)
  · refine (dif_neg (show ¬ 384 + n.val < 480 by omega)).trans ?_
    refine Eq.trans ?_ (dif_neg h96).symm
    rfl

section Arrays

variable (x0 : Cert.Reference5Ideal.S8x4352x416.Idx → EReal) (x1 : Cert.Reference5Ideal.S256.Idx → EReal) (x2 : Cert.Reference5Ideal.S256x768.Idx → EReal)
  (x3 : Cert.Reference5Ideal.S128.Idx → EReal) (x4 : Cert.Reference5Ideal.S128x1024.Idx → EReal)
  (x5 x6 : Cert.Reference5Ideal.S96.Idx → EReal) (x7 x8 : Cert.Reference5Ideal.S4096x8.Idx → EReal)
  (P : Cert.Kernel5Ideal.S34816x7680.Idx → EReal) (C S : Cert.Kernel5Ideal.S4352x128.Idx → EReal)
  (hp : ∀ (R : Fin 34816) (k : Fin 512), P (ix2 R ⟨5120 + k.val, by omega⟩) = place (fun j => x0 (ix3 ⟨R.val / 4352, by omega⟩ ⟨R.val % 4352, by omega⟩ j)) k)
  (hC : ∀ (l : Fin 4352) (k : Fin 128), C (ix2 l k) = cosT (fun l j => x7 (ix2 l j)) (fun l j => x8 (ix2 l j)) l k)
  (hS : ∀ (l : Fin 4352) (k : Fin 128), S (ix2 l k) = sinT (fun l j => x7 (ix2 l j)) (fun l j => x8 (ix2 l j)) l k)

include hp hC hS in
/-- The queries of arrays laid out as the launch's are the reference's. -/
theorem queries_eq (g : Cert.Kernel5Ideal.S1x256.Idx → EReal) (W : Cert.Kernel5Ideal.S256x1024.Idx → EReal) (q : Cert.Kernel5Ideal.S1x128.Idx → EReal)
    (hg : ∀ k : Fin 256, g (ix2 0 k) = x1 (ix1 k))
    (hW : ∀ (k : Fin 256) (e : Fin 1024), W (ix2 k e) = if h : e.val % 128 < 96 then x2 (ix2 k ⟨e.val / 128 * 96 + e.val % 128, by omega⟩) else 0)
    (hq : ∀ k : Fin 128, q (ix2 0 k) = lanes (fun n => x5 (ix1 n)) k) (T : Fin 34816) (e : Fin 1024) :
    queriesAt P g W q C S (ix2 T e) = Cert.Reference5Ideal.Read.val_main_v177 (F := Ideal) x0 x1 x2 x5 x7 x8 (ix2 T e) := by
  refine Eq.trans ?_ (Ref.outQ_at x0 x1 x2 x5 x7 x8 T e).symm
  show headQ (projQ (fun j => P (ix2 T ⟨5120 + j.val, by omega⟩)) (fun k => g (ix2 0 k)) (fun k e => W (ix2 k e))) (fun n => q (ix2 0 n))
    (fun n => C (ix2 ⟨T.val % 4352, by omega⟩ n)) (fun n => S (ix2 ⟨T.val % 4352, by omega⟩ n)) e = _
  rw [funext (hp T), funext hg, funext hq, funext (hC ⟨T.val % 4352, by omega⟩), funext (hS ⟨T.val % 4352, by omega⟩)]
  unfold headQ
  have eh := funext (projQ_place (fun j => x0 (ix3 ⟨T.val / 4352, by omega⟩ ⟨T.val % 4352, by omega⟩ j)) (fun k => x1 (ix1 k)) (fun k e => W (ix2 k e))
    (fun k e => x2 (ix2 k e)) hW ⟨e.val / 128, by omega⟩)
  rw [eh, funext (rms_lanes _ _), turned_eq, scaled_lanes]
  rfl

include hp hC hS in
/-- The keys too. -/
theorem keys_eq (g : Cert.Kernel5Ideal.S1x128.Idx → EReal) (W : Cert.Kernel5Ideal.S128x1024.Idx → EReal) (q : Cert.Kernel5Ideal.S1x128.Idx → EReal)
    (hg : ∀ k : Fin 128, g (ix2 0 k) = x3 (ix1 k))
    (hW : ∀ (k : Fin 128) (e : Fin 1024), W (ix2 k e) = if h : e.val % 128 < 64 then x4 (ix2 k ⟨e.val / 128 * 128 + e.val % 128, by omega⟩) else 0)
    (hq : ∀ k : Fin 128, q (ix2 0 k) = lanes (fun n => x6 (ix1 n)) k) (T : Fin 34816) (e : Fin 1024) :
    keysAt P g W q C S (ix2 T e) = Cert.Reference5Ideal.Read.val_main_v179 (F := Ideal) x0 x3 x4 x6 x7 x8 (ix2 T e) := by
  refine Eq.trans ?_ (Ref.outK_at x0 x3 x4 x6 x7 x8 T e).symm
  show headK (projKV (fun j => P (ix2 T ⟨5120 + j.val, by omega⟩)) (fun k => g (ix2 0 k)) (fun k e => W (ix2 k e)))
    (fun n => P (ix2 T ⟨5120 + (⟨384 + n.val, by omega⟩ : Fin 512).val, by omega⟩)) (fun n => q (ix2 0 n))
    (fun n => C (ix2 ⟨T.val % 4352, by omega⟩ n)) (fun n => S (ix2 ⟨T.val % 4352, by omega⟩ n)) e = _
  rw [funext (fun n : Fin 128 => hp T ⟨384 + n.val, by omega⟩), funext (hp T), funext hg, funext hq, funext (hC ⟨T.val % 4352, by omega⟩), funext (hS ⟨T.val % 4352, by omega⟩)]
  unfold headK
  have eh := funext (projK_place (fun j => x0 (ix3 ⟨T.val / 4352, by omega⟩ ⟨T.val % 4352, by omega⟩ j)) (fun k => x3 (ix1 k)) (fun k e => W (ix2 k e))
    (fun k e => x4 (ix2 k e)) hW ⟨e.val / 128, by omega⟩)
  rw [eh, funext (rms_lanes _ _), turned_eq]
  rfl

include hp in
/-- The values too. -/
theorem values_eq (g : Cert.Kernel5Ideal.S1x128.Idx → EReal) (W : Cert.Kernel5Ideal.S128x1024.Idx → EReal)
    (hg : ∀ k : Fin 128, g (ix2 0 k) = x3 (ix1 k))
    (hW : ∀ (k : Fin 128) (e : Fin 1024), W (ix2 k e) = if h : e.val % 128 < 64 then x4 (ix2 k ⟨e.val / 128 * 128 + (64 + e.val % 128), by omega⟩) else 0)
    (T : Fin 34816) (e : Fin 1024) :
    valuesAt P g W (ix2 T e) = Cert.Reference5Ideal.Read.val_main_v181 (F := Ideal) x0 x3 x4 (ix2 T e) := by
  refine Eq.trans ?_ (Ref.outV_at x0 x3 x4 T e).symm
  show headV (projKV (fun j => P (ix2 T ⟨5120 + j.val, by omega⟩)) (fun k => g (ix2 0 k)) (fun k e => W (ix2 k e))) e = _
  rw [funext (hp T), funext hg]
  unfold headV
  by_cases h : e.val % 128 < 64
  · refine Eq.trans ?_ (dif_pos h).symm
    rw [if_neg (show ¬ e.val % 128 = 64 by omega), add_zero]
    exact projKV_place _ _ _ e _ fun k => (hW k e).trans (dif_pos h)
  · refine Eq.trans ?_ (dif_neg h).symm
    rw [projKV_zero _ _ _ e fun k => (hW k e).trans (dif_neg h), zero_add]

end Arrays

open Cert.Kernel5Ideal Cert.Kernel5Ideal.Gen

variable (m : (ℓ : Loc nD τ sig) → Buf (Elt Ideal) ℓ)

/-- The launch's queries are the reference's of its arguments. -/
theorem result_q (c : Dev nD) : (dats m 0 c).arrAt 10 cfg0.N
    = Cert.Reference5Ideal.Read.val_main_v177 (F := Ideal) (m (c, Proc.tc.devRef main_arg0)) (m (c, Proc.tc.devRef main_arg1)) (m (c, Proc.tc.devRef main_arg2))
      (m (c, Proc.tc.devRef main_arg5)) (m (c, Proc.tc.devRef main_arg7)) (m (c, Proc.tc.devRef main_arg8)) := by
  rw [arr10]
  funext i
  obtain ⟨T, e, rfl⟩ : ∃ (T : Fin 34816) (e : Fin 1024), i = ix2 T e := ⟨i 0, i 1, eq_ix2 i⟩
  exact queries_eq _ _ _ _ _ _ _ _ _ (p_flat m c) (cos_flat m c) (sin_flat m c) _ _ _ (qng_flat m c) (wuq_flat m c) (qg_flat m c) T e

/-- The launch's keys. -/
theorem result_k (c : Dev nD) : (dats m 0 c).arrAt 11 cfg0.N
    = Cert.Reference5Ideal.Read.val_main_v179 (F := Ideal) (m (c, Proc.tc.devRef main_arg0)) (m (c, Proc.tc.devRef main_arg3)) (m (c, Proc.tc.devRef main_arg4))
      (m (c, Proc.tc.devRef main_arg6)) (m (c, Proc.tc.devRef main_arg7)) (m (c, Proc.tc.devRef main_arg8)) := by
  rw [arr11]
  funext i
  obtain ⟨T, e, rfl⟩ : ∃ (T : Fin 34816) (e : Fin 1024), i = ix2 T e := ⟨i 0, i 1, eq_ix2 i⟩
  exact keys_eq _ _ _ _ _ _ _ _ _ (p_flat m c) (cos_flat m c) (sin_flat m c) _ _ _ (kvg_flat m c) (wuk_flat m c) (kg_flat m c) T e

/-- The launch's values. -/
theorem result_v (c : Dev nD) : (dats m 0 c).arrAt 12 cfg0.N
    = Cert.Reference5Ideal.Read.val_main_v181 (F := Ideal) (m (c, Proc.tc.devRef main_arg0)) (m (c, Proc.tc.devRef main_arg3)) (m (c, Proc.tc.devRef main_arg4)) := by
  rw [arr12]
  funext i
  obtain ⟨T, e, rfl⟩ : ∃ (T : Fin 34816) (e : Fin 1024), i = ix2 T e := ⟨i 0, i 1, eq_ix2 i⟩
  exact values_eq _ _ _ _ (p_flat m c) _ _ (kvg_flat m c) (wuv_flat m c) T e

end Cert.Mla

end
-- ==== Proof.lean ====
/-
  The certificate: the frames of the attention launch, of the input projection, of the experts, of the merge, of the heads'
  preparation and of their references, and that at the ideal instance each launch computes its reference. The claims are named in the generated definitions.
-/
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal.Value
public import proofs.«01_k».proof.Proof.Gen.Kernel3.Skeleton
public import proofs.«01_k».proof.Proof.Gen.Kernel3.Launch
public import proofs.«01_k».proof.Proof.Gen.Kernel3Ideal.Skeleton
public import proofs.«01_k».proof.Proof.Gen.Kernel3Ideal.Launch
public import proofs.«01_k».proof.Proof.Gen.Reference3Ideal.Run
public import proofs.«01_k».proof.Proof.Gen.Reference3Ideal.Read
public import proofs.«01_k».proof.Proof.Gen.Reference2Ideal.Run
public import proofs.«01_k».proof.Proof.Gen.Reference2Ideal.Read
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Pre_steady
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import Idealize.ShloMosaic.Adequacy
public import Idealize.ShloMosaic.Init
public import Idealize.ShloMosaic.Lib.Quiescent
public import proofs.«01_k».proof.Proof.Equation
public import proofs.«01_k».proof.Proof.Finite
public import proofs.«01_k».proof.Proof.InEquation
public import proofs.«01_k».proof.Proof.Gen.Pre_tables
public import proofs.«01_k».proof.Proof.ExPre
public import proofs.«01_k».proof.Proof.ExEquation
public import proofs.«01_k».proof.Proof.ExTables
public import proofs.«01_k».proof.Proof.ExBitsTables
public import proofs.«01_k».proof.Proof.MgSteady
public import proofs.«01_k».proof.Proof.MgEquation
public import proofs.«01_k».proof.Proof.MlEquation

@[expose] public section

noncomputable section

namespace Cert.Proof.AttnClaims

open Idealize.ShloMosaic Idealize.ShloMosaic.TcCoe Idealize.SL.Sem

/-- The launch ends quiescent, its arguments unchanged. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- So does it under the precondition. -/
theorem frame_pi_pre : Cert.quiescent_KernelIdeal_pre_finite := fun m ρ _ => Cert.KernelIdeal.Gen.frame m ρ

/-- The reference ends with its arguments unchanged; it has no semaphores. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does it under the precondition. -/
theorem frame_ri_pre : Cert.quiescent_ReferenceIdeal_pre_finite := fun m ρ _ => frame_ri m ρ trivial

/-- From memories agreeing on finite queries and keys and on the values, both end with one result. -/
theorem algebraic : Cert.algebraic_KernelIdeal_ReferenceIdeal_pre_finite := by
  intro m ρ m' ρ' hpre hagree
  refine ⟨fun c => (Cert.KernelIdeal.Gen.dats m 0 c).arrAt 3 Cert.KernelIdeal.cfg0.N, Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  obtain ⟨hq, hk⟩ := Cert.Attn.reals _ _ _ (congrFun (hpre c) ix0)
  obtain ⟨a0, a1, a2⟩ := hagree c
  rw [Cert.ReferenceIdeal.Read.val_main_v41_eq, a0, a1, a2]
  exact (Cert.Attn.result_eq m c hq hk).symm

end Cert.Proof.AttnClaims

namespace Cert.Proof.InClaims

open Idealize.ShloMosaic Idealize.ShloMosaic.TcCoe Idealize.SL.Sem

/-- The input projection ends quiescent, its arguments unchanged. -/
theorem frame_p : Cert.quiescent_Kernel2 := fun m ρ _ => Cert.Kernel2.Gen.frame m ρ

/-- So does its idealization. -/
theorem frame_pi : Cert.quiescent_Kernel2Ideal := fun m ρ _ => Cert.Kernel2Ideal.Gen.frame m ρ

/-- Its reference ends with its arguments unchanged; it has no semaphores. -/
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- From memories agreeing on the arguments, both end with one result. -/
theorem algebraic : Cert.algebraic_Kernel2Ideal_Reference2Ideal := by
  intro m ρ m' ρ' _ hagree
  refine ⟨fun c => (Cert.Kernel2Ideal.Gen.dats m 0 c).arrAt 4 Cert.Kernel2Ideal.cfg0.N, Cert.Kernel2Ideal.Value.run_blocks m ρ, ?_⟩
  refine (θ_run Cert.Reference2Ideal.defs _ _).mono (fun _ h c => ⟨(h c).1.trans ?_, (h c).2⟩)
    (Cert.Reference2Ideal.Value.run (F := Ideal) m' ρ')
  obtain ⟨a0, a1, a2, a3⟩ := hagree c
  rw [Cert.Reference2Ideal.Read.val_main_v58_eq, a0, a1, a2, a3]
  exact (Cert.InProj.result_eq m c).symm

end Cert.Proof.InClaims

namespace Cert.Proof.ExClaims

open Idealize.ShloMosaic Idealize.ShloMosaic.TcCoe Idealize.SL.Sem

/-- Under the precondition the launch's tables are in range. -/
theorem good_p {m : (ℓ : Loc Cert.Kernel3.nD Cert.Kernel3.τ Cert.Kernel3.sig) → Buf (Elt Bits) ℓ} (hpre : Cert.Pre_Kernel3 m) :
    Cert.Kernel3.Gen.Good m :=
  have h := Cert.Experts.tables_read _ _ _ _ _ _ _ (congrFun (hpre 0) ix0)
  ⟨h.1, fun t => h.2 (ix1 t)⟩

/-- And its idealization's. -/
theorem good_pi {m : (ℓ : Loc Cert.Kernel3Ideal.nD Cert.Kernel3Ideal.τ Cert.Kernel3Ideal.sig) → Buf (Elt Ideal) ℓ}
    (hpre : Cert.Pre_Kernel3Ideal m) : Cert.Kernel3Ideal.Gen.Good m :=
  have h := Cert.Experts.tables_read _ _ _ _ _ _ _ (congrFun (hpre 0) ix0)
  ⟨h.1, fun t => h.2 (ix1 t)⟩

/-- The experts' launch ends quiescent, its arguments unchanged. -/
theorem frame_p : Cert.quiescent_Kernel3 := fun m ρ hpre =>
  (θ_run Cert.Kernel3.defs _ _).mono (fun _ h => ⟨fun c => (h.1 c).2, h.2⟩) (Cert.Kernel3.Gen.run_main m ρ (good_p hpre).ok)

/-- So does its idealization. -/
theorem frame_pi : Cert.quiescent_Kernel3Ideal := fun m ρ hpre =>
  (θ_run Cert.Kernel3Ideal.defs _ _).mono (fun _ h => ⟨fun c => (h.1 c).2, h.2⟩)
    (Cert.Kernel3Ideal.Gen.run_main m ρ (good_pi hpre).ok)

/-- Its reference ends with its arguments unchanged; it has no semaphores. -/
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- So does it under the precondition. -/
theorem frame_ri_pre : Cert.quiescent_Reference3Ideal_pre_tables := fun m ρ _ => frame_ri m ρ trivial

/-- From memories agreeing on the arguments, tables in range, both end with one result. -/
theorem algebraic : Cert.algebraic_Kernel3Ideal_Reference3Ideal := by
  intro m ρ m' ρ' hpre hagree
  have hG := good_pi hpre
  refine ⟨fun c => (Cert.Kernel3Ideal.Gen.dats m hG.ok 0 c).arrAt 5 (Cert.Kernel3Ideal.Gen.cfgM m hG.ok).N,
    (θ_run Cert.Kernel3Ideal.defs _ _).mono (fun _ h c => h.1 c) (Cert.Kernel3Ideal.Gen.run_main m ρ hG.ok), ?_⟩
  refine (θ_run Cert.Reference3Ideal.defs _ _).mono (fun _ h c => ⟨(h c).1.trans ?_, (h c).2⟩)
    (Cert.Reference3Ideal.Value.run (F := Ideal) m' ρ')
  obtain ⟨a0, a1, a2, a3, a4, a5, a6⟩ := hagree c
  rw [Cert.Reference3Ideal.Read.val_main_v44_eq, a0, a1, a2, a3, a4, a5, a6]
  exact (Cert.Experts.result_eq m hG.ok hG c).symm

end Cert.Proof.ExClaims

namespace Cert.Proof.MergeClaims

open Idealize.ShloMosaic Idealize.ShloMosaic.TcCoe Idealize.SL.Sem

/-- The merge ends quiescent, its arguments unchanged. -/
theorem frame_p : Cert.quiescent_Kernel4 := fun m ρ _ => Cert.Kernel4.Gen.frame m ρ

/-- So does its idealization. -/
theorem frame_pi : Cert.quiescent_Kernel4Ideal := fun m ρ _ => Cert.Kernel4Ideal.Gen.frame m ρ

/-- So does it under the precondition. -/
theorem frame_pi_pre : Cert.quiescent_Kernel4Ideal_pre_steady := fun m ρ _ => Cert.Kernel4Ideal.Gen.frame m ρ

/-- Its reference ends with its arguments unchanged; it has no semaphores. -/
theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- So does it under the precondition. -/
theorem frame_ri_pre : Cert.quiescent_Reference4Ideal_pre_steady := fun m ρ _ => frame_ri m ρ trivial

/-- From memories agreeing on the arguments, the recurrence's rows finite, both end with one result. -/
theorem algebraic : Cert.algebraic_Kernel4Ideal_Reference4Ideal_pre_steady := by
  intro m ρ m' ρ' hpre hagree
  refine ⟨fun c => (Cert.Kernel4Ideal.Gen.dats m 0 c).arrAt 17 Cert.Kernel4Ideal.cfg0.N, Cert.Kernel4Ideal.Value.run_blocks m ρ, ?_⟩
  refine (θ_run Cert.Reference4Ideal.defs _ _).mono (fun _ h c => ⟨(h c).1.trans ?_, (h c).2⟩)
    (Cert.Reference4Ideal.Value.run (F := Ideal) m' ρ')
  obtain ⟨hf, hb⟩ := Cert.Merge.reals _ _ _ _ _ _ _ _ _ _ _ _ _ _ _ _ (congrFun (hpre c) ix0)
  obtain ⟨a0, a1, a2, a3, a4, a5, a6, a7, a8, a9, a10, a11, a12, a13, a14, a15⟩ := hagree c
  rw [Cert.Reference4Ideal.Read.val_main_v66_eq, a0, a1, a2, a3, a4, a5, a6, a7, a8, a9, a10, a11, a12, a13, a14, a15]
  exact (Cert.Merge.result_eq m c hf hb).symm

end Cert.Proof.MergeClaims

namespace Cert.Proof.HeadClaims

open Idealize.ShloMosaic Idealize.ShloMosaic.TcCoe Idealize.SL.Sem

/-- The heads' preparation ends quiescent, its arguments unchanged. -/
theorem frame_p : Cert.quiescent_Kernel5 := fun m ρ _ => Cert.Kernel5.Gen.frame m ρ

/-- So does its idealization. -/
theorem frame_pi : Cert.quiescent_Kernel5Ideal := fun m ρ _ => Cert.Kernel5Ideal.Gen.frame m ρ

/-- Its reference ends with its arguments unchanged; it has no semaphores. -/
theorem frame_ri : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

/-- The two named constants are the values they are named for. -/
theorem preserves : Cert.preserves_Kernel5_Kernel5Ideal :=
  ⟨IdealRules.named_const.statement _ _ _ _ _ rfl, IdealRules.named_const.statement _ _ _ _ _ rfl⟩

/-- From memories agreeing on the arguments, both end with the same queries, keys and values. -/
theorem algebraic : Cert.algebraic_Kernel5Ideal_Reference5Ideal := by
  intro m ρ m' ρ' _ hagree
  refine ⟨fun c => (Cert.Kernel5Ideal.Gen.dats m 0 c).arrAt 10 Cert.Kernel5Ideal.cfg0.N, fun c => (Cert.Kernel5Ideal.Gen.dats m 0 c).arrAt 11 Cert.Kernel5Ideal.cfg0.N,
    fun c => (Cert.Kernel5Ideal.Gen.dats m 0 c).arrAt 12 Cert.Kernel5Ideal.cfg0.N, Cert.Kernel5Ideal.Value.run_blocks m ρ, ?_⟩
  refine (θ_run Cert.Reference5Ideal.defs _ _).mono (fun _ h c => ⟨(h c).1.trans ?_, (h c).2.1.trans ?_, (h c).2.2.1.trans ?_, (h c).2.2.2⟩)
    (Cert.Reference5Ideal.Value.run (F := Ideal) m' ρ')
  · obtain ⟨a0, a1, a2, a3, a4, a5, a6, a7, a8⟩ := hagree c
    refine (Cert.Reference5Ideal.Read.val_main_v177_eq (F := Ideal) (StableHlo.launchContents m' c)).trans ?_
    refine Eq.trans ?_ (Cert.Mla.result_q m c).symm
    rw [← a0, ← a1, ← a2, ← a5, ← a7, ← a8]
  · obtain ⟨a0, a1, a2, a3, a4, a5, a6, a7, a8⟩ := hagree c
    refine (Cert.Reference5Ideal.Read.val_main_v179_eq (F := Ideal) (StableHlo.launchContents m' c)).trans ?_
    refine Eq.trans ?_ (Cert.Mla.result_k m c).symm
    rw [← a0, ← a3, ← a4, ← a6, ← a7, ← a8]
  · obtain ⟨a0, a1, a2, a3, a4, a5, a6, a7, a8⟩ := hagree c
    refine (Cert.Reference5Ideal.Read.val_main_v181_eq (F := Ideal) (StableHlo.launchContents m' c)).trans ?_
    refine Eq.trans ?_ (Cert.Mla.result_v m c).symm
    rw [← a0, ← a3, ← a4]

end Cert.Proof.HeadClaims

namespace Cert.Proof

/-- Every claim of the certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite.Gen.facts, Cert.Pre_tables.Gen.facts, Cert.Pre_steady.Gen.facts,
    AttnClaims.frame_p, AttnClaims.frame_pi, AttnClaims.frame_pi_pre, AttnClaims.frame_ri, AttnClaims.frame_ri_pre,
    InClaims.frame_p, InClaims.frame_pi, InClaims.frame_ri,
    ExClaims.frame_p, ExClaims.frame_pi, ExClaims.frame_ri, ExClaims.frame_ri_pre,
    MergeClaims.frame_p, MergeClaims.frame_pi, MergeClaims.frame_pi_pre, MergeClaims.frame_ri, MergeClaims.frame_ri_pre,
    HeadClaims.frame_p, HeadClaims.frame_pi, HeadClaims.frame_ri,
    trivial, AttnClaims.algebraic, trivial, InClaims.algebraic, trivial, ExClaims.algebraic,
    trivial, MergeClaims.algebraic, HeadClaims.preserves, HeadClaims.algebraic⟩

end Cert.Proof

end
